-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_encode_inputs [hPre_encode_inputs : Cert.Pre_encode_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_encode_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_encode_inputs [hPre_encode_inputs : Cert.Pre_encode_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_encode_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sink_inputs [hPre_sink_inputs : Cert.Pre_sink_inputs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sink_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sink_inputs [hPre_sink_inputs : Cert.Pre_sink_inputs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sink_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_encode_inputs [hKernel2Ideal : Cert.Kernel2Ideal.Facts] [hPre_encode_inputs : Cert.Pre_encode_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_encode_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_encode_inputs [hReference2Ideal : Cert.Reference2Ideal.Facts] [hPre_encode_inputs : Cert.Pre_encode_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_encode_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_sink_inputs [hKernel3Ideal : Cert.Kernel3Ideal.Facts] [hPre_sink_inputs : Cert.Pre_sink_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sink_inputs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_sink_inputs [hReference3Ideal : Cert.Reference3Ideal.Facts] [hPre_sink_inputs : Cert.Pre_sink_inputs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sink_inputs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_encode_inputs [hKernel2Ideal : Cert.Kernel2Ideal.Facts] [hReference2Ideal : Cert.Reference2Ideal.Facts] [hPre_encode_inputs : Cert.Pre_encode_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_encode_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v262) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_sink_inputs [hKernel3Ideal : Cert.Kernel3Ideal.Facts] [hReference3Ideal : Cert.Reference3Ideal.Facts] [hPre_sink_inputs : Cert.Pre_sink_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sink_inputs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_encode_inputs : Cert.Pre_encode_inputs.Facts) (hPre_sink_inputs : Cert.Pre_sink_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_encode_inputs (hKernel2Ideal := hKernel2Ideal) (hPre_encode_inputs := hPre_encode_inputs)
    ∧ quiescent_Reference2Ideal (hReference2Ideal := hReference2Ideal)
    ∧ quiescent_Reference2Ideal_pre_encode_inputs (hReference2Ideal := hReference2Ideal) (hPre_encode_inputs := hPre_encode_inputs)
    ∧ quiescent_Kernel3 (hKernel3 := hKernel3)
    ∧ quiescent_Kernel3Ideal (hKernel3Ideal := hKernel3Ideal)
    ∧ quiescent_Kernel3Ideal_pre_sink_inputs (hKernel3Ideal := hKernel3Ideal) (hPre_sink_inputs := hPre_sink_inputs)
    ∧ quiescent_Reference3Ideal (hReference3Ideal := hReference3Ideal)
    ∧ quiescent_Reference3Ideal_pre_sink_inputs (hReference3Ideal := hReference3Ideal) (hPre_sink_inputs := hPre_sink_inputs)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_encode_inputs (hKernel2Ideal := hKernel2Ideal) (hReference2Ideal := hReference2Ideal) (hPre_encode_inputs := hPre_encode_inputs)
    ∧ preserves_Kernel3_Kernel3Ideal
    ∧ algebraic_Kernel3Ideal_Reference3Ideal_pre_sink_inputs (hKernel3Ideal := hKernel3Ideal) (hReference3Ideal := hReference3Ideal) (hPre_sink_inputs := hPre_sink_inputs)
-- ==== Pre_encode_inputs.lean ====
abbrev S2x2048x512 : Shape := ⟨3, ![2, 2048, 512]⟩
abbrev S2x2048x2048 : Shape := ⟨3, ![2, 2048, 2048]⟩
abbrev S2x2048x2 : Shape := ⟨3, ![2, 2048, 2]⟩
abbrev S2x512x128 : Shape := ⟨3, ![2, 512, 128]⟩
abbrev S2x128x512 : Shape := ⟨3, ![2, 128, 512]⟩
abbrev S128x128 : Shape := ⟨2, ![128, 128]⟩
abbrev S1 : Shape := ⟨1, ![1]⟩
abbrev S2048 : Shape := ⟨1, ![2048]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x512x128 : S_.BroadcastsInDim S2x512x128 (![] : Fin 0 → Fin S2x512x128.rank)
  reducesTo_S2x512x128_S_d0_1_2 : S2x512x128.ReducesTo [0, 1, 2] S_
  bcast_S_S2x128x512 : S_.BroadcastsInDim S2x128x512 (![] : Fin 0 → Fin S2x128x512.rank)
  reducesTo_S2x128x512_S_d0_1_2 : S2x128x512.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg8 : IVec S2048 32) (main_v3 : IVec S_ 1) (main_v7 : IVec S_ 1) (main_v11 : IVec S_ 1) (main_v15 : IVec S_ 1) : IVec S_ 1 :=
  let main_c_6 : IVec S_ 32 := constantI S_ 32 0#32
  let main_v16 : IVec S2048 32 := broadcastInDim S2048 ![] bcast_S_S2048 main_c_6
  let main_v17 : IVec S2048 1 := cmpi .sge main_arg8 main_v16
  let main_c_7 : IVec S_ 32 := constantI S_ 32 2048#32
  let main_v18 : IVec S2048 32 := broadcastInDim S2048 ![] bcast_S_S2048 main_c_7
  let main_v19 : IVec S2048 1 := cmpi .slt main_arg8 main_v18
  let main_v20 : IVec S2048 1 := andi main_v17 main_v19
  let main_c_8 : IVec S_ 1 := constantI S_ 1 1#1
  let main_v21 : IVec S_ 1 := (fun x v => Host.reduce IntOp.andi x v reducesTo_S2048_S_d0 h_S_) main_v20 main_c_8
  let main_v22 : IVec S_ 1 := andi main_v21 main_v3
  let main_v23 : IVec S_ 1 := andi main_v22 main_v7
  let main_v24 : IVec S_ 1 := andi main_v23 main_v11
  let main_v25 : IVec S_ 1 := andi main_v24 main_v15
  main_v25

def fn {F : FTy → Type} [FloatOps F] (main_arg0 : FVec F S2x2048x512 .f32) (main_arg1 : FVec F S2x2048x2048 .f32) (main_arg2 : FVec F S2x2048x2048 .f32) (main_arg3 : FVec F S2x2048x2 .f32) (main_arg4 : FVec F S2x512x128 .f32) (main_arg5 : FVec F S2x128x512 .f32) (main_arg6 : FVec F S128x128 .f32) (main_arg7 : FVec F S1 .f32) (main_arg8 : IVec S2048 32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : FVec F S2x512x128 .f32 := Host.absf main_arg4
  let main_cst_2 : FVec F S_ .f32 := constant S_ .f32 0x7F800000#32
  let main_v9 : FVec F S2x512x128 .f32 := broadcastInDim S2x512x128 ![] bcast_S_S2x512x128 main_cst_2
  let main_v10 : IVec S2x512x128 1 := cmpf .olt main_v8 main_v9
  let main_c_3 : IVec S_ 1 := constantI S_ 1 1#1
  let main_v11 : IVec S_ 1 := (fun x v => Host.reduce IntOp.andi x v reducesTo_S2x512x128_S_d0_1_2 h_S_) main_v10 main_c_3
  let main_v12 : FVec F S2x128x512 .f32 := Host.absf main_arg5
  let main_cst_4 : FVec F S_ .f32 := constant S_ .f32 0x7F800000#32
  let main_v13 : FVec F S2x128x512 .f32 := broadcastInDim S2x128x512 ![] bcast_S_S2x128x512 main_cst_4
  let main_v14 : IVec S2x128x512 1 := cmpf .olt main_v12 main_v13
  let main_c_5 : IVec S_ 1 := constantI S_ 1 1#1
  let main_v15 : IVec S_ 1 := (fun x v => Host.reduce IntOp.andi x v reducesTo_S2x128x512_S_d0_1_2 h_S_) main_v14 main_c_5
  fn_part1 (F := F) main_arg8 main_v3 main_v7 main_v11 main_v15
-- ==== Pre_sink_inputs.lean ====
abbrev S2x2048x128 : Shape := ⟨3, ![2, 2048, 128]⟩
abbrev S2x1x2048 : Shape := ⟨3, ![2, 1, 2048]⟩
abbrev S1x128x128 : Shape := ⟨3, ![1, 128, 128]⟩
abbrev S_ : Shape := ⟨0, ![]⟩

class Facts : Prop where
  bcast_S_S2x2048x128 : S_.BroadcastsInDim S2x2048x128 (![] : Fin 0 → Fin S2x2048x128.rank)
  reducesTo_S2x2048x128_S_d0_1_2 : S2x2048x128.ReducesTo [0, 1, 2] S_
  h_S_ : 0 < S_.numel
  bcast_S_S1x128x128 : S_.BroadcastsInDim S1x128x128 (![] : Fin 0 → Fin S1x128x128.rank)
  reducesTo_S1x128x128_S_d0_1_2 : S1x128x128.ReducesTo [0, 1, 2] S_

variable [Facts]

def fn {F : FTy → Type} [FloatOps F] (main_arg0 : FVec F S2x2048x128 .f32) (main_arg1 : FVec F S2x1x2048 .f32) (main_arg2 : FVec F S1x128x128 .f32) : IVec S_ 1 :=
  let main_v0 : FVec F S2x2048x128 .f32 := Host.absf main_arg0
  let main_cst : FVec F S_ .f32 := constant S_ .f32 0x7F800000#32
  let main_v1 : FVec F S2x2048x128 .f32 := broadcastInDim S2x2048x128 ![] bcast_S_S2x2048x128 main_cst
  let main_v2 : IVec S2x2048x128 1 := cmpf .olt main_v0 main_v1
  let main_c : IVec S_ 1 := constantI S_ 1 1#1
  let main_v3 : IVec S_ 1 := (fun x v => Host.reduce IntOp.andi x v reducesTo_S2x2048x128_S_d0_1_2 h_S_) main_v2 main_c
  let main_v4 : FVec F S1x128x128 .f32 := Host.absf main_arg2
  let main_cst_0 : FVec F S_ .f32 := constant S_ .f32 0x7F800000#32
  let main_v5 : FVec F S1x128x128 .f32 := broadcastInDim S1x128x128 ![] bcast_S_S1x128x128 main_cst_0
  let main_v6 : IVec S1x128x128 1 := cmpf .olt main_v4 main_v5
  let main_c_1 : IVec S_ 1 := constantI S_ 1 1#1
  let main_v7 : IVec S_ 1 := (fun x v => Host.reduce IntOp.andi x v reducesTo_S1x128x128_S_d0_1_2 h_S_) main_v6 main_c_1
  let main_v8 : IVec S_ 1 := andi main_v3 main_v7
  main_v8
-- ==== Kernel.lean ====
abbrev S2x2048x512 : Shape := ⟨3, ![2, 2048, 512]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩
abbrev S1x2048x2048 : Shape := ⟨3, ![1, 2048, 2048]⟩
abbrev S512x2048 : Shape := ⟨2, ![512, 2048]⟩
abbrev S1x1 : Shape := ⟨2, ![1, 1]⟩
abbrev S512x512 : Shape := ⟨2, ![512, 512]⟩
abbrev S1x512x2048 : Shape := ⟨3, ![1, 512, 2048]⟩
abbrev S1 : Shape := ⟨1, ![1]⟩
abbrev S1x1x1 : Shape := ⟨3, ![1, 1, 1]⟩
abbrev S1x512x512 : Shape := ⟨3, ![1, 512, 512]⟩
abbrev S_ : Shape := ⟨0, ![]⟩
abbrev S2 : Shape := ⟨1, ![2]⟩

abbrev nBuf : Space → Nat
  | .hbm => 35
  | .vmem => 26
  | .smem => 4
  | _ => 0

abbrev bufTy : (tb : Table) → Fin (tcTables nBuf tb) → BufTy
  | .hbm, ⟨0, _⟩ => ⟨S2x2048x512, .f32⟩
  | .hbm, ⟨1, _⟩ => ⟨S2x2048x2048, .f32⟩
  | .hbm, ⟨2, _⟩ => ⟨S2048x2048, .bf16⟩
  | .hbm, ⟨3, _⟩ => ⟨S2048x2048, .bf16⟩
  | .hbm, ⟨4, _⟩ => ⟨S1x2048x512, .f32⟩
  | .hbm, ⟨5, _⟩ => ⟨S2048x512, .f32⟩
  | .hbm, ⟨6, _⟩ => ⟨S1x2048x512, .f32⟩
  | .hbm, ⟨7, _⟩ => ⟨S2048x512, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x512, .bf16⟩
  | .hbm, ⟨13, _⟩ => ⟨S2048x512, .bf16⟩
  | .hbm, ⟨14, _⟩ => ⟨S2048x2048, .bf16⟩
  | .hbm, ⟨15, _⟩ => ⟨S1x1, .f32⟩
  | .hbm, ⟨16, _⟩ => ⟨S1x1, .f32⟩
  | .hbm, ⟨17, _⟩ => ⟨S2048x2048, .bf16⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S2, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S2048x512, .bf16⟩
  | .local _ .vmem, ⟨11, _⟩ => ⟨S512x512, .f32⟩
  | .local _ .vmem, ⟨12, _⟩ => ⟨S512x512, .f32⟩
  | .local _ .vmem, ⟨13, _⟩ => ⟨S512x2048, .f32⟩
  | .local _ .vmem, ⟨14, _⟩ => ⟨S512x2048, .f32⟩
  | .local _ .vmem, ⟨15, _⟩ => ⟨S2048x2048, .bf16⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S2048x512, .bf16⟩
  | .local _ .vmem, ⟨20, _⟩ => ⟨S2048x2048, .bf16⟩
  | .local _ .vmem, ⟨21, _⟩ => ⟨S512x2048, .f32⟩
  | .local _ .vmem, ⟨22, _⟩ => ⟨S512x2048, .f32⟩
  | .local _ .vmem, ⟨23, _⟩ => ⟨S2048x512, .bf16⟩
  | .local _ .vmem, ⟨24, _⟩ => ⟨S512x512, .f32⟩
  | .local _ .vmem, ⟨25, _⟩ => ⟨S512x512, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc1_stg5_0 : Ref sig .tc := ⟨.smem, 0, rfl⟩
abbrev cc1_stg6_0 : Ref sig .tc := ⟨.smem, 1, rfl⟩
abbrev cc3_stg5_0 : Ref sig .tc := ⟨.smem, 2, rfl⟩
abbrev cc3_stg6_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem6_0 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2048x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .smem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .smem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== ReferenceIdeal.lean ====
abbrev S2x2048x512 : Shape := ⟨3, ![2, 2048, 512]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩
abbrev S1x2048x2048 : Shape := ⟨3, ![1, 2048, 2048]⟩
abbrev S_ : Shape := ⟨0, ![]⟩
abbrev S1 : Shape := ⟨1, ![1]⟩
abbrev S2 : Shape := ⟨1, ![2]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S1x2048x2048, .f32⟩
  | .hbm, ⟨12, _⟩ => ⟨S2048x2048, .f32⟩
  | .hbm, ⟨13, _⟩ => ⟨S1x2048x2048, .f32⟩
  | .hbm, ⟨14, _⟩ => ⟨S2048x2048, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S2, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel2.lean ====
abbrev S2x2048x512 : Shape := ⟨3, ![2, 2048, 512]⟩
abbrev S2x2048x2048 : Shape := ⟨3, ![2, 2048, 2048]⟩
abbrev S2x2048x2 : Shape := ⟨3, ![2, 2048, 2]⟩
abbrev S2x512x128 : Shape := ⟨3, ![2, 512, 128]⟩
abbrev S2x128x512 : Shape := ⟨3, ![2, 128, 512]⟩
abbrev S128x128 : Shape := ⟨2, ![128, 128]⟩
abbrev S1 : Shape := ⟨1, ![1]⟩
abbrev S2048 : Shape := ⟨1, ![2048]⟩
abbrev S1x1 : Shape := ⟨2, ![1, 1]⟩
abbrev S2x2048x128 : Shape := ⟨3, ![2, 2048, 128]⟩
abbrev S1x2048x512 : Shape := ⟨3, ![1, 2048, 512]⟩
abbrev S1x512x128 : Shape := ⟨3, ![1, 512, 128]⟩
abbrev S1x2048x128 : Shape := ⟨3, ![1, 2048, 128]⟩
abbrev S2048x512 : Shape := ⟨2, ![2048, 512]⟩
abbrev S512x128 : Shape := ⟨2, ![512, 128]⟩
abbrev S2048x128 : Shape := ⟨2, ![2048, 128]⟩
abbrev S_ : Shape := ⟨0, ![]⟩
abbrev S2048x1 : Shape := ⟨2, ![2048, 1]⟩
abbrev S2x1x2048 : Shape := ⟨3, ![2, 1, 2048]⟩
abbrev S1x512x2048 : Shape := ⟨3, ![1, 512, 2048]⟩
abbrev S1x512x512 : Shape := ⟨3, ![1, 512, 512]⟩
abbrev S1x512x2 : Shape := ⟨3, ![1, 512, 2]⟩
abbrev S1x128x512 : Shape := ⟨3, ![1, 128, 512]⟩
abbrev S1x1x512 : Shape := ⟨3, ![1, 1, 512]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1x512 : Shape := ⟨2, ![1, 512]⟩
abbrev S128x512 : Shape := ⟨2, ![128, 512]⟩
abbrev S512x512 : Shape := ⟨2, ![512, 512]⟩
abbrev S1x1x1 : Shape := ⟨3, ![1, 1, 1]⟩
abbrev S2 : Shape := ⟨1, ![2]⟩

abbrev nBuf : Space → Nat
  | .hbm => 51
  | .vmem => 29
  | .smem => 3
  | _ => 0

abbrev bufTy : (tb : Table) → Fin (tcTables nBuf tb) → BufTy
  | .hbm, ⟨0, _⟩ => ⟨S2x2048x512, .f32⟩
  | .hbm, ⟨1, _⟩ => ⟨S2x2048x2048, .f32⟩
  | .hbm, ⟨2, _⟩ => ⟨S2x2048x2048, .f32⟩
  | .hbm, ⟨3, _⟩ => ⟨S2x2048x2, .f32⟩
  | .hbm, ⟨4, _⟩ => ⟨S2x512x128, .f32⟩
  | .hbm, ⟨5, _⟩ => ⟨S2x128x512, .f32⟩
  | .hbm, ⟨6, _⟩ => ⟨S128x128, .f32⟩
  | .hbm, ⟨7, _⟩ => ⟨S1, .f32⟩
  | .hbm, ⟨8, _⟩ => ⟨S2048, .i32⟩
  | .hbm, ⟨9, _⟩ => ⟨S1x1, .f32⟩
  | .hbm, ⟨10, _⟩ => ⟨S2x2048x128, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1, .i32⟩
  | .hbm, ⟨20, _⟩ => ⟨S_, .i32⟩
  | .hbm, ⟨21, _⟩ => ⟨S2048x1, .i32⟩
  | .hbm, ⟨22, _⟩ => ⟨S2048x1, .i1⟩
  | .hbm, ⟨23, _⟩ => ⟨S1x1, .i32⟩
  | .hbm, ⟨24, _⟩ => ⟨S2048x1, .i32⟩
  | .hbm, ⟨25, _⟩ => ⟨S2048x1, .i1⟩
  | .hbm, ⟨26, _⟩ => ⟨S2048x1, .i1⟩
  | .hbm, ⟨27, _⟩ => ⟨S_, .i1⟩
  | .hbm, ⟨28, _⟩ => ⟨S2048, .i1⟩
  | .hbm, ⟨29, _⟩ => ⟨S2x2048x128, .f32⟩
  | .hbm, ⟨30, _⟩ => ⟨S2x2048x128, .i1⟩
  | .hbm, ⟨31, _⟩ => ⟨S_, .f32⟩
  | .hbm, ⟨32, _⟩ => ⟨S2x2048x128, .f32⟩
  | .hbm, ⟨33, _⟩ => ⟨S2x2048x128, .f32⟩
  | .hbm, ⟨34, _⟩ => ⟨S2x2048x128, .f32⟩
  | .hbm, ⟨35, _⟩ => ⟨S2x1x2048, .f32⟩
  | .hbm, ⟨36, _⟩ => ⟨S1x1, .f32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S2, .f32⟩
  | .local _ .vmem, ⟨0, _⟩ => ⟨S1x2048x512, .f32⟩
  | .local _ .vmem, ⟨1, _⟩ => ⟨S1x2048x512, .f32⟩
  | .local _ .vmem, ⟨2, _⟩ => ⟨S1x512x128, .f32⟩
  | .local _ .vmem, ⟨3, _⟩ => ⟨S1x512x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x512, .f32⟩
  | .local _ .vmem, ⟨11, _⟩ => ⟨S1x512x512, .f32⟩
  | .local _ .vmem, ⟨12, _⟩ => ⟨S1x512x2, .f32⟩
  | .local _ .vmem, ⟨13, _⟩ => ⟨S1x512x2, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x128x512, .f32⟩
  | .local _ .vmem, ⟨19, _⟩ => ⟨S1x128x512, .f32⟩
  | .local _ .vmem, ⟨20, _⟩ => ⟨S128x128, .f32⟩
  | .local _ .vmem, ⟨21, _⟩ => ⟨S1x512x128, .f32⟩
  | .local _ .vmem, ⟨22, _⟩ => ⟨S1x512x128, .f32⟩
  | .local _ .vmem, ⟨23, _⟩ => ⟨S1x1x512, .f32⟩
  | .local _ .vmem, ⟨24, _⟩ => ⟨S1x1x512, .f32⟩
  | .local _ .vmem, ⟨25, _⟩ => ⟨S2048x2048, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3_0 : Ref sig .tc := ⟨.hbm, 34, rfl⟩
abbrev main_v3_1 : Ref sig .tc := ⟨.hbm, 35, rfl⟩
abbrev main_v3_2 : Ref sig .tc := ⟨.hbm, 36, rfl⟩
abbrev main_v3_3 : Ref sig .tc := ⟨.hbm, 37, rfl⟩
abbrev main_v4 : Ref sig .tc := ⟨.hbm, 38, rfl⟩
abbrev main_cst : Ref sig .tc := ⟨.hbm, 39, rfl⟩
abbrev main_cst_0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_cst_2 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc1_stg8_0 : Ref sig .tc := ⟨.smem, 0, rfl⟩
abbrev cc1_stg11_0 : Ref sig .tc := ⟨.smem, 1, rfl⟩
abbrev cc1_stg12_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem12_0 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 4], ![false, false, false]⟩

def k1_cond1 (i : grid1.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k1_off1 (i : grid1.Coords) : Fin 2 → Nat :=
  let arg2 : BitVec 32 := BitVec.ofNat 32 (i 2).val
  let c512_i32 : BitVec 32 := 512#32
  let v0 : BitVec 32 := Scalar.muli arg2 c512_i32
  let v10 : Index := Scalar.indexCast v0
  let c0_4 : Index := 0#32
  ![v10.toNat, 0]
def k1_off2 (i : grid1.Coords) : Fin 2 → Nat :=
  let arg2 : BitVec 32 := BitVec.ofNat 32 (i 2).val
  let c512_i32 : BitVec 32 := 512#32
  let v0 : BitVec 32 := Scalar.muli arg2 c512_i32
  let v30 : Index := Scalar.indexCast v0
  let c0_17 : Index := 0#32
  ![v30.toNat, 0]
def k1_cond2 (i : grid1.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_1 : BitVec 32 := 0#32
  let v6 : BitVec 1 := Scalar.cmpi .ne v5 c0_i32_1
  v6

def k1_off3 (i : grid1.Coords) : Fin 2 → Nat :=
  let arg2 : BitVec 32 := BitVec.ofNat 32 (i 2).val
  let c512_i32 : BitVec 32 := 512#32
  let v0 : BitVec 32 := Scalar.muli arg2 c512_i32
  let v15 : Index := Scalar.indexCast v0
  let c0_7 : Index := 0#32
  ![v15.toNat, 0]
def k1_off4 (i : grid1.Coords) : Fin 2 → Nat :=
  let arg2 : BitVec 32 := BitVec.ofNat 32 (i 2).val
  let c512_i32 : BitVec 32 := 512#32
  let v0 : BitVec 32 := Scalar.muli arg2 c512_i32
  let v50 : Index := Scalar.indexCast v0
  let c0_23 : Index := 0#32
  ![v50.toNat, 0]
def k1_cond3 (i : grid1.Coords) : BitVec 1 :=
  let arg0 : BitVec 32 := BitVec.ofNat 32 (i 0).val
  let c0_i32_2 : BitVec 32 := 0#32
  let v7 : BitVec 1 := Scalar.cmpi .eq arg0 c0_i32_2
  let arg2 : BitVec 32 := BitVec.ofNat 32 (i 2).val
  let c0_i32_3 : BitVec 32 := 0#32
  let v8 : BitVec 1 := Scalar.cmpi .eq arg2 c0_i32_3
  let v9 : BitVec 1 := Scalar.andi v7 v8
  let v10 : BitVec 32 := Scalar.extui v9
  let c0_i32_4 : BitVec 32 := 0#32
  let v11 : BitVec 1 := Scalar.cmpi .ne v10 c0_i32_4
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, v1.toNat, c0_i32_0.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, c0_i32_0.toNat, v1.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1x128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 2 → Memref sig .tc .vmem S1x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 1 → Memref sig .tc .smem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 1 → Memref sig .tc .smem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false, false]
-- ==== Reference2Ideal.lean ====
abbrev S2x2048x512 : Shape := ⟨3, ![2, 2048, 512]⟩
abbrev S2x2048x2048 : Shape := ⟨3, ![2, 2048, 2048]⟩
abbrev S2x2048x2 : Shape := ⟨3, ![2, 2048, 2]⟩
abbrev S2x512x128 : Shape := ⟨3, ![2, 512, 128]⟩
abbrev S2x128x512 : Shape := ⟨3, ![2, 128, 512]⟩
abbrev S128x128 : Shape := ⟨2, ![128, 128]⟩
abbrev S1 : Shape := ⟨1, ![1]⟩
abbrev S2048 : Shape := ⟨1, ![2048]⟩
abbrev S1x2048x512 : Shape := ⟨3, ![1, 2048, 512]⟩
abbrev S2048x512 : Shape := ⟨2, ![2048, 512]⟩
abbrev S1x2048x2048 : Shape := ⟨3, ![1, 2048, 2048]⟩
abbrev S2048x2048 : Shape := ⟨2, ![2048, 2048]⟩
abbrev S1x512x128 : Shape := ⟨3, ![1, 512, 128]⟩
abbrev S512x128 : Shape := ⟨2, ![512, 128]⟩
abbrev S2048x128 : Shape := ⟨2, ![2048, 128]⟩
abbrev S1x128x512 : Shape := ⟨3, ![1, 128, 512]⟩
abbrev S128x512 : Shape := ⟨2, ![128, 512]⟩
abbrev S_ : Shape := ⟨0, ![]⟩
abbrev S2048x1 : Shape := ⟨2, ![2048, 1]⟩
abbrev S1x1 : Shape := ⟨2, ![1, 1]⟩
abbrev S2048x2 : Shape := ⟨2, ![2048, 2]⟩
abbrev S1x2048x2 : Shape := ⟨3, ![1, 2048, 2]⟩
abbrev S2 : Shape := ⟨1, ![2]⟩

abbrev nBuf : Space → Nat
  | .hbm => 330
  | .vmem => 0
  | .smem => 0
  | _ => 0

abbrev hbmTy0_0 (i : Nat) : BufTy := match i % 128 with
  | 0 => ⟨S2x2048x512, .f32⟩
  | 1 => ⟨S2x2048x2048, .f32⟩
  | 2 => ⟨S2x2048x2048, .f32⟩
  | 3 => ⟨S2x2048x2, .f32⟩
  | 4 => ⟨S2x512x128, .f32⟩
  | 5 => ⟨S2x128x512, .f32⟩
  | 6 => ⟨S128x128, .f32⟩
  | 7 => ⟨S1, .f32⟩
  | 8 => ⟨S2048, .i32⟩
  | 9 => ⟨S1x2048x512, .f32⟩
  | 10 => ⟨S2048x512, .f32⟩
  | 11 => ⟨S1x2048x2048, .f32⟩
  | 12 => ⟨S2048x2048, .f32⟩
  | 13 => ⟨S1x2048x2048, .f32⟩
  | 14 => ⟨S2048x2048, .f32⟩
  | 15 => ⟨S1x512x128, .f32⟩
  | 16 => ⟨S512x128, .f32⟩
  | 17 => ⟨S2048x128, .f32⟩
  | 18 => ⟨S2048x128, .f32⟩
  | 19 => ⟨S1x128x512, .f32⟩
  | 20 => ⟨S128x512, .f32⟩
  | 21 => ⟨S2048x512, .f32⟩
  | 22 => ⟨S2048x512, .f32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x512, .f32⟩
  | 32 => ⟨S1x512x128, .f32⟩
  | 33 => ⟨S512x128, .f32⟩
  | 34 => ⟨S2048x128, .f32⟩
  | 35 => ⟨S2048x128, .f32⟩
  | 36 => ⟨S_, .f32⟩
  | 37 => ⟨S2048x128, .f32⟩
  | 38 => ⟨S2048x128, .f32⟩
  | 39 => ⟨S_, .f32⟩
  | 40 => ⟨S2048x128, .f32⟩
  | 41 => ⟨S2048x128, .f32⟩
  | 42 => ⟨S2048x128, .f32⟩
  | 43 => ⟨S_, .f32⟩
  | 44 => ⟨S2048, .f32⟩
  | 45 => ⟨S2048x1, .f32⟩
  | 46 => ⟨S2048x128, .f32⟩
  | 47 => ⟨S2048x128, .f32⟩
  | 48 => ⟨S2048x128, .f32⟩
  | 49 => ⟨S_, .f32⟩
  | 50 => ⟨S2048, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x128, .f32⟩
  | 57 => ⟨S2048x128, .f32⟩
  | 58 => ⟨S2048x128, .f32⟩
  | 59 => ⟨S2048x128, .f32⟩
  | 60 => ⟨S_, .f32⟩
  | 61 => ⟨S2048x128, .f32⟩
  | 62 => ⟨S2048x128, .f32⟩
  | 63 => ⟨S_, .f32⟩
  | 64 => ⟨S2048x128, .f32⟩
  | 65 => ⟨S2048x128, .f32⟩
  | 66 => ⟨S2048x128, .f32⟩
  | 67 => ⟨S_, .f32⟩
  | 68 => ⟨S2048, .f32⟩
  | 69 => ⟨S2048x1, .f32⟩
  | 70 => ⟨S2048x128, .f32⟩
  | 71 => ⟨S2048x128, .f32⟩
  | 72 => ⟨S2048x128, .f32⟩
  | 73 => ⟨S_, .f32⟩
  | 74 => ⟨S2048, .f32⟩
  | 75 => ⟨S2048x1, .f32⟩
  | 76 => ⟨S2048x1, .f32⟩
  | 77 => ⟨S_, .f32⟩
  | 78 => ⟨S2048x1, .f32⟩
  | 79 => ⟨S2048x1, .f32⟩
  | 80 => ⟨S2048x128, .f32⟩
  | 81 => ⟨S2048x128, .f32⟩
  | 82 => ⟨S2048x128, .f32⟩
  | 83 => ⟨S2048x128, .f32⟩
  | 84 => ⟨S_, .f32⟩
  | 85 => ⟨S2048x128, .f32⟩
  | 86 => ⟨S2048x128, .f32⟩
  | 87 => ⟨S_, .f32⟩
  | 88 => ⟨S2048x128, .f32⟩
  | 89 => ⟨S2048x128, .f32⟩
  | 90 => ⟨S2048x128, .f32⟩
  | 91 => ⟨S2048x128, .f32⟩
  | 92 => ⟨S_, .f32⟩
  | 93 => ⟨S2048, .f32⟩
  | 94 => ⟨S2048x1, .f32⟩
  | 95 => ⟨S1x1, .f32⟩
  | 96 => ⟨S2048x1, .f32⟩
  | 97 => ⟨S2048x1, .f32⟩
  | 98 => ⟨S2048x128, .f32⟩
  | 99 => ⟨S2048x128, .f32⟩
  | 100 => ⟨S_, .f32⟩
  | 101 => ⟨S2048, .f32⟩
  | 102 => ⟨S2048x1, .f32⟩
  | 103 => ⟨S1x1, .f32⟩
  | 104 => ⟨S2048x1, .f32⟩
  | 105 => ⟨S2048x1, .f32⟩
  | 106 => ⟨S2048x2, .f32⟩
  | 107 => ⟨S2048x128, .f32⟩
  | 108 => ⟨S2048x128, .f32⟩
  | 109 => ⟨S_, .f32⟩
  | 110 => ⟨S2048, .f32⟩
  | 111 => ⟨S2048x1, .f32⟩
  | 112 => ⟨S1x1, .f32⟩
  | 113 => ⟨S2048x1, .f32⟩
  | 114 => ⟨S2048x1, .f32⟩
  | 115 => ⟨S2048x128, .f32⟩
  | 116 => ⟨S2048x128, .f32⟩
  | 117 => ⟨S_, .f32⟩
  | 118 => ⟨S2048, .f32⟩
  | 119 => ⟨S2048x1, .f32⟩
  | 120 => ⟨S1x1, .f32⟩
  | 121 => ⟨S2048x1, .f32⟩
  | 122 => ⟨S2048x1, .f32⟩
  | 123 => ⟨S2048x2, .f32⟩
  | 124 => ⟨S1x2048x512, .f32⟩
  | 125 => ⟨S2048x512, .f32⟩
  | 126 => ⟨S1x2048x2048, .f32⟩
  | 127 => ⟨S2048x2048, .f32⟩
  | _ => ⟨S2x2048x512, .f32⟩

abbrev hbmTy0_1 (i : Nat) : BufTy := match i % 128 with
  | 0 => ⟨S1x2048x2048, .f32⟩
  | 1 => ⟨S2048x2048, .f32⟩
  | 2 => ⟨S1x512x128, .f32⟩
  | 3 => ⟨S512x128, .f32⟩
  | 4 => ⟨S2048x128, .f32⟩
  | 5 => ⟨S2048x128, .f32⟩
  | 6 => ⟨S1x128x512, .f32⟩
  | 7 => ⟨S128x512, .f32⟩
  | 8 => ⟨S2048x512, .f32⟩
  | 9 => ⟨S2048x512, .f32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S2048x512, .f32⟩
  | 19 => ⟨S1x512x128, .f32⟩
  | 20 => ⟨S512x128, .f32⟩
  | 21 => ⟨S2048x128, .f32⟩
  | 22 => ⟨S2048x128, .f32⟩
  | 23 => ⟨S_, .f32⟩
  | 24 => ⟨S2048x128, .f32⟩
  | 25 => ⟨S2048x128, .f32⟩
  | 26 => ⟨S_, .f32⟩
  | 27 => ⟨S2048x128, .f32⟩
  | 28 => ⟨S2048x128, .f32⟩
  | 29 => ⟨S2048x128, .f32⟩
  | 30 => ⟨S_, .f32⟩
  | 31 => ⟨S2048, .f32⟩
  | 32 => ⟨S2048x1, .f32⟩
  | 33 => ⟨S2048x128, .f32⟩
  | 34 => ⟨S2048x128, .f32⟩
  | 35 => ⟨S2048x128, .f32⟩
  | 36 => ⟨S_, .f32⟩
  | 37 => ⟨S2048, .f32⟩
  | 38 => ⟨S2048x1, .f32⟩
  | 39 => ⟨S2048x1, .f32⟩
  | 40 => ⟨S_, .f32⟩
  | 41 => ⟨S2048x1, .f32⟩
  | 42 => ⟨S2048x1, .f32⟩
  | 43 => ⟨S2048x128, .f32⟩
  | 44 => ⟨S2048x128, .f32⟩
  | 45 => ⟨S2048x128, .f32⟩
  | 46 => ⟨S2048x128, .f32⟩
  | 47 => ⟨S_, .f32⟩
  | 48 => ⟨S2048x128, .f32⟩
  | 49 => ⟨S2048x128, .f32⟩
  | 50 => ⟨S_, .f32⟩
  | 51 => ⟨S2048x128, .f32⟩
  | 52 => ⟨S2048x128, .f32⟩
  | 53 => ⟨S2048x128, .f32⟩
  | 54 => ⟨S_, .f32⟩
  | 55 => ⟨S2048, .f32⟩
  | 56 => ⟨S2048x1, .f32⟩
  | 57 => ⟨S2048x128, .f32⟩
  | 58 => ⟨S2048x128, .f32⟩
  | 59 => ⟨S2048x128, .f32⟩
  | 60 => ⟨S_, .f32⟩
  | 61 => ⟨S2048, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x128, .f32⟩
  | 68 => ⟨S2048x128, .f32⟩
  | 69 => ⟨S2048x128, .f32⟩
  | 70 => ⟨S2048x128, .f32⟩
  | 71 => ⟨S_, .f32⟩
  | 72 => ⟨S2048x128, .f32⟩
  | 73 => ⟨S2048x128, .f32⟩
  | 74 => ⟨S_, .f32⟩
  | 75 => ⟨S2048x128, .f32⟩
  | 76 => ⟨S2048x128, .f32⟩
  | 77 => ⟨S2048x128, .f32⟩
  | 78 => ⟨S2048x128, .f32⟩
  | 79 => ⟨S_, .f32⟩
  | 80 => ⟨S2048, .f32⟩
  | 81 => ⟨S2048x1, .f32⟩
  | 82 => ⟨S1x1, .f32⟩
  | 83 => ⟨S2048x1, .f32⟩
  | 84 => ⟨S2048x1, .f32⟩
  | 85 => ⟨S2048x128, .f32⟩
  | 86 => ⟨S2048x128, .f32⟩
  | 87 => ⟨S_, .f32⟩
  | 88 => ⟨S2048, .f32⟩
  | 89 => ⟨S2048x1, .f32⟩
  | 90 => ⟨S1x1, .f32⟩
  | 91 => ⟨S2048x1, .f32⟩
  | 92 => ⟨S2048x1, .f32⟩
  | 93 => ⟨S2048x2, .f32⟩
  | 94 => ⟨S2048x128, .f32⟩
  | 95 => ⟨S2048x128, .f32⟩
  | 96 => ⟨S_, .f32⟩
  | 97 => ⟨S2048, .f32⟩
  | 98 => ⟨S2048x1, .f32⟩
  | 99 => ⟨S1x1, .f32⟩
  | 100 => ⟨S2048x1, .f32⟩
  | 101 => ⟨S2048x1, .f32⟩
  | 102 => ⟨S2048x128, .f32⟩
  | 103 => ⟨S2048x128, .f32⟩
  | 104 => ⟨S_, .f32⟩
  | 105 => ⟨S2048, .f32⟩
  | 106 => ⟨S2048x1, .f32⟩
  | 107 => ⟨S1x1, .f32⟩
  | 108 => ⟨S2048x1, .f32⟩
  | 109 => ⟨S2048x1, .f32⟩
  | 110 => ⟨S2048x2, .f32⟩
  | 111 => ⟨S1x2048x2, .f32⟩
  | 112 => ⟨S2048x2, .f32⟩
  | 113 => ⟨S_, .f32⟩
  | 114 => ⟨S2048x2, .f32⟩
  | 115 => ⟨S2048x2, .f32⟩
  | 116 => ⟨S2048x2, .f32⟩
  | 117 => ⟨S2048x2, .f32⟩
  | 118 => ⟨S2048x2, .f32⟩
  | 119 => ⟨S2048x2, .f32⟩
  | 120 => ⟨S2048x2, .f32⟩
  | 121 => ⟨S2048x2, .f32⟩
  | 122 => ⟨S2048x2, .f32⟩
  | 123 => ⟨S_, .f32⟩
  | 124 => ⟨S_, .f32⟩
  | 125 => ⟨S_, .f32⟩
  | 126 => ⟨S_, .f32⟩
  | 127 => ⟨S_, .f32⟩
  | _ => ⟨S2x2048x512, .f32⟩

abbrev hbmTy0_2 (i : Nat) : BufTy := match i % 128 with
  | 0 => ⟨S_, .f32⟩
  | 1 => ⟨S1x2048x2, .f32⟩
  | 2 => ⟨S2048x2, .f32⟩
  | 3 => ⟨S_, .f32⟩
  | 4 => ⟨S2048x2, .f32⟩
  | 5 => ⟨S2048x2, .f32⟩
  | 6 => ⟨S2048x2, .f32⟩
  | 7 => ⟨S2048x2, .f32⟩
  | 8 => ⟨S2048x2, .f32⟩
  | 9 => ⟨S2048x2, .f32⟩
  | 10 => ⟨S2048x2, .f32⟩
  | 11 => ⟨S2048x2, .f32⟩
  | 12 => ⟨S2048x2, .f32⟩
  | 13 => ⟨S_, .f32⟩
  | 14 => ⟨S_, .f32⟩
  | 15 => ⟨S_, .f32⟩
  | 16 => ⟨S_, .f32⟩
  | 17 => ⟨S_, .f32⟩
  | 18 => ⟨S1x2048x512, .f32⟩
  | 19 => ⟨S2048x512, .f32⟩
  | 20 => ⟨S2048x512, .f32⟩
  | 21 => ⟨S2048x512, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x2048x2, .f32⟩
  | 29 => ⟨S2048x2, .f32⟩
  | 30 => ⟨S_, .f32⟩
  | 31 => ⟨S2048x2, .f32⟩
  | 32 => ⟨S2048x2, .f32⟩
  | 33 => ⟨S2048x2, .f32⟩
  | 34 => ⟨S2048x2, .f32⟩
  | 35 => ⟨S2048x2, .f32⟩
  | 36 => ⟨S2048x2, .f32⟩
  | 37 => ⟨S2048x2, .f32⟩
  | 38 => ⟨S2048x2, .f32⟩
  | 39 => ⟨S2048x2, .f32⟩
  | 40 => ⟨S_, .f32⟩
  | 41 => ⟨S_, .f32⟩
  | 42 => ⟨S_, .f32⟩
  | 43 => ⟨S_, .f32⟩
  | 44 => ⟨S_, .f32⟩
  | 45 => ⟨S1x2048x2, .f32⟩
  | 46 => ⟨S2048x2, .f32⟩
  | 47 => ⟨S_, .f32⟩
  | 48 => ⟨S2048x2, .f32⟩
  | 49 => ⟨S2048x2, .f32⟩
  | 50 => ⟨S2048x2, .f32⟩
  | 51 => ⟨S2048x2, .f32⟩
  | 52 => ⟨S2048x2, .f32⟩
  | 53 => ⟨S2048x2, .f32⟩
  | 54 => ⟨S2048x2, .f32⟩
  | 55 => ⟨S2048x2, .f32⟩
  | 56 => ⟨S2048x2, .f32⟩
  | 57 => ⟨S_, .f32⟩
  | 58 => ⟨S_, .f32⟩
  | 59 => ⟨S_, .f32⟩
  | 60 => ⟨S_, .f32⟩
  | 61 => ⟨S_, .f32⟩
  | 62 => ⟨S1x2048x512, .f32⟩
  | 63 => ⟨S2048x512, .f32⟩
  | 64 => ⟨S2048x512, .f32⟩
  | 65 => ⟨S2048x512, .f32⟩
  | 66 => ⟨S_, .f32⟩
  | 67 => ⟨S_, .f32⟩
  | 68 => ⟨S_, .f32⟩
  | 69 => ⟨S_, .f32⟩
  | 70 => ⟨S_, .f32⟩
  | 71 => ⟨S1, .f32⟩
  | 72 => ⟨S1, .f32⟩
  | 73 => ⟨S2, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_call1_cst : Ref sig .tc := ⟨.hbm, 39, rfl⟩
abbrev main_call1_v0 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_12 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_14 : Ref sig .tc := ⟨.hbm, 138, rfl⟩
abbrev main_v109 : Ref sig .tc := ⟨.hbm, 139, rfl⟩
abbrev main_v110 : Ref sig .tc := ⟨.hbm, 140, rfl⟩
abbrev main_c_15 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_call2_cst : Ref sig .tc := ⟨.hbm, 151, rfl⟩
abbrev main_call2_v0 : Ref sig .tc := ⟨.hbm, 152, rfl⟩
abbrev main_v120 : Ref sig .tc := ⟨.hbm, 153, rfl⟩
abbrev main_call3_cst : Ref sig .tc := ⟨.hbm, 154, rfl⟩
abbrev main_call3_v0 : Ref sig .tc := ⟨.hbm, 155, rfl⟩
abbrev main_v121 : Ref sig .tc := ⟨.hbm, 156, rfl⟩
abbrev main_v122 : Ref sig .tc := ⟨.hbm, 157, rfl⟩
abbrev main_cst_16 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_17 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_18 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_19 : Ref sig .tc := ⟨.hbm, 175, rfl⟩
abbrev main_v137 : Ref sig .tc := ⟨.hbm, 176, rfl⟩
abbrev main_v138 : Ref sig .tc := ⟨.hbm, 177, rfl⟩
abbrev main_cst_20 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_21 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_22 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_23 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_24 : Ref sig .tc := ⟨.hbm, 199, rfl⟩
abbrev main_v156 : Ref sig .tc := ⟨.hbm, 200, rfl⟩
abbrev main_v157 : Ref sig .tc := ⟨.hbm, 201, rfl⟩
abbrev main_cst_25 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_26 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_27 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_28 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_29 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_cst_30 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_31 : Ref sig .tc := ⟨.hbm, 251, rfl⟩
abbrev main_v201 : Ref sig .tc := ⟨.hbm, 252, rfl⟩
abbrev main_cst_32 : Ref sig .tc := ⟨.hbm, 253, rfl⟩
abbrev main_v202 : Ref sig .tc := ⟨.hbm, 254, rfl⟩
abbrev main_cst_33 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_cst_34 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_cst_35 : Ref sig .tc := ⟨.hbm, 269, rfl⟩
abbrev main_v215 : Ref sig .tc := ⟨.hbm, 270, rfl⟩
abbrev main_cst_36 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_cst_37 : Ref sig .tc := ⟨.hbm, 278, rfl⟩
abbrev main_v222 : Ref sig .tc := ⟨.hbm, 279, rfl⟩
abbrev main_cst_38 : Ref sig .tc := ⟨.hbm, 280, rfl⟩
abbrev main_v223 : Ref sig .tc := ⟨.hbm, 281, rfl⟩
abbrev main_cst_39 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_cst_40 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_41 : Ref sig .tc := ⟨.hbm, 296, rfl⟩
abbrev main_v236 : Ref sig .tc := ⟨.hbm, 297, rfl⟩
abbrev main_cst_42 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_cst_43 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_cst_44 : Ref sig .tc := ⟨.hbm, 313, rfl⟩
abbrev main_v250 : Ref sig .tc := ⟨.hbm, 314, rfl⟩
abbrev main_cst_45 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_cst_46 : Ref sig .tc := ⟨.hbm, 322, rfl⟩
abbrev main_v257 : Ref sig .tc := ⟨.hbm, 323, rfl⟩
abbrev main_cst_47 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩

abbrev nD : Nat := 1
abbrev τ : Topo := Topo.v7x

variable {F : FTy → Type} [FloatOps F]
-- ==== Kernel3.lean ====
abbrev S2x2048x128 : Shape := ⟨3, ![2, 2048, 128]⟩
abbrev S2x1x2048 : Shape := ⟨3, ![2, 1, 2048]⟩
abbrev S1x128x128 : Shape := ⟨3, ![1, 128, 128]⟩
abbrev S128x128 : Shape := ⟨2, ![128, 128]⟩
abbrev S2048x2048 : Shape := ⟨2, ![2048, 2048]⟩
abbrev S1x1 : Shape := ⟨2, ![1, 1]⟩
abbrev S1x512x128 : Shape := ⟨3, ![1, 512, 128]⟩
abbrev S1x2048x128 : Shape := ⟨3, ![1, 2048, 128]⟩
abbrev S1x1x512 : Shape := ⟨3, ![1, 1, 512]⟩
abbrev S1x1x2048 : Shape := ⟨3, ![1, 1, 2048]⟩
abbrev S512x2048 : Shape := ⟨2, ![512, 2048]⟩
abbrev S8x2048 : Shape := ⟨2, ![8, 2048]⟩
abbrev S2048x128 : Shape := ⟨2, ![2048, 128]⟩
abbrev S1x2048 : Shape := ⟨2, ![1, 2048]⟩
abbrev S512x128 : Shape := ⟨2, ![512, 128]⟩
abbrev S512 : Shape := ⟨1, ![512]⟩
abbrev S512x1 : Shape := ⟨2, ![512, 1]⟩
abbrev S2048 : Shape := ⟨1, ![2048]⟩
abbrev S1 : Shape := ⟨1, ![1]⟩
abbrev S1x512x1 : Shape := ⟨3, ![1, 512, 1]⟩
abbrev S1x1x1 : Shape := ⟨3, ![1, 1, 1]⟩
abbrev S1x512x2048 : Shape := ⟨3, ![1, 512, 2048]⟩
abbrev S_ : Shape := ⟨0, ![]⟩
abbrev S3 : Shape := ⟨1, ![3]⟩

abbrev nBuf : Space → Nat
  | .hbm => 31
  | .vmem => 14
  | .smem => 4
  | _ => 0

abbrev bufTy : (tb : Table) → Fin (tcTables nBuf tb) → BufTy
  | .hbm, ⟨0, _⟩ => ⟨S2x2048x128, .f32⟩
  | .hbm, ⟨1, _⟩ => ⟨S2x1x2048, .f32⟩
  | .hbm, ⟨2, _⟩ => ⟨S1x128x128, .f32⟩
  | .hbm, ⟨3, _⟩ => ⟨S128x128, .f32⟩
  | .hbm, ⟨4, _⟩ => ⟨S2048x2048, .bf16⟩
  | .hbm, ⟨5, _⟩ => ⟨S2048x2048, .bf16⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S3, .f32⟩
  | .local _ .vmem, ⟨0, _⟩ => ⟨S128x128, .f32⟩
  | .local _ .vmem, ⟨1, _⟩ => ⟨S1x512x128, .f32⟩
  | .local _ .vmem, ⟨2, _⟩ => ⟨S1x512x128, .f32⟩
  | .local _ .vmem, ⟨3, _⟩ => ⟨S1x2048x128, .f32⟩
  | .local _ .vmem, ⟨4, _⟩ => ⟨S1x1x512, .f32⟩
  | .local _ .vmem, ⟨5, _⟩ => ⟨S1x1x512, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S2048x2048, .f32⟩
  | .local _ .vmem, ⟨12, _⟩ => ⟨S8x2048, .f32⟩
  | .local _ .vmem, ⟨13, _⟩ => ⟨S2048x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c512_i32 : BitVec 32 := 512#32
  let v0 : BitVec 32 := Scalar.muli arg1 c512_i32
  let v45 : Index := Scalar.indexCast v0
  let c0_19 : Index := 0#32
  ![v45.toNat, 0]
def k0_cond3 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c512_i32 : BitVec 32 := 512#32
  let v0 : BitVec 32 := Scalar.muli arg1 c512_i32
  let v16 : Index := Scalar.indexCast v0
  let c0 : Index := 0#32
  ![v16.toNat, 0]
def k0_cond5 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg1 : BitVec 32 := BitVec.ofNat 32 (i 1).val
  let c512_i32 : BitVec 32 := 512#32
  let v0 : BitVec 32 := Scalar.muli arg1 c512_i32
  let v16 : Index := Scalar.indexCast v0
  let c0 : Index := 0#32
  ![v16.toNat, 0]
def k0_cond7 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off4 (i : grid0.Coords) : Fin 2 → Nat :=
  let arg1 : BitVec 32 := BitVec.ofNat 32 (i 1).val
  let c512_i32 : BitVec 32 := 512#32
  let v0 : BitVec 32 := Scalar.muli arg1 c512_i32
  let v17 : Index := Scalar.indexCast v0
  let c0_6 : Index := 0#32
  ![v17.toNat, 0]
def k0_cond8 (i : grid0.Coords) : BitVec 1 :=
  let arg1 : BitVec 32 := BitVec.ofNat 32 (i 1).val
  let c0_i32_4 : BitVec 32 := 0#32
  let v14 : BitVec 1 := Scalar.cmpi .eq arg1 c0_i32_4
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S2x2048x128 : Shape := ⟨3, ![2, 2048, 128]⟩
abbrev S2x1x2048 : Shape := ⟨3, ![2, 1, 2048]⟩
abbrev S1x128x128 : Shape := ⟨3, ![1, 128, 128]⟩
abbrev S1x2048x128 : Shape := ⟨3, ![1, 2048, 128]⟩
abbrev S2048x128 : Shape := ⟨2, ![2048, 128]⟩
abbrev S128x128 : Shape := ⟨2, ![128, 128]⟩
abbrev S128x2048 : Shape := ⟨2, ![128, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x1x2048 : Shape := ⟨3, ![1, 1, 2048]⟩
abbrev S1 : Shape := ⟨1, ![1]⟩
abbrev S3 : Shape := ⟨1, ![3]⟩

abbrev nBuf : Space → Nat
  | .hbm => 147
  | .vmem => 0
  | .smem => 0
  | _ => 0

abbrev hbmTy0_0 (i : Nat) : BufTy := match i % 128 with
  | 0 => ⟨S2x2048x128, .f32⟩
  | 1 => ⟨S2x1x2048, .f32⟩
  | 2 => ⟨S1x128x128, .f32⟩
  | 3 => ⟨S1x2048x128, .f32⟩
  | 4 => ⟨S2048x128, .f32⟩
  | 5 => ⟨S1x2048x128, .f32⟩
  | 6 => ⟨S2048x128, .f32⟩
  | 7 => ⟨S128x128, .f32⟩
  | 8 => ⟨S2048x128, .f32⟩
  | 9 => ⟨S128x128, .f32⟩
  | 10 => ⟨S2048x128, .f32⟩
  | 11 => ⟨S128x2048, .f32⟩
  | 12 => ⟨S2048x2048, .f32⟩
  | 13 => ⟨S_, .f32⟩
  | 14 => ⟨S_, .f32⟩
  | 15 => ⟨S2048x2048, .f32⟩
  | 16 => ⟨S2048x2048, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x2048, .f32⟩
  | 24 => ⟨S2048x2048, .f32⟩
  | 25 => ⟨S2048x2048, .f32⟩
  | 26 => ⟨S_, .f32⟩
  | 27 => ⟨S2048, .f32⟩
  | 28 => ⟨S2048x1, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S_, .f32⟩
  | 35 => ⟨S2048, .f32⟩
  | 36 => ⟨S2048x1, .f32⟩
  | 37 => ⟨S_, .f32⟩
  | 38 => ⟨S2048x1, .f32⟩
  | 39 => ⟨S2048x1, .f32⟩
  | 40 => ⟨S2048x2048, .f32⟩
  | 41 => ⟨S2048x2048, .f32⟩
  | 42 => ⟨S_, .f32⟩
  | 43 => ⟨S2048, .f32⟩
  | 44 => ⟨S1x2048, .f32⟩
  | 45 => ⟨S_, .f32⟩
  | 46 => ⟨S1x2048, .f32⟩
  | 47 => ⟨S1x2048, .f32⟩
  | 48 => ⟨S2048x2048, .f32⟩
  | 49 => ⟨S2048x2048, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S2048x2048, .f32⟩
  | 57 => ⟨S2048x2048, .f32⟩
  | 58 => ⟨S_, .f32⟩
  | 59 => ⟨S2048, .f32⟩
  | 60 => ⟨S1x2048, .f32⟩
  | 61 => ⟨S_, .f32⟩
  | 62 => ⟨S1x2048, .f32⟩
  | 63 => ⟨S1x2048, .f32⟩
  | 64 => ⟨S2048x2048, .f32⟩
  | 65 => ⟨S2048x2048, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S2048x2048, .f32⟩
  | 73 => ⟨S2048x2048, .f32⟩
  | 74 => ⟨S_, .f32⟩
  | 75 => ⟨S2048, .f32⟩
  | 76 => ⟨S1x2048, .f32⟩
  | 77 => ⟨S_, .f32⟩
  | 78 => ⟨S1x2048, .f32⟩
  | 79 => ⟨S1x2048, .f32⟩
  | 80 => ⟨S2048x2048, .f32⟩
  | 81 => ⟨S2048x2048, .f32⟩
  | 82 => ⟨S1x1x2048, .f32⟩
  | 83 => ⟨S2048, .f32⟩
  | 84 => ⟨S2048x1, .f32⟩
  | 85 => ⟨S1x1x2048, .f32⟩
  | 86 => ⟨S2048, .f32⟩
  | 87 => ⟨S1x2048, .f32⟩
  | 88 => ⟨S2048x2048, .f32⟩
  | 89 => ⟨S2048x2048, .f32⟩
  | 90 => ⟨S2048x2048, .f32⟩
  | 91 => ⟨S128x2048, .f32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .f32⟩
  | 101 => ⟨S2048x2048, .f32⟩
  | 102 => ⟨S_, .f32⟩
  | 103 => ⟨S_, .f32⟩
  | 104 => ⟨S_, .f32⟩
  | 105 => ⟨S2048, .f32⟩
  | 106 => ⟨S_, .f32⟩
  | 107 => ⟨S2048, .f32⟩
  | 108 => ⟨S2048, .f32⟩
  | 109 => ⟨S_, .f32⟩
  | 110 => ⟨S2048, .f32⟩
  | 111 => ⟨S2048, .f32⟩
  | 112 => ⟨S_, .f32⟩
  | 113 => ⟨S2048, .f32⟩
  | 114 => ⟨S2048, .f32⟩
  | 115 => ⟨S2048, .f32⟩
  | 116 => ⟨S2048, .f32⟩
  | 117 => ⟨S2048, .f32⟩
  | 118 => ⟨S_, .f32⟩
  | 119 => ⟨S_, .f32⟩
  | 120 => ⟨S_, .f32⟩
  | 121 => ⟨S_, .f32⟩
  | 122 => ⟨S_, .f32⟩
  | 123 => ⟨S2048, .f32⟩
  | 124 => ⟨S2048, .f32⟩
  | 125 => ⟨S2048, .f32⟩
  | 126 => ⟨S2048, .f32⟩
  | 127 => ⟨S2048, .f32⟩
  | _ => ⟨S2x2048x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S_, .f32⟩
  | 14 => ⟨S_, .f32⟩
  | 15 => ⟨S1, .f32⟩
  | 16 => ⟨S1, .f32⟩
  | 17 => ⟨S1, .f32⟩
  | 18 => ⟨S3, .f32⟩
  | _ => ⟨S2x2048x128, .f32⟩

abbrev hbmTy (i : Nat) : BufTy := match i / 128 with
  | 0 => hbmTy0_0 i
  | 1 => hbmTy0_1 i
  | _ => ⟨S2x2048x128, .f32⟩

abbrev bufTy : (tb : Table) → Fin (tcTables nBuf tb) → BufTy
  | .hbm, ⟨i, _⟩ => hbmTy i
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_18 : Ref sig .tc := ⟨.hbm, 102, rfl⟩
abbrev main_v80 : Ref sig .tc := ⟨.hbm, 103, rfl⟩
abbrev main_cst_19 : Ref sig .tc := ⟨.hbm, 104, rfl⟩
abbrev main_v81 : Ref sig .tc := ⟨.hbm, 105, rfl⟩
abbrev main_cst_20 : Ref sig .tc := ⟨.hbm, 106, rfl⟩
abbrev main_v82 : Ref sig .tc := ⟨.hbm, 107, rfl⟩
abbrev main_v83 : Ref sig .tc := ⟨.hbm, 108, rfl⟩
abbrev main_cst_21 : Ref sig .tc := ⟨.hbm, 109, rfl⟩
abbrev main_v84 : Ref sig .tc := ⟨.hbm, 110, rfl⟩
abbrev main_v85 : Ref sig .tc := ⟨.hbm, 111, rfl⟩
abbrev main_cst_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_23 : Ref sig .tc := ⟨.hbm, 118, rfl⟩
abbrev main_v91 : Ref sig .tc := ⟨.hbm, 119, rfl⟩
abbrev main_cst_24 : Ref sig .tc := ⟨.hbm, 120, rfl⟩
abbrev main_v92 : Ref sig .tc := ⟨.hbm, 121, rfl⟩
abbrev main_cst_25 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_26 : Ref sig .tc := ⟨.hbm, 128, rfl⟩
abbrev main_v98 : Ref sig .tc := ⟨.hbm, 129, rfl⟩
abbrev main_cst_27 : Ref sig .tc := ⟨.hbm, 130, rfl⟩
abbrev main_v99 : Ref sig .tc := ⟨.hbm, 131, rfl⟩
abbrev main_v100 : Ref sig .tc := ⟨.hbm, 132, rfl⟩
abbrev main_cst_28 : Ref sig .tc := ⟨.hbm, 133, rfl⟩
abbrev main_v101 : Ref sig .tc := ⟨.hbm, 134, rfl⟩
abbrev main_cst_29 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_30 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== Proof.Sums.lean ====
/-
  Facts about finite sums and products of extended reals that the value proofs share: a matrix product read at an entry
  (the plain one and the one whose left factor is stored transposed), the sum of all entries of a block as a kernel and as
  the host write it, and a sum over 2048 rows split into four blocks of 512.
-/
module

public import Idealize.ShloMosaic.Lib.MatmulPlain
public import Idealize.ShloMosaic.Lib.StackMember
public import Idealize.ShloMosaic.Lib.ValueIdx
public import Idealize.ShloMosaic.Lib.IdealHost
public import Idealize.ShloMosaic.Lib.Pipeline.Value
public import Idealize.ShloMosaic.PureOps

@[expose] public section

noncomputable section

namespace Cert.Align

open Idealize.ShloMosaic Idealize.ShloMosaic.ValueIdx
open scoped BigOperators

/-- A matrix of extended reals, indexed as an array of shape `[a, b]`. -/
abbrev Mat (a b : ℕ) : Type := (⟨2, ![a, b]⟩ : Shape).Idx → EReal

/-! ## Matrix products read at an entry -/

/-- The matrix product `A · B`. -/
def prod {a k b : ℕ} (A : Mat a k) (B : Mat k b) : Mat a b := fun i => ∑ l : Fin k, A (ix2 (i 0) l) * B (ix2 l (i 1))

/-- The matrix transposed. -/
def flip {a b : ℕ} (A : Mat a b) : Mat b a := fun i => A (ix2 (i 1) (i 0))

/-- A product accumulated onto the zero block is the product. -/
theorem matmul_plain {a k b : ℕ} {φ₁ φ₂ : FTy} (d : DotDims ⟨2, ![a, k]⟩ ⟨2, ![k, b]⟩ ⟨2, ![a, b]⟩)
    (hd : d = DotDims.plain a k b) (prec : Option ContractPrecision) (A : FVec Ideal ⟨2, ![a, k]⟩ φ₁)
    (B : FVec Ideal ⟨2, ![k, b]⟩ φ₂) :
    matmul d prec A B (constant ⟨2, ![a, b]⟩ .f32 0x00000000#32) = prod A B := by
  subst hd; funext i
  obtain ⟨r, c, rfl⟩ : ∃ (r : Fin a) (c : Fin b), i = ix2 r c := ⟨i 0, i 1, eq_ix2 i⟩
  show FloatOps.matmul _ _ _ _ _ _ = _
  rw [Ideal.matmul_plain_apply]
  show Ideal.ofBits .f32 0x00000000#32 + _ = _
  rw [Ideal.ofBits_zero_f32, zero_add]; rfl

/-- The product with the right factor stored transposed, accumulated onto the zero block. -/
theorem matmul_right {a k b : ℕ} {φ₁ φ₂ : FTy} (d : DotDims ⟨2, ![a, k]⟩ ⟨2, ![b, k]⟩ ⟨2, ![a, b]⟩)
    (hd : d = DotDims.transposedRhs a k b) (prec : Option ContractPrecision) (A : FVec Ideal ⟨2, ![a, k]⟩ φ₁)
    (B : FVec Ideal ⟨2, ![b, k]⟩ φ₂) :
    matmul d prec A B (constant ⟨2, ![a, b]⟩ .f32 0x00000000#32) = prod A (flip (a := b) (b := k) B) := by
  subst hd; funext i
  obtain ⟨r, c, rfl⟩ : ∃ (r : Fin a) (c : Fin b), i = ix2 r c := ⟨i 0, i 1, eq_ix2 i⟩
  show FloatOps.matmul _ _ _ _ _ _ = _
  rw [Ideal.matmul_transposedRhs_apply]
  show Ideal.ofBits .f32 0x00000000#32 + _ = _
  rw [Ideal.ofBits_zero_f32, zero_add]; rfl

/-- The product with the left factor stored transposed, accumulated onto the zero block. -/
theorem matmul_left {a k b : ℕ} {φ₁ φ₂ : FTy} (d : DotDims ⟨2, ![k, a]⟩ ⟨2, ![k, b]⟩ ⟨2, ![a, b]⟩)
    (hlc : d.lhsContracting = [0]) (hrc : d.rhsContracting = [0]) (hln : d.lhsNonContracting = [1])
    (hrn : d.rhsNonContracting = [1]) (hlb : d.lhsBatch = []) (hrb : d.rhsBatch = []) (prec : Option ContractPrecision)
    (A : FVec Ideal ⟨2, ![k, a]⟩ φ₁) (B : FVec Ideal ⟨2, ![k, b]⟩ φ₂) :
    matmul d prec A B (constant ⟨2, ![a, b]⟩ .f32 0x00000000#32) = prod (flip (a := k) (b := a) A) B := by
  obtain ⟨lc, rc, ln, rn, lb, rb, wf⟩ := d
  dsimp only at hlc hrc hln hrn hlb hrb
  subst hlc hrc hln hrn hlb hrb
  set D : DotDims ⟨2, ![k, a]⟩ ⟨2, ![k, b]⟩ ⟨2, ![a, b]⟩ := ⟨[0], [0], [1], [1], [], [], wf⟩ with hD
  have hr : D.contr.rank = 1 := rfl
  have hs : D.contr.size ⟨0, by rw [hr]; exact Nat.one_pos⟩ = k := rfl
  funext i
  show FloatOps.matmul D prec A B _ i = _
  rw [Ideal.matmul_constant_zero_apply, ← Equiv.sum_comp (contrEquiv1 D k hr hs).symm]
  refine Finset.sum_congr rfl fun l _ => ?_
  have hk := contrEquiv1_symm_val D k hr hs l
  have el : D.lhsIdx i ((contrEquiv1 D k hr hs).symm l) = ix2 l (i 0) := by
    funext x; apply Fin.ext
    match x with
    | ⟨0, _⟩ => exact hk
    | ⟨1, _⟩ => rfl
  have er : D.rhsIdx i ((contrEquiv1 D k hr hs).symm l) = ix2 l (i 1) := by
    funext x; apply Fin.ext
    match x with
    | ⟨0, _⟩ => exact hk
    | ⟨1, _⟩ => rfl
  rw [el, er]; rfl

/-- The host's plain product. -/
theorem dot_plain {a k b : ℕ} {φ₁ φ₂ : FTy} (d : DotDims ⟨2, ![a, k]⟩ ⟨2, ![k, b]⟩ ⟨2, ![a, b]⟩)
    (hd : d = DotDims.plain a k b) (prec : Option ContractPrecision) (A : FVec Ideal ⟨2, ![a, k]⟩ φ₁)
    (B : FVec Ideal ⟨2, ![k, b]⟩ φ₂) : Host.dotGeneral d prec A B = prod A B := by
  rw [← matmul_plain d hd prec A B]; funext i
  show FloatOps.dotGeneral _ _ _ _ _ _ = FloatOps.matmul _ _ _ _ _ _
  rw [Ideal.matmul_constant_zero_apply, Ideal.dotGeneral_apply]

/-- The host's transpose of a matrix. -/
theorem transpose_flip {a b : ℕ} (A : Mat a b) (h : (⟨2, ![a, b]⟩ : Shape).Transposes [1, 0] ⟨2, ![b, a]⟩) :
    transpose ⟨2, ![b, a]⟩ [1, 0] A h = flip A := by
  funext i
  refine transpose_apply _ _ h i (ix2 (i 1) (i 0)) fun x => ?_
  match x with
  | ⟨0, _⟩ => rfl
  | ⟨1, _⟩ => rfl

/-! ## Sums of all entries -/

/-- The sum of a block's entries as a kernel writes it: the block seen as one slab, its two axes summed, the one entry read. -/
theorem blockTotal {a b : ℕ} (x : FVec Ideal ⟨2, ![a, b]⟩ .f32) (h1 : (⟨2, ![a, b]⟩ : Shape).ShapeCasts ⟨3, ![1, a, b]⟩)
    (hr : (⟨3, ![1, a, b]⟩ : Shape).Reduces [1, 2] ⟨1, ![1]⟩) (hφ : FKind.Formats .f32)
    (hacc : (0x00000000#32 : BitVec FTy.f32.bits) = FKind.add.neutral .f32 hφ)
    (h2 : (⟨1, ![1]⟩ : Shape).ShapeCasts ⟨3, ![1, 1, 1]⟩) (hp : ∀ e, (![0, 0, 0] : Fin 3 → ℕ) e < (⟨3, ![1, 1, 1]⟩ : Shape).size e) :
    extractAt ![0, 0, 0] (shapeCast ⟨3, ![1, 1, 1]⟩
      (multiReduction .add [1, 2] ⟨1, ![1]⟩ (shapeCast ⟨3, ![1, a, b]⟩ x h1) 0x00000000#32 hr hφ hacc) h2) hp = ∑ i, x i := by
  unfold extractAt shapeCast
  show ∑ i ∈ Finset.univ.filter (fun i => hr.drop i = _), x (Shape.reshapeEquiv _ i) = _
  rw [Finset.filter_true_of_mem fun i _ => by
    funext e; apply Fin.ext
    match e with
    | ⟨0, _⟩ => have h1 : ∀ u v : Fin 1, u.val = v.val := by decide
                exact h1 _ _]
  exact Equiv.sum_comp (Shape.reshapeEquiv _) x

/-- The host's sum over both axes, from a zero initial value. -/
theorem hostTotal {a b : ℕ} {u : Shape} (x : FVec Ideal ⟨2, ![a, b]⟩ .f32) (init : u.Idx → Ideal .f32)
    (h : (⟨2, ![a, b]⟩ : Shape).ReducesTo [0, 1] ⟨0, ![]⟩) (hu : 0 < u.numel) (h0 : init (Shape.Idx.first hu) = 0)
    (j : (⟨0, ![]⟩ : Shape).Idx) : Host.reduceAdd x init h hu j = ∑ i, x i := by
  rw [hostReduceAdd_apply, h0]
  show 0 + ∑ i ∈ Finset.univ.filter (fun i => h.drop i = j), x i = _
  rw [Finset.filter_true_of_mem fun i _ => funext fun e => e.elim0, zero_add]

/-- A sum over 2048 rows, four blocks of 512 rows at a time. -/
theorem sum_rows (f : Fin 2048 → EReal) :
    ∑ r, f r = ∑ t : Fin 4, ∑ i : Fin 512, f ⟨t.val * 512 + i.val, by have := t.isLt; have := i.isLt; omega⟩ := by
  rw [← Equiv.sum_comp (finProdFinEquiv : Fin 4 × Fin 512 ≃ Fin (4 * 512)) f, Fintype.sum_prod_type]
  refine Finset.sum_congr rfl fun t _ => Finset.sum_congr rfl fun i _ => congrArg f (Fin.ext ?_)
  show i.val + 512 * t.val = t.val * 512 + i.val
  omega

/-- Block `t` of 512 rows of a matrix of 2048 rows. -/
def rows {b : ℕ} (A : Mat 2048 b) (t : Fin 4) : Mat 512 b :=
  fun i => A (ix2 ⟨t.val * 512 + (i 0).val, by have := t.isLt; have h := idx2_lt0 i; omega⟩ (i 1))

/-- Block `t` of 512 columns of a matrix of 2048 columns. -/
def cols {a : ℕ} (A : Mat a 2048) (t : Fin 4) : Mat a 512 :=
  fun i => A (ix2 (i 0) ⟨t.val * 512 + (i 1).val, by have := t.isLt; have h := idx2_lt1 i; omega⟩)

/-- A matrix's entries summed four row blocks at a time. -/
theorem sum_blocks {b : ℕ} (A : Mat 2048 b) : ∑ i, A i = ∑ t : Fin 4, ∑ i, rows A t i := by
  rw [sum_idx2, sum_rows]
  refine Finset.sum_congr rfl fun t _ => ?_
  rw [sum_idx2]; rfl

/-- The sum of the squares of a matrix's entries. -/
def sumSq {a b : ℕ} (A : Mat a b) : EReal := ∑ i, A i * A i

/-- The same, four row blocks at a time. -/
theorem sumSq_blocks {b : ℕ} (A : Mat 2048 b) : sumSq A = ∑ t : Fin 4, sumSq (rows A t) := sum_blocks fun i => A i * A i

/-- An extended real times itself is not negative. -/
theorem mul_self_nonneg' (x : EReal) : 0 ≤ x * x := by
  induction x with
  | bot => simp
  | top => simp
  | coe r => rw [← EReal.coe_mul]; exact_mod_cast mul_self_nonneg r

theorem sumSq_nonneg {a b : ℕ} (A : Mat a b) : 0 ≤ sumSq A := Finset.sum_nonneg fun i _ => mul_self_nonneg' (A i)

/-- Division by a positive real of a sum of two numbers that are not negative. -/
theorem div_add {x y : EReal} (hx : 0 ≤ x) (hy : 0 ≤ y) (d : EReal) (hd : d ≠ 0) :
    Ideal.div (x + y) d = Ideal.div x d + Ideal.div y d := by
  unfold Ideal.div; rw [if_neg hd, if_neg hd, if_neg hd, EReal.right_distrib_of_nonneg hx hy]

/-- The square root is not negative where its argument is not. -/
theorem sqrt_nonneg {x : EReal} (hx : 0 ≤ x) : 0 ≤ Ideal.sqrt x := by
  induction x with
  | bot => simp at hx
  | top => show (0 : EReal) ≤ ⊤; exact le_top
  | coe r =>
    have hr : 0 ≤ r := by exact_mod_cast hx
    show (0 : EReal) ≤ if r < 0 then ⊥ else (Real.sqrt r : EReal)
    rw [if_neg (not_lt.mpr hr)]; exact_mod_cast Real.sqrt_nonneg r

end Cert.Align

end
-- ==== Proof.Blocks.lean ====
/-
  What one block of each call computes, over the extended reals: the two calls that multiply a row block by a transposed
  matrix (`t1`, `t2`), and the two that add a block's squared residuals to a running sum (`p1`, `p2`). A change of
  format is the identity here.
-/
module

public import proofs.«01_k».proof.Proof.Sums
public import proofs.«01_k».proof.Proof.Gen.KernelIdeal.Skeleton

@[expose] public section

noncomputable section

namespace Cert.Align

open Idealize.ShloMosaic Idealize.ShloMosaic.ValueIdx Cert.KernelIdeal Cert.KernelIdeal.Gen
open scoped BigOperators

/-- The difference of two matrices, entry by entry. -/
def diff {a b : ℕ} (X Y : Mat a b) : Mat a b := fun i => X i - Y i

/-- `t1` on a block of 512 rows: the rows times the transpose of the transport matrix. -/
theorem t1_block (x : Vec Ideal S512x2048 .f32) (y : Vec Ideal S2048x2048 .bf16) :
    k0_pay1 x y = prod (a := 512) (k := 2048) (b := 2048) x (flip (a := 2048) (b := 2048) y) := by
  unfold k0_pay1
  dsimp only
  rw [shapeCast_self]
  exact matmul_right (a := 512) (k := 2048) (b := 2048) (φ₁ := .bf16) (φ₂ := .bf16)
    dot_S512x2048_S2048x2048_S512x2048_1_1_0_0_n_n rfl none x y

/-- `t2` on a block of 512 rows: the rows times the second transport matrix as stored. -/
theorem t2_block (x : Vec Ideal S512x2048 .f32) (y : Vec Ideal S2048x2048 .bf16) :
    k2_pay1 x y = prod (a := 512) (k := 2048) (b := 2048) x y := by
  unfold k2_pay1
  dsimp only
  rw [shapeCast_self]
  exact matmul_plain (a := 512) (k := 2048) (b := 2048) (φ₁ := .bf16) (φ₂ := .bf16)
    dot_S512x2048_S2048x2048_S512x2048_1_0_0_1_n_n rfl none x y

/-- `p1`, the distance sum of one row block. -/
theorem p1_dist (A : Vec Ideal S512x2048 .bf16) (B : Vec Ideal S2048x2048 .bf16) (X : Vec Ideal S512x2048 .f32) (s : EReal) :
    k1_pay1 A B X s = s + sumSq (diff X (prod (a := 512) (k := 2048) (b := 2048) A B)) := by
  unfold k1_pay1
  dsimp only
  rw [shapeCast_self, shapeCast_self, matmul_plain (a := 512) (k := 2048) (b := 2048) dot_S512x2048_S2048x2048_S512x2048_1_0_0_1_n_n rfl none A B]
  exact congrArg (s + ·) (blockTotal (a := 512) (b := 2048) _ _ _ _ _ _ _)

/-- `p1`, the feature sum of one row block. -/
theorem p1_feat (X : Vec Ideal S512x512 .f32) (A : Vec Ideal S512x2048 .bf16) (B : Vec Ideal S2048x512 .bf16) (s : EReal) :
    k1_pay2 X A B s = s + sumSq (diff X (prod (a := 512) (k := 2048) (b := 512) A B)) := by
  unfold k1_pay2
  dsimp only
  rw [shapeCast_self, shapeCast_self, matmul_plain (a := 512) (k := 2048) (b := 512) dot_S512x2048_S2048x512_S512x512_1_0_0_1_n_n rfl none A B]
  exact congrArg (s + ·) (blockTotal (a := 512) (b := 512) _ _ _ _ _ _ _)

/-- `p2`, the distance sum of one row block: the transport matrix comes as a block of columns of its transpose. -/
theorem p2_dist (A : Vec Ideal S2048x512 .bf16) (B : Vec Ideal S2048x2048 .bf16) (X : Vec Ideal S512x2048 .f32) (s : EReal) :
    k3_pay1 A B X s = s + sumSq (diff X (prod (a := 512) (k := 2048) (b := 2048) (flip (a := 2048) (b := 512) A) B)) := by
  unfold k3_pay1
  dsimp only
  rw [shapeCast_self, shapeCast_self, matmul_left (a := 512) (k := 2048) (b := 2048) dot_S2048x512_S2048x2048_S512x2048_0_0_1_1_n_n rfl rfl rfl rfl rfl rfl none A B]
  exact congrArg (s + ·) (blockTotal (a := 512) (b := 2048) _ _ _ _ _ _ _)

/-- `p2`, the feature sum of one row block. -/
theorem p2_feat (X : Vec Ideal S512x512 .f32) (A : Vec Ideal S2048x512 .bf16) (B : Vec Ideal S2048x512 .bf16) (s : EReal) :
    k3_pay2 X A B s = s + sumSq (diff X (prod (a := 512) (k := 2048) (b := 512) (flip (a := 2048) (b := 512) A) B)) := by
  unfold k3_pay2
  dsimp only
  rw [shapeCast_self, shapeCast_self, matmul_left (a := 512) (k := 2048) (b := 512) dot_S2048x512_S2048x512_S512x512_0_0_1_1_n_n rfl rfl rfl rfl rfl rfl none A B]
  exact congrArg (s + ·) (blockTotal (a := 512) (b := 512) _ _ _ _ _ _ _)

end Cert.Align

end
-- ==== Proof.RegionT.lean ====
/-
  The two calls that write a whole product, `t1` and `t2`: their result array, four row blocks of 512, ends holding
  the distance matrix times a transport matrix.
-/
module

public import proofs.«01_k».proof.Proof.Blocks
public import proofs.«01_k».proof.Proof.Gen.KernelIdeal.Frame

@[expose] public section

noncomputable section

namespace Cert.Align

open Idealize.ShloMosaic Idealize.ShloMosaic.TcCoe Idealize.ShloMosaic.ValueIdx Cert.KernelIdeal Cert.KernelIdeal.Gen
open Idealize.ShloMosaic.Pipeline (Dat)
open scoped BigOperators

theorem offsets_zero : (![0, 0] : Fin 2 → Nat) = fun _ => 0 := funext fun a => by fin_cases a <;> rfl

/-- A one-entry array has one index. -/
theorem one_cell (i : S1x1.Idx) : i = ix2 0 0 := by
  have h0 : (i 0 : Nat) < 1 := (i 0).isLt
  have h1 : (i 1 : Nat) < 1 := (i 1).isLt
  funext a; apply Fin.ext
  match a with
  | ⟨0, _⟩ => show (i 0 : Nat) = 0; omega
  | ⟨1, _⟩ => show (i 1 : Nat) = 0; omega

/-- Reading a row block of a product is the product of the row block. -/
theorem rows_prod {k b : ℕ} (A : Mat 2048 k) (B : Mat k b) (t : Fin 4) : rows (prod A B) t = prod (rows A t) B := rfl

variable (V : (c : Dev nD) → (b : Ref sig .tc) → Buf (Elt Ideal) ((c : Thread nD τ).loc b))

/-! ## `t1` -/

theorem t1_index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by decide +kernel

/-- The row block `t1` reads at a point. -/
theorem t1_in0 (c : Dev nD) (t : Fin cfg0.N) :
    (iblk0 V c 0 t : Mat 512 2048) = rows (b := 2048) (V c main_v7) t := by
  funext j
  unfold iblk0
  rw [View.read_apply]
  show V c main_v7 _ = V c main_v7 _
  congr 1; funext a; apply Fin.ext
  match a with
  | ⟨0, _⟩ => show win0_0.index t 0 * 512 + 1 * (j 0).val = t.val * 512 + (j 0).val; rw [(t1_index t).1.1]; omega
  | ⟨1, _⟩ => show win0_0.index t 1 * 2048 + 1 * (j 1).val = (j 1).val; rw [(t1_index t).1.2]; omega

/-- The whole transport matrix it reads at every point. -/
theorem t1_in1 (c : Dev nD) (t : Fin cfg0.N) : (iblk0 V c 1 t : Mat 2048 2048) = V c main_arg2 := by
  funext j
  unfold iblk0
  rw [View.read_apply]
  show V c main_arg2 _ = V c main_arg2 _
  congr 1; funext a; apply Fin.ext
  match a with
  | ⟨0, _⟩ => show win0_1.index t 0 * 2048 + 1 * (j 0).val = (j 0).val; rw [(t1_index t).2.1.1]; omega
  | ⟨1, _⟩ => show win0_1.index t 1 * 2048 + 1 * (j 1).val = (j 1).val; rw [(t1_index t).2.1.2]; omega

/-- What `t1`'s result array holds: the second distance matrix times the transposed transport matrix. -/
def t1Res (c : Dev nD) : Mat 2048 2048 :=
  prod (a := 2048) (k := 2048) (b := 2048) (V c main_v7) (flip (a := 2048) (b := 2048) (V c main_arg2))

theorem t1_out (c : Dev nD) (t : Fin cfg0.N) :
    out0_2 (iblk0 V c 0 t) (iblk0 V c 1 t) = rows (b := 2048) (t1Res V c) t := by
  unfold out0_2
  rw [View.canon_unit_zero offsets_zero, View.ld_unit_zero offsets_zero, View.ld_unit_zero offsets_zero]
  refine (t1_block _ _).trans ?_
  rw [t1_in0, t1_in1]; rfl

theorem t1_array (c : Dev nD) : (dat0 V c).arrAt 2 cfg0.N = (t1Res V c : Buf (Elt Ideal) ((c : Thread nD τ).loc main_v10)) :=
  (dat0 V c).arrAt_eq_of_cover 2 (t1Res V c : Buf (Elt Ideal) ((c : Thread nD τ).loc main_v10))
    (fun t _ => by
      show (cfg0.win 2).cut (grid0.coords t) ((dat0 V c).after 2 t) = _
      rw [after0_2, t1_out]
      funext j
      rw [View.read_apply]
      show t1Res V c _ = t1Res V c _
      congr 1; funext a; apply Fin.ext
      match a with
      | ⟨0, _⟩ => show t.val * 512 + (j 0).val = win0_2.index t 0 * 512 + 1 * (j 0).val; rw [(t1_index t).2.2.1]; omega
      | ⟨1, _⟩ => show (j 1).val = win0_2.index t 1 * 2048 + 1 * (j 1).val; rw [(t1_index t).2.2.2]; omega)
    fun i => by
      have h0 : (i 0 : Nat) < 2048 := (i 0).isLt
      have h1 : (i 1 : Nat) < 2048 := (i 1).isLt
      have hN : cfg0.N = 4 := rfl
      refine ⟨⟨(i 0 : Nat) / 512, by omega⟩, flush0_2 _, ?_⟩
      set t : Fin cfg0.N := ⟨(i 0 : Nat) / 512, by omega⟩ with ht
      show i ∈ ((View.whole main_v10).slice (win0_2.rect t)).set
      rw [View.set_slice_whole, Rect.mem_set_unit]
      intro a
      match a with
      | ⟨0, _⟩ => show win0_2.index t 0 * 512 ≤ (i 0 : Nat) ∧ (i 0 : Nat) < win0_2.index t 0 * 512 + 512
                  rw [(t1_index t).2.2.1]; show (i 0 : Nat) / 512 * 512 ≤ _ ∧ _ < (i 0 : Nat) / 512 * 512 + 512; omega
      | ⟨1, _⟩ => show win0_2.index t 1 * 2048 ≤ (i 1 : Nat) ∧ (i 1 : Nat) < win0_2.index t 1 * 2048 + 2048
                  rw [(t1_index t).2.2.2]; omega

/-! ## `t2` -/

theorem t2_index : ∀ t : Fin cfg2.N, (win2_0.index t 0 = t.val ∧ win2_0.index t 1 = 0)
    ∧ (win2_1.index t 0 = 0 ∧ win2_1.index t 1 = 0) ∧ (win2_2.index t 0 = t.val ∧ win2_2.index t 1 = 0) := by decide +kernel

/-- The row block `t2` reads at a point. -/
theorem t2_in0 (c : Dev nD) (t : Fin cfg2.N) :
    (iblk2 V c 0 t : Mat 512 2048) = rows (b := 2048) (V c main_v5) t := by
  funext j
  unfold iblk2
  rw [View.read_apply]
  show V c main_v5 _ = V c main_v5 _
  congr 1; funext a; apply Fin.ext
  match a with
  | ⟨0, _⟩ => show win2_0.index t 0 * 512 + 1 * (j 0).val = t.val * 512 + (j 0).val; rw [(t2_index t).1.1]; omega
  | ⟨1, _⟩ => show win2_0.index t 1 * 2048 + 1 * (j 1).val = (j 1).val; rw [(t2_index t).1.2]; omega

/-- The whole transport matrix it reads at every point. -/
theorem t2_in1 (c : Dev nD) (t : Fin cfg2.N) : (iblk2 V c 1 t : Mat 2048 2048) = V c main_arg3 := by
  funext j
  unfold iblk2
  rw [View.read_apply]
  show V c main_arg3 _ = V c main_arg3 _
  congr 1; funext a; apply Fin.ext
  match a with
  | ⟨0, _⟩ => show win2_1.index t 0 * 2048 + 1 * (j 0).val = (j 0).val; rw [(t2_index t).2.1.1]; omega
  | ⟨1, _⟩ => show win2_1.index t 1 * 2048 + 1 * (j 1).val = (j 1).val; rw [(t2_index t).2.1.2]; omega

/-- What `t2`'s result array holds: the first distance matrix times the second transport matrix, whose stored form is a transpose. -/
def t2Res (c : Dev nD) : Mat 2048 2048 :=
  prod (a := 2048) (k := 2048) (b := 2048) (V c main_v5) (V c main_arg3)

theorem t2_out (c : Dev nD) (t : Fin cfg2.N) :
    out2_2 (iblk2 V c 0 t) (iblk2 V c 1 t) = rows (b := 2048) (t2Res V c) t := by
  unfold out2_2
  rw [View.canon_unit_zero offsets_zero, View.ld_unit_zero offsets_zero, View.ld_unit_zero offsets_zero]
  refine (t2_block _ _).trans ?_
  rw [t2_in0, t2_in1]; rfl

theorem t2_array (c : Dev nD) : (dat2 V c).arrAt 2 cfg2.N = (t2Res V c : Buf (Elt Ideal) ((c : Thread nD τ).loc main_v12)) :=
  (dat2 V c).arrAt_eq_of_cover 2 (t2Res V c : Buf (Elt Ideal) ((c : Thread nD τ).loc main_v12))
    (fun t _ => by
      show (cfg2.win 2).cut (grid2.coords t) ((dat2 V c).after 2 t) = _
      rw [after2_2, t2_out]
      funext j
      rw [View.read_apply]
      show t2Res V c _ = t2Res V c _
      congr 1; funext a; apply Fin.ext
      match a with
      | ⟨0, _⟩ => show t.val * 512 + (j 0).val = win2_2.index t 0 * 512 + 1 * (j 0).val; rw [(t2_index t).2.2.1]; omega
      | ⟨1, _⟩ => show (j 1).val = win2_2.index t 1 * 2048 + 1 * (j 1).val; rw [(t2_index t).2.2.2]; omega)
    fun i => by
      have h0 : (i 0 : Nat) < 2048 := (i 0).isLt
      have h1 : (i 1 : Nat) < 2048 := (i 1).isLt
      have hN : cfg2.N = 4 := rfl
      refine ⟨⟨(i 0 : Nat) / 512, by omega⟩, flush2_2 _, ?_⟩
      set t : Fin cfg2.N := ⟨(i 0 : Nat) / 512, by omega⟩ with ht
      show i ∈ ((View.whole main_v12).slice (win2_2.rect t)).set
      rw [View.set_slice_whole, Rect.mem_set_unit]
      intro a
      match a with
      | ⟨0, _⟩ => show win2_2.index t 0 * 512 ≤ (i 0 : Nat) ∧ (i 0 : Nat) < win2_2.index t 0 * 512 + 512
                  rw [(t2_index t).2.2.1]; show (i 0 : Nat) / 512 * 512 ≤ _ ∧ _ < (i 0 : Nat) / 512 * 512 + 512; omega
      | ⟨1, _⟩ => show win2_2.index t 1 * 2048 ≤ (i 1 : Nat) ∧ (i 1 : Nat) < win2_2.index t 1 * 2048 + 2048
                  rw [(t2_index t).2.2.2]; omega

end Cert.Align

end
-- ==== Proof.RegionP1.lean ====
/-
  The call `p1`: two running sums in scalar memory, cleared at the first of four row blocks, each block adding its squared
  residuals. After the last block they hold the squared residuals of the whole matrices.
-/
module

public import proofs.«01_k».proof.Proof.RegionT

@[expose] public section

noncomputable section

namespace Cert.Align

open Idealize.ShloMosaic Idealize.ShloMosaic.TcCoe Idealize.ShloMosaic.ValueIdx Cert.KernelIdeal Cert.KernelIdeal.Gen
open Idealize.ShloMosaic.Pipeline (Dat)
open scoped BigOperators

/-! ## What one point leaves in each cell -/

/-- A later block leaves the running sum plus its own squared residuals. -/
theorem p1_later5 (c : Dev nD) (i : grid1.Coords)
    (a1 : Memref sig .tc .vmem S512x2048 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : ¬cond1_0 i) (x0 : Vec Ideal S512x2048 .bf16)
    (x1 : Vec Ideal S2048x2048 .bf16) (x2 : Vec Ideal S512x2048 .f32) (x3 : Vec Ideal S2048x512 .bf16) (x4 : Vec Ideal S512x512 .f32)
    (xo5 xo6 : Vec Ideal S1x1 .f32) :
    out1_B_5 c i a1 h1 a2 h2 a3 h3 a4 h4 a5 h5 a6 h6 a7 h7 hc x0 x1 x2 x3 x4 xo5 xo6 = fun _ => k1_pay1 x0 x1 x2 (xo5 (ix2 0 0)) := by
  unfold out1_B_5
  rw [View.read_writes_eq_canon _ _ _ (cover1_B_5 c i a1 h1 a2 h2 a3 h3 a4 h4 a5 h5 a6 h6 a7 h7 hc x0 x1 x2 x3 x4 xo5 xo6)]
  unfold kernelRun1_B
  dsimp only
  sl_unfold_words
  rw [View.canon_unit_zero offsets_zero]
  simp only [View.readAt_eq_ld, h1.read_unread, h2.read_unread, h3.read_unread, h4.read_unread, h5.read_unread,
    h6.read_unread, View.ld_unit_zero (S := S512x2048) offsets_zero, View.ld_unit_zero (S := S2048x2048) offsets_zero,
    View.ld_unit_zero (S := S512x2048) offsets_zero, View.ld_unit_zero (S := S2048x512) offsets_zero,
    View.ld_unit_zero (S := S512x512) offsets_zero]
  exact funext fun _ => congrArg (k1_pay1 x0 x1 x2) (congrArg xo5 (one_cell _))

/-- The first block leaves its own squared residuals over a cleared cell. -/
theorem p1_first5 (c : Dev nD) (i : grid1.Coords)
    (a1 : Memref sig .tc .vmem S512x2048 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : cond1_0 i) (x0 : Vec Ideal S512x2048 .bf16)
    (x1 : Vec Ideal S2048x2048 .bf16) (x2 : Vec Ideal S512x2048 .f32) (x3 : Vec Ideal S2048x512 .bf16) (x4 : Vec Ideal S512x512 .f32) :
    out1_A_5 c i a1 h1 a2 h2 a3 h3 a4 h4 a5 h5 a6 h6 a7 h7 hc x0 x1 x2 x3 x4 = fun _ => k1_pay1 x0 x1 x2 (0 : EReal) := by
  unfold out1_A_5
  rw [View.read_writes_eq_canon _ _ _ (cover1_A_5 c i a1 h1 a2 h2 a3 h3 a4 h4 a5 h5 a6 h6 a7 h7 hc x0 x1 x2 x3 x4)]
  unfold kernelRun1_A
  dsimp only
  sl_unfold_words
  rw [View.canon_cons_unit_zero (S := S1x1) offsets_zero]
  simp only [View.readAt_eq_ld, h1.read_unread, h2.read_unread, h3.read_unread, h4.read_unread, h5.read_unread,
    View.ld_unit_zero (S := S512x2048) offsets_zero, View.ld_unit_zero (S := S2048x2048) offsets_zero,
    View.ld_unit_zero (S := S512x2048) offsets_zero, View.ld_unit_zero (S := S2048x512) offsets_zero,
    View.ld_unit_zero (S := S512x512) offsets_zero]
  rw [show (FloatOps.ofBits (F := Ideal) .f32 0x00000000#32 : EReal) = 0 from Ideal.ofBits_zero_f32]
  rfl

/-- A later block leaves the running sum plus its own squared residuals. -/
theorem p1_later6 (c : Dev nD) (i : grid1.Coords)
    (a1 : Memref sig .tc .vmem S512x2048 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : ¬cond1_0 i) (x0 : Vec Ideal S512x2048 .bf16)
    (x1 : Vec Ideal S2048x2048 .bf16) (x2 : Vec Ideal S512x2048 .f32) (x3 : Vec Ideal S2048x512 .bf16) (x4 : Vec Ideal S512x512 .f32)
    (xo5 xo6 : Vec Ideal S1x1 .f32) :
    out1_B_6 c i a1 h1 a2 h2 a3 h3 a4 h4 a5 h5 a6 h6 a7 h7 hc x0 x1 x2 x3 x4 xo5 xo6 = fun _ => k1_pay2 x4 x0 x3 (xo6 (ix2 0 0)) := by
  unfold out1_B_6
  rw [View.read_writes_eq_canon _ _ _ (cover1_B_6 c i a1 h1 a2 h2 a3 h3 a4 h4 a5 h5 a6 h6 a7 h7 hc x0 x1 x2 x3 x4 xo5 xo6)]
  unfold kernelRun1_B
  dsimp only
  sl_unfold_words
  rw [View.canon_unit_zero offsets_zero]
  simp only [View.readAt_eq_ld, h1.read_unread, h2.read_unread, h3.read_unread, h4.read_unread, h5.read_unread,
    h7.read_unread, View.ld_unit_zero (S := S512x2048) offsets_zero, View.ld_unit_zero (S := S2048x2048) offsets_zero,
    View.ld_unit_zero (S := S512x2048) offsets_zero, View.ld_unit_zero (S := S2048x512) offsets_zero,
    View.ld_unit_zero (S := S512x512) offsets_zero]
  exact funext fun _ => congrArg (k1_pay2 x4 x0 x3) (congrArg xo6 (one_cell _))

/-- The first block leaves its own squared residuals over a cleared cell. -/
theorem p1_first6 (c : Dev nD) (i : grid1.Coords)
    (a1 : Memref sig .tc .vmem S512x2048 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : cond1_0 i) (x0 : Vec Ideal S512x2048 .bf16)
    (x1 : Vec Ideal S2048x2048 .bf16) (x2 : Vec Ideal S512x2048 .f32) (x3 : Vec Ideal S2048x512 .bf16) (x4 : Vec Ideal S512x512 .f32) :
    out1_A_6 c i a1 h1 a2 h2 a3 h3 a4 h4 a5 h5 a6 h6 a7 h7 hc x0 x1 x2 x3 x4 = fun _ => k1_pay2 x4 x0 x3 (0 : EReal) := by
  unfold out1_A_6
  rw [View.read_writes_eq_canon _ _ _ (cover1_A_6 c i a1 h1 a2 h2 a3 h3 a4 h4 a5 h5 a6 h6 a7 h7 hc x0 x1 x2 x3 x4)]
  unfold kernelRun1_A
  dsimp only
  sl_unfold_words
  rw [View.canon_cons_unit_zero (S := S1x1) offsets_zero]
  simp only [View.readAt_eq_ld, h1.read_unread, h2.read_unread, h3.read_unread, h4.read_unread, h5.read_unread,
    View.ld_unit_zero (S := S512x2048) offsets_zero, View.ld_unit_zero (S := S2048x2048) offsets_zero,
    View.ld_unit_zero (S := S512x2048) offsets_zero, View.ld_unit_zero (S := S2048x512) offsets_zero,
    View.ld_unit_zero (S := S512x512) offsets_zero]
  rw [show (FloatOps.ofBits (F := Ideal) .f32 0x00000000#32 : EReal) = 0 from Ideal.ofBits_zero_f32]
  rfl

variable (V : (c : Dev nD) → (b : Ref sig .tc) → Buf (Elt Ideal) ((c : Thread nD τ).loc b))

/-! ## The blocks a point reads -/

theorem p1_index : ∀ t : Fin cfg1.N,
    (win1_0.index t 0 = t.val ∧ win1_0.index t 1 = 0) ∧
    (win1_1.index t 0 = 0 ∧ win1_1.index t 1 = 0) ∧
    (win1_2.index t 0 = t.val ∧ win1_2.index t 1 = 0) ∧
    (win1_3.index t 0 = 0 ∧ win1_3.index t 1 = 0) ∧
    (win1_4.index t 0 = t.val ∧ win1_4.index t 1 = 0) ∧
    (win1_5.index t 0 = 0 ∧ win1_5.index t 1 = 0) ∧
    (win1_6.index t 0 = 0 ∧ win1_6.index t 1 = 0) := by decide +kernel

theorem p1_in0 (c : Dev nD) (t : Fin cfg1.N) : (iblk1 V c 0 t : Mat 512 2048) = rows (b := 2048) (V c main_arg2) t := by
  funext j
  unfold iblk1
  rw [View.read_apply]
  show V c main_arg2 _ = V c main_arg2 _
  congr 1; funext a; apply Fin.ext
  match a with
  | ⟨0, _⟩ => show win1_0.index t 0 * 512 + 1 * (j 0).val = t.val * 512 + (j 0).val; rw [(p1_index t).1.1]; omega
  | ⟨1, _⟩ => show win1_0.index t 1 * 2048 + 1 * (j 1).val = (j 1).val; rw [(p1_index t).1.2]; omega

theorem p1_in1 (c : Dev nD) (t : Fin cfg1.N) : (iblk1 V c 1 t : Mat 2048 2048) = V c main_v10 := by
  funext j
  unfold iblk1
  rw [View.read_apply]
  show V c main_v10 _ = V c main_v10 _
  congr 1; funext a; apply Fin.ext
  match a with
  | ⟨0, _⟩ => show win1_1.index t 0 * 2048 + 1 * (j 0).val = (j 0).val; rw [(p1_index t).2.1.1]; omega
  | ⟨1, _⟩ => show win1_1.index t 1 * 2048 + 1 * (j 1).val = (j 1).val; rw [(p1_index t).2.1.2]; omega

theorem p1_in2 (c : Dev nD) (t : Fin cfg1.N) : (iblk1 V c 2 t : Mat 512 2048) = rows (b := 2048) (V c main_v5) t := by
  funext j
  unfold iblk1
  rw [View.read_apply]
  show V c main_v5 _ = V c main_v5 _
  congr 1; funext a; apply Fin.ext
  match a with
  | ⟨0, _⟩ => show win1_2.index t 0 * 512 + 1 * (j 0).val = t.val * 512 + (j 0).val; rw [(p1_index t).2.2.1.1]; omega
  | ⟨1, _⟩ => show win1_2.index t 1 * 2048 + 1 * (j 1).val = (j 1).val; rw [(p1_index t).2.2.1.2]; omega

theorem p1_in3 (c : Dev nD) (t : Fin cfg1.N) : (iblk1 V c 3 t : Mat 2048 512) = V c main_v9 := by
  funext j
  unfold iblk1
  rw [View.read_apply]
  show V c main_v9 _ = V c main_v9 _
  congr 1; funext a; apply Fin.ext
  match a with
  | ⟨0, _⟩ => show win1_3.index t 0 * 2048 + 1 * (j 0).val = (j 0).val; rw [(p1_index t).2.2.2.1.1]; omega
  | ⟨1, _⟩ => show win1_3.index t 1 * 512 + 1 * (j 1).val = (j 1).val; rw [(p1_index t).2.2.2.1.2]; omega

theorem p1_in4 (c : Dev nD) (t : Fin cfg1.N) : (iblk1 V c 4 t : Mat 512 512) = rows (b := 512) (V c main_v1) t := by
  funext j
  unfold iblk1
  rw [View.read_apply]
  show V c main_v1 _ = V c main_v1 _
  congr 1; funext a; apply Fin.ext
  match a with
  | ⟨0, _⟩ => show win1_4.index t 0 * 512 + 1 * (j 0).val = t.val * 512 + (j 0).val; rw [(p1_index t).2.2.2.2.1.1]; omega
  | ⟨1, _⟩ => show win1_4.index t 1 * 512 + 1 * (j 1).val = (j 1).val; rw [(p1_index t).2.2.2.2.1.2]; omega

/-! ## The running sums -/

/-- The residual of the distances: what is left of one distance matrix after the other, carried over, is taken away. -/
def p1Dist (c : Dev nD) : Mat 2048 2048 :=
  diff (V c main_v5) (prod (a := 2048) (k := 2048) (b := 2048) (V c main_arg2) (V c main_v10))

/-- The residual of the features. -/
def p1Feat (c : Dev nD) : Mat 2048 512 :=
  diff (V c main_v1) (prod (a := 2048) (k := 2048) (b := 512) (V c main_arg2) (V c main_v9))

theorem p1_dist_pay (c : Dev nD) (t : Fin cfg1.N) (s : EReal) :
    k1_pay1 (iblk1 V c 0 t) (iblk1 V c 1 t) (iblk1 V c 2 t) s = s + sumSq (rows (p1Dist V c) t) := by
  refine (p1_dist _ _ _ _).trans ?_
  rw [p1_in0, p1_in1, p1_in2]; rfl

theorem p1_dist_zero (c : Dev nD) (t : Fin cfg1.N) (h : t.val % 4 = 0) :
    (outsAt1 V c t.val t.isLt).1 = fun _ => 0 + sumSq (rows (p1Dist V c) t) := by
  rw [outsAt1_A V c t h]
  dsimp only
  rw [p1_first5]
  exact funext fun _ => p1_dist_pay V c t 0

theorem p1_dist_step (c : Dev nD) (t : Fin cfg1.N) (h : ¬t.val % 4 = 0) :
    (outsAt1 V c t.val t.isLt).1 = fun _ =>
      (outsAt1 V c (t.val - 1) (Nat.lt_of_le_of_lt (Nat.sub_le _ _) t.isLt)).1 (ix2 0 0) + sumSq (rows (p1Dist V c) t) := by
  rw [outsAt1_B V c t h]
  dsimp only
  rw [p1_later5]
  exact funext fun _ => p1_dist_pay V c t _

/-- After the last block the cell holds the sum over the whole matrix. -/
theorem p1_dist_last (c : Dev nD) : (outsAt1 V c t1_3.val t1_3.isLt).1 = fun _ => sumSq (p1Dist V c) := by
  have e0 := p1_dist_zero V c t1_0 rfl
  have e1 := p1_dist_step V c t1_1 (by decide)
  have e2 := p1_dist_step V c t1_2 (by decide)
  have e3 := p1_dist_step V c t1_3 (by decide)
  rw [show (outsAt1 V c (t1_1.val - 1) _).1 = _ from e0] at e1
  rw [show (outsAt1 V c (t1_2.val - 1) _).1 = _ from e1] at e2
  rw [show (outsAt1 V c (t1_3.val - 1) _).1 = _ from e2] at e3
  rw [e3, sumSq_blocks, Fin.sum_univ_four, zero_add]; rfl

theorem p1_feat_pay (c : Dev nD) (t : Fin cfg1.N) (s : EReal) :
    k1_pay2 (iblk1 V c 4 t) (iblk1 V c 0 t) (iblk1 V c 3 t) s = s + sumSq (rows (p1Feat V c) t) := by
  refine (p1_feat _ _ _ _).trans ?_
  rw [p1_in4, p1_in0, p1_in3]; rfl

theorem p1_feat_zero (c : Dev nD) (t : Fin cfg1.N) (h : t.val % 4 = 0) :
    (outsAt1 V c t.val t.isLt).2 = fun _ => 0 + sumSq (rows (p1Feat V c) t) := by
  rw [outsAt1_A V c t h]
  dsimp only
  rw [p1_first6]
  exact funext fun _ => p1_feat_pay V c t 0

theorem p1_feat_step (c : Dev nD) (t : Fin cfg1.N) (h : ¬t.val % 4 = 0) :
    (outsAt1 V c t.val t.isLt).2 = fun _ =>
      (outsAt1 V c (t.val - 1) (Nat.lt_of_le_of_lt (Nat.sub_le _ _) t.isLt)).2 (ix2 0 0) + sumSq (rows (p1Feat V c) t) := by
  rw [outsAt1_B V c t h]
  dsimp only
  rw [p1_later6]
  exact funext fun _ => p1_feat_pay V c t _

/-- After the last block the cell holds the sum over the whole matrix. -/
theorem p1_feat_last (c : Dev nD) : (outsAt1 V c t1_3.val t1_3.isLt).2 = fun _ => sumSq (p1Feat V c) := by
  have e0 := p1_feat_zero V c t1_0 rfl
  have e1 := p1_feat_step V c t1_1 (by decide)
  have e2 := p1_feat_step V c t1_2 (by decide)
  have e3 := p1_feat_step V c t1_3 (by decide)
  rw [show (outsAt1 V c (t1_1.val - 1) _).2 = _ from e0] at e1
  rw [show (outsAt1 V c (t1_2.val - 1) _).2 = _ from e1] at e2
  rw [show (outsAt1 V c (t1_3.val - 1) _).2 = _ from e2] at e3
  rw [e3, sumSq_blocks, Fin.sum_univ_four, zero_add]; rfl

theorem p1_dist_array (c : Dev nD) :
    (dat1 V c).arrAt 5 cfg1.N = ((fun _ => sumSq (p1Dist V c)) : Buf (Elt Ideal) ((c : Thread nD τ).loc main_v11_0)) :=
  (dat1 V c).arrAt_eq_of_cover 5 ((fun _ => sumSq (p1Dist V c)) : Buf (Elt Ideal) ((c : Thread nD τ).loc main_v11_0))
    (fun t hf => by
      have h3 : t.val = 3 := by
        have h := (flush1_5 t).mp hf
        have ht : t.val < 4 := Nat.lt_of_lt_of_eq t.isLt N_1
        omega
      obtain rfl : t = t1_3 := Fin.ext h3
      show (cfg1.win 5).cut (grid1.coords t1_3) ((dat1 V c).after 5 t1_3) = _
      rw [after1_5, p1_dist_last]
      rfl)
    fun i => by
      have h0 : (i 0 : Nat) < 1 := (i 0).isLt
      have h1 : (i 1 : Nat) < 1 := (i 1).isLt
      refine ⟨t1_3, (flush1_5 t1_3).mpr rfl, ?_⟩
      show i ∈ ((View.whole main_v11_0).slice (win1_5.rect t1_3)).set
      rw [View.set_slice_whole, Rect.mem_set_unit]
      intro a
      match a with
      | ⟨0, _⟩ => show win1_5.index t1_3 0 * 1 ≤ (i 0 : Nat) ∧ (i 0 : Nat) < win1_5.index t1_3 0 * 1 + 1
                  rw [(p1_index t1_3).2.2.2.2.2.1.1]; omega
      | ⟨1, _⟩ => show win1_5.index t1_3 1 * 1 ≤ (i 1 : Nat) ∧ (i 1 : Nat) < win1_5.index t1_3 1 * 1 + 1
                  rw [(p1_index t1_3).2.2.2.2.2.1.2]; omega

theorem p1_feat_array (c : Dev nD) :
    (dat1 V c).arrAt 6 cfg1.N = ((fun _ => sumSq (p1Feat V c)) : Buf (Elt Ideal) ((c : Thread nD τ).loc main_v11_1)) :=
  (dat1 V c).arrAt_eq_of_cover 6 ((fun _ => sumSq (p1Feat V c)) : Buf (Elt Ideal) ((c : Thread nD τ).loc main_v11_1))
    (fun t hf => by
      have h3 : t.val = 3 := by
        have h := (flush1_6 t).mp hf
        have ht : t.val < 4 := Nat.lt_of_lt_of_eq t.isLt N_1
        omega
      obtain rfl : t = t1_3 := Fin.ext h3
      show (cfg1.win 6).cut (grid1.coords t1_3) ((dat1 V c).after 6 t1_3) = _
      rw [after1_6, p1_feat_last]
      rfl)
    fun i => by
      have h0 : (i 0 : Nat) < 1 := (i 0).isLt
      have h1 : (i 1 : Nat) < 1 := (i 1).isLt
      refine ⟨t1_3, (flush1_6 t1_3).mpr rfl, ?_⟩
      show i ∈ ((View.whole main_v11_1).slice (win1_6.rect t1_3)).set
      rw [View.set_slice_whole, Rect.mem_set_unit]
      intro a
      match a with
      | ⟨0, _⟩ => show win1_6.index t1_3 0 * 1 ≤ (i 0 : Nat) ∧ (i 0 : Nat) < win1_6.index t1_3 0 * 1 + 1
                  rw [(p1_index t1_3).2.2.2.2.2.2.1]; omega
      | ⟨1, _⟩ => show win1_6.index t1_3 1 * 1 ≤ (i 1 : Nat) ∧ (i 1 : Nat) < win1_6.index t1_3 1 * 1 + 1
                  rw [(p1_index t1_3).2.2.2.2.2.2.2]; omega

end Cert.Align

end
-- ==== Proof.RegionP2.lean ====
/-
  The call `p2`: two running sums in scalar memory, cleared at the first of four row blocks, each block adding its squared
  residuals. After the last block they hold the squared residuals of the whole matrices.
-/
module

public import proofs.«01_k».proof.Proof.RegionT

@[expose] public section

noncomputable section

namespace Cert.Align

open Idealize.ShloMosaic Idealize.ShloMosaic.TcCoe Idealize.ShloMosaic.ValueIdx Cert.KernelIdeal Cert.KernelIdeal.Gen
open Idealize.ShloMosaic.Pipeline (Dat)
open scoped BigOperators

/-! ## What one point leaves in each cell -/

/-- A later block leaves the running sum plus its own squared residuals. -/
theorem p2_later5 (c : Dev nD) (i : grid3.Coords)
    (a1 : Memref sig .tc .vmem S2048x512 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : ¬cond3_0 i) (x0 : Vec Ideal S2048x512 .bf16)
    (x1 : Vec Ideal S2048x2048 .bf16) (x2 : Vec Ideal S512x2048 .f32) (x3 : Vec Ideal S2048x512 .bf16) (x4 : Vec Ideal S512x512 .f32)
    (xo5 xo6 : Vec Ideal S1x1 .f32) :
    out3_B_5 c i a1 h1 a2 h2 a3 h3 a4 h4 a5 h5 a6 h6 a7 h7 hc x0 x1 x2 x3 x4 xo5 xo6 = fun _ => k3_pay1 x0 x1 x2 (xo5 (ix2 0 0)) := by
  unfold out3_B_5
  rw [View.read_writes_eq_canon _ _ _ (cover3_B_5 c i a1 h1 a2 h2 a3 h3 a4 h4 a5 h5 a6 h6 a7 h7 hc x0 x1 x2 x3 x4 xo5 xo6)]
  unfold kernelRun3_B
  dsimp only
  sl_unfold_words
  rw [View.canon_unit_zero offsets_zero]
  simp only [View.readAt_eq_ld, h1.read_unread, h2.read_unread, h3.read_unread, h4.read_unread, h5.read_unread,
    h6.read_unread, View.ld_unit_zero (S := S2048x512) offsets_zero, View.ld_unit_zero (S := S2048x2048) offsets_zero,
    View.ld_unit_zero (S := S512x2048) offsets_zero, View.ld_unit_zero (S := S2048x512) offsets_zero,
    View.ld_unit_zero (S := S512x512) offsets_zero]
  exact funext fun _ => congrArg (k3_pay1 x0 x1 x2) (congrArg xo5 (one_cell _))

/-- The first block leaves its own squared residuals over a cleared cell. -/
theorem p2_first5 (c : Dev nD) (i : grid3.Coords)
    (a1 : Memref sig .tc .vmem S2048x512 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : cond3_0 i) (x0 : Vec Ideal S2048x512 .bf16)
    (x1 : Vec Ideal S2048x2048 .bf16) (x2 : Vec Ideal S512x2048 .f32) (x3 : Vec Ideal S2048x512 .bf16) (x4 : Vec Ideal S512x512 .f32) :
    out3_A_5 c i a1 h1 a2 h2 a3 h3 a4 h4 a5 h5 a6 h6 a7 h7 hc x0 x1 x2 x3 x4 = fun _ => k3_pay1 x0 x1 x2 (0 : EReal) := by
  unfold out3_A_5
  rw [View.read_writes_eq_canon _ _ _ (cover3_A_5 c i a1 h1 a2 h2 a3 h3 a4 h4 a5 h5 a6 h6 a7 h7 hc x0 x1 x2 x3 x4)]
  unfold kernelRun3_A
  dsimp only
  sl_unfold_words
  rw [View.canon_cons_unit_zero (S := S1x1) offsets_zero]
  simp only [View.readAt_eq_ld, h1.read_unread, h2.read_unread, h3.read_unread, h4.read_unread, h5.read_unread,
    View.ld_unit_zero (S := S2048x512) offsets_zero, View.ld_unit_zero (S := S2048x2048) offsets_zero,
    View.ld_unit_zero (S := S512x2048) offsets_zero, View.ld_unit_zero (S := S2048x512) offsets_zero,
    View.ld_unit_zero (S := S512x512) offsets_zero]
  rw [show (FloatOps.ofBits (F := Ideal) .f32 0x00000000#32 : EReal) = 0 from Ideal.ofBits_zero_f32]
  rfl

/-- A later block leaves the running sum plus its own squared residuals. -/
theorem p2_later6 (c : Dev nD) (i : grid3.Coords)
    (a1 : Memref sig .tc .vmem S2048x512 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : ¬cond3_0 i) (x0 : Vec Ideal S2048x512 .bf16)
    (x1 : Vec Ideal S2048x2048 .bf16) (x2 : Vec Ideal S512x2048 .f32) (x3 : Vec Ideal S2048x512 .bf16) (x4 : Vec Ideal S512x512 .f32)
    (xo5 xo6 : Vec Ideal S1x1 .f32) :
    out3_B_6 c i a1 h1 a2 h2 a3 h3 a4 h4 a5 h5 a6 h6 a7 h7 hc x0 x1 x2 x3 x4 xo5 xo6 = fun _ => k3_pay2 x4 x0 x3 (xo6 (ix2 0 0)) := by
  unfold out3_B_6
  rw [View.read_writes_eq_canon _ _ _ (cover3_B_6 c i a1 h1 a2 h2 a3 h3 a4 h4 a5 h5 a6 h6 a7 h7 hc x0 x1 x2 x3 x4 xo5 xo6)]
  unfold kernelRun3_B
  dsimp only
  sl_unfold_words
  rw [View.canon_unit_zero offsets_zero]
  simp only [View.readAt_eq_ld, h1.read_unread, h2.read_unread, h3.read_unread, h4.read_unread, h5.read_unread,
    h7.read_unread, View.ld_unit_zero (S := S2048x512) offsets_zero, View.ld_unit_zero (S := S2048x2048) offsets_zero,
    View.ld_unit_zero (S := S512x2048) offsets_zero, View.ld_unit_zero (S := S2048x512) offsets_zero,
    View.ld_unit_zero (S := S512x512) offsets_zero]
  exact funext fun _ => congrArg (k3_pay2 x4 x0 x3) (congrArg xo6 (one_cell _))

/-- The first block leaves its own squared residuals over a cleared cell. -/
theorem p2_first6 (c : Dev nD) (i : grid3.Coords)
    (a1 : Memref sig .tc .vmem S2048x512 .bf16) (h1 : a1.IsWhole) (a2 : Memref sig .tc .vmem S2048x2048 .bf16) (h2 : a2.IsWhole)
    (a3 : Memref sig .tc .vmem S512x2048 .f32) (h3 : a3.IsWhole) (a4 : Memref sig .tc .vmem S2048x512 .bf16) (h4 : a4.IsWhole)
    (a5 : Memref sig .tc .vmem S512x512 .f32) (h5 : a5.IsWhole) (a6 : Memref sig .tc .smem S1x1 .f32) (h6 : a6.IsWhole)
    (a7 : Memref sig .tc .smem S1x1 .f32) (h7 : a7.IsWhole) (hc : cond3_0 i) (x0 : Vec Ideal S2048x512 .bf16)
    (x1 : Vec Ideal S2048x2048 .bf16) (x2 : Vec Ideal S512x2048 .f32) (x3 : Vec Ideal S2048x512 .bf16) (x4 : Vec Ideal S512x512 .f32) :
    out3_A_6 c i a1 h1 a2 h2 a3 h3 a4 h4 a5 h5 a6 h6 a7 h7 hc x0 x1 x2 x3 x4 = fun _ => k3_pay2 x4 x0 x3 (0 : EReal) := by
  unfold out3_A_6
  rw [View.read_writes_eq_canon _ _ _ (cover3_A_6 c i a1 h1 a2 h2 a3 h3 a4 h4 a5 h5 a6 h6 a7 h7 hc x0 x1 x2 x3 x4)]
  unfold kernelRun3_A
  dsimp only
  sl_unfold_words
  rw [View.canon_cons_unit_zero (S := S1x1) offsets_zero]
  simp only [View.readAt_eq_ld, h1.read_unread, h2.read_unread, h3.read_unread, h4.read_unread, h5.read_unread,
    View.ld_unit_zero (S := S2048x512) offsets_zero, View.ld_unit_zero (S := S2048x2048) offsets_zero,
    View.ld_unit_zero (S := S512x2048) offsets_zero, View.ld_unit_zero (S := S2048x512) offsets_zero,
    View.ld_unit_zero (S := S512x512) offsets_zero]
  rw [show (FloatOps.ofBits (F := Ideal) .f32 0x00000000#32 : EReal) = 0 from Ideal.ofBits_zero_f32]
  rfl

variable (V : (c : Dev nD) → (b : Ref sig .tc) → Buf (Elt Ideal) ((c : Thread nD τ).loc b))

/-! ## The blocks a point reads -/

theorem p2_index : ∀ t : Fin cfg3.N,
    (win3_0.index t 0 = 0 ∧ win3_0.index t 1 = t.val) ∧
    (win3_1.index t 0 = 0 ∧ win3_1.index t 1 = 0) ∧
    (win3_2.index t 0 = t.val ∧ win3_2.index t 1 = 0) ∧
    (win3_3.index t 0 = 0 ∧ win3_3.index t 1 = 0) ∧
    (win3_4.index t 0 = t.val ∧ win3_4.index t 1 = 0) ∧
    (win3_5.index t 0 = 0 ∧ win3_5.index t 1 = 0) ∧
    (win3_6.index t 0 = 0 ∧ win3_6.index t 1 = 0) := by decide +kernel

theorem p2_in0 (c : Dev nD) (t : Fin cfg3.N) : (iblk3 V c 0 t : Mat 2048 512) = cols (a := 2048) (V c main_arg3) t := by
  funext j
  unfold iblk3
  rw [View.read_apply]
  show V c main_arg3 _ = V c main_arg3 _
  congr 1; funext a; apply Fin.ext
  match a with
  | ⟨0, _⟩ => show win3_0.index t 0 * 2048 + 1 * (j 0).val = (j 0).val; rw [(p2_index t).1.1]; omega
  | ⟨1, _⟩ => show win3_0.index t 1 * 512 + 1 * (j 1).val = t.val * 512 + (j 1).val; rw [(p2_index t).1.2]; omega

theorem p2_in1 (c : Dev nD) (t : Fin cfg3.N) : (iblk3 V c 1 t : Mat 2048 2048) = V c main_v12 := by
  funext j
  unfold iblk3
  rw [View.read_apply]
  show V c main_v12 _ = V c main_v12 _
  congr 1; funext a; apply Fin.ext
  match a with
  | ⟨0, _⟩ => show win3_1.index t 0 * 2048 + 1 * (j 0).val = (j 0).val; rw [(p2_index t).2.1.1]; omega
  | ⟨1, _⟩ => show win3_1.index t 1 * 2048 + 1 * (j 1).val = (j 1).val; rw [(p2_index t).2.1.2]; omega

theorem p2_in2 (c : Dev nD) (t : Fin cfg3.N) : (iblk3 V c 2 t : Mat 512 2048) = rows (b := 2048) (V c main_v7) t := by
  funext j
  unfold iblk3
  rw [View.read_apply]
  show V c main_v7 _ = V c main_v7 _
  congr 1; funext a; apply Fin.ext
  match a with
  | ⟨0, _⟩ => show win3_2.index t 0 * 512 + 1 * (j 0).val = t.val * 512 + (j 0).val; rw [(p2_index t).2.2.1.1]; omega
  | ⟨1, _⟩ => show win3_2.index t 1 * 2048 + 1 * (j 1).val = (j 1).val; rw [(p2_index t).2.2.1.2]; omega

theorem p2_in3 (c : Dev nD) (t : Fin cfg3.N) : (iblk3 V c 3 t : Mat 2048 512) = V c main_v8 := by
  funext j
  unfold iblk3
  rw [View.read_apply]
  show V c main_v8 _ = V c main_v8 _
  congr 1; funext a; apply Fin.ext
  match a with
  | ⟨0, _⟩ => show win3_3.index t 0 * 2048 + 1 * (j 0).val = (j 0).val; rw [(p2_index t).2.2.2.1.1]; omega
  | ⟨1, _⟩ => show win3_3.index t 1 * 512 + 1 * (j 1).val = (j 1).val; rw [(p2_index t).2.2.2.1.2]; omega

theorem p2_in4 (c : Dev nD) (t : Fin cfg3.N) : (iblk3 V c 4 t : Mat 512 512) = rows (b := 512) (V c main_v3) t := by
  funext j
  unfold iblk3
  rw [View.read_apply]
  show V c main_v3 _ = V c main_v3 _
  congr 1; funext a; apply Fin.ext
  match a with
  | ⟨0, _⟩ => show win3_4.index t 0 * 512 + 1 * (j 0).val = t.val * 512 + (j 0).val; rw [(p2_index t).2.2.2.2.1.1]; omega
  | ⟨1, _⟩ => show win3_4.index t 1 * 512 + 1 * (j 1).val = (j 1).val; rw [(p2_index t).2.2.2.2.1.2]; omega

/-! ## The running sums -/

/-- The residual of the distances: what is left of one distance matrix after the other, carried over, is taken away. -/
def p2Dist (c : Dev nD) : Mat 2048 2048 :=
  diff (V c main_v7) (prod (a := 2048) (k := 2048) (b := 2048) (flip (a := 2048) (b := 2048) (V c main_arg3)) (V c main_v12))

/-- The residual of the features. -/
def p2Feat (c : Dev nD) : Mat 2048 512 :=
  diff (V c main_v3) (prod (a := 2048) (k := 2048) (b := 512) (flip (a := 2048) (b := 2048) (V c main_arg3)) (V c main_v8))

theorem p2_dist_pay (c : Dev nD) (t : Fin cfg3.N) (s : EReal) :
    k3_pay1 (iblk3 V c 0 t) (iblk3 V c 1 t) (iblk3 V c 2 t) s = s + sumSq (rows (p2Dist V c) t) := by
  refine (p2_dist _ _ _ _).trans ?_
  rw [p2_in0, p2_in1, p2_in2]; rfl

theorem p2_dist_zero (c : Dev nD) (t : Fin cfg3.N) (h : t.val % 4 = 0) :
    (outsAt3 V c t.val t.isLt).1 = fun _ => 0 + sumSq (rows (p2Dist V c) t) := by
  rw [outsAt3_A V c t h]
  dsimp only
  rw [p2_first5]
  exact funext fun _ => p2_dist_pay V c t 0

theorem p2_dist_step (c : Dev nD) (t : Fin cfg3.N) (h : ¬t.val % 4 = 0) :
    (outsAt3 V c t.val t.isLt).1 = fun _ =>
      (outsAt3 V c (t.val - 1) (Nat.lt_of_le_of_lt (Nat.sub_le _ _) t.isLt)).1 (ix2 0 0) + sumSq (rows (p2Dist V c) t) := by
  rw [outsAt3_B V c t h]
  dsimp only
  rw [p2_later5]
  exact funext fun _ => p2_dist_pay V c t _

/-- After the last block the cell holds the sum over the whole matrix. -/
theorem p2_dist_last (c : Dev nD) : (outsAt3 V c t3_3.val t3_3.isLt).1 = fun _ => sumSq (p2Dist V c) := by
  have e0 := p2_dist_zero V c t3_0 rfl
  have e1 := p2_dist_step V c t3_1 (by decide)
  have e2 := p2_dist_step V c t3_2 (by decide)
  have e3 := p2_dist_step V c t3_3 (by decide)
  rw [show (outsAt3 V c (t3_1.val - 1) _).1 = _ from e0] at e1
  rw [show (outsAt3 V c (t3_2.val - 1) _).1 = _ from e1] at e2
  rw [show (outsAt3 V c (t3_3.val - 1) _).1 = _ from e2] at e3
  rw [e3, sumSq_blocks, Fin.sum_univ_four, zero_add]; rfl

theorem p2_feat_pay (c : Dev nD) (t : Fin cfg3.N) (s : EReal) :
    k3_pay2 (iblk3 V c 4 t) (iblk3 V c 0 t) (iblk3 V c 3 t) s = s + sumSq (rows (p2Feat V c) t) := by
  refine (p2_feat _ _ _ _).trans ?_
  rw [p2_in4, p2_in0, p2_in3]; rfl

theorem p2_feat_zero (c : Dev nD) (t : Fin cfg3.N) (h : t.val % 4 = 0) :
    (outsAt3 V c t.val t.isLt).2 = fun _ => 0 + sumSq (rows (p2Feat V c) t) := by
  rw [outsAt3_A V c t h]
  dsimp only
  rw [p2_first6]
  exact funext fun _ => p2_feat_pay V c t 0

theorem p2_feat_step (c : Dev nD) (t : Fin cfg3.N) (h : ¬t.val % 4 = 0) :
    (outsAt3 V c t.val t.isLt).2 = fun _ =>
      (outsAt3 V c (t.val - 1) (Nat.lt_of_le_of_lt (Nat.sub_le _ _) t.isLt)).2 (ix2 0 0) + sumSq (rows (p2Feat V c) t) := by
  rw [outsAt3_B V c t h]
  dsimp only
  rw [p2_later6]
  exact funext fun _ => p2_feat_pay V c t _

/-- After the last block the cell holds the sum over the whole matrix. -/
theorem p2_feat_last (c : Dev nD) : (outsAt3 V c t3_3.val t3_3.isLt).2 = fun _ => sumSq (p2Feat V c) := by
  have e0 := p2_feat_zero V c t3_0 rfl
  have e1 := p2_feat_step V c t3_1 (by decide)
  have e2 := p2_feat_step V c t3_2 (by decide)
  have e3 := p2_feat_step V c t3_3 (by decide)
  rw [show (outsAt3 V c (t3_1.val - 1) _).2 = _ from e0] at e1
  rw [show (outsAt3 V c (t3_2.val - 1) _).2 = _ from e1] at e2
  rw [show (outsAt3 V c (t3_3.val - 1) _).2 = _ from e2] at e3
  rw [e3, sumSq_blocks, Fin.sum_univ_four, zero_add]; rfl

theorem p2_dist_array (c : Dev nD) :
    (dat3 V c).arrAt 5 cfg3.N = ((fun _ => sumSq (p2Dist V c)) : Buf (Elt Ideal) ((c : Thread nD τ).loc main_v13_0)) :=
  (dat3 V c).arrAt_eq_of_cover 5 ((fun _ => sumSq (p2Dist V c)) : Buf (Elt Ideal) ((c : Thread nD τ).loc main_v13_0))
    (fun t hf => by
      have h3 : t.val = 3 := by
        have h := (flush3_5 t).mp hf
        have ht : t.val < 4 := Nat.lt_of_lt_of_eq t.isLt N_3
        omega
      obtain rfl : t = t3_3 := Fin.ext h3
      show (cfg3.win 5).cut (grid3.coords t3_3) ((dat3 V c).after 5 t3_3) = _
      rw [after3_5, p2_dist_last]
      rfl)
    fun i => by
      have h0 : (i 0 : Nat) < 1 := (i 0).isLt
      have h1 : (i 1 : Nat) < 1 := (i 1).isLt
      refine ⟨t3_3, (flush3_5 t3_3).mpr rfl, ?_⟩
      show i ∈ ((View.whole main_v13_0).slice (win3_5.rect t3_3)).set
      rw [View.set_slice_whole, Rect.mem_set_unit]
      intro a
      match a with
      | ⟨0, _⟩ => show win3_5.index t3_3 0 * 1 ≤ (i 0 : Nat) ∧ (i 0 : Nat) < win3_5.index t3_3 0 * 1 + 1
                  rw [(p2_index t3_3).2.2.2.2.2.1.1]; omega
      | ⟨1, _⟩ => show win3_5.index t3_3 1 * 1 ≤ (i 1 : Nat) ∧ (i 1 : Nat) < win3_5.index t3_3 1 * 1 + 1
                  rw [(p2_index t3_3).2.2.2.2.2.1.2]; omega

theorem p2_feat_array (c : Dev nD) :
    (dat3 V c).arrAt 6 cfg3.N = ((fun _ => sumSq (p2Feat V c)) : Buf (Elt Ideal) ((c : Thread nD τ).loc main_v13_1)) :=
  (dat3 V c).arrAt_eq_of_cover 6 ((fun _ => sumSq (p2Feat V c)) : Buf (Elt Ideal) ((c : Thread nD τ).loc main_v13_1))
    (fun t hf => by
      have h3 : t.val = 3 := by
        have h := (flush3_6 t).mp hf
        have ht : t.val < 4 := Nat.lt_of_lt_of_eq t.isLt N_3
        omega
      obtain rfl : t = t3_3 := Fin.ext h3
      show (cfg3.win 6).cut (grid3.coords t3_3) ((dat3 V c).after 6 t3_3) = _
      rw [after3_6, p2_feat_last]
      rfl)
    fun i => by
      have h0 : (i 0 : Nat) < 1 := (i 0).isLt
      have h1 : (i 1 : Nat) < 1 := (i 1).isLt
      refine ⟨t3_3, (flush3_6 t3_3).mpr rfl, ?_⟩
      show i ∈ ((View.whole main_v13_1).slice (win3_6.rect t3_3)).set
      rw [View.set_slice_whole, Rect.mem_set_unit]
      intro a
      match a with
      | ⟨0, _⟩ => show win3_6.index t3_3 0 * 1 ≤ (i 0 : Nat) ∧ (i 0 : Nat) < win3_6.index t3_3 0 * 1 + 1
                  rw [(p2_index t3_3).2.2.2.2.2.2.1]; omega
      | ⟨1, _⟩ => show win3_6.index t3_3 1 * 1 ≤ (i 1 : Nat) ∧ (i 1 : Nat) < win3_6.index t3_3 1 * 1 + 1
                  rw [(p2_index t3_3).2.2.2.2.2.2.2]; omega

end Cert.Align

end
-- ==== Proof.Answer.lean ====
/-
  The two losses as a function of the arguments: `d₀, d₁` the distance matrices, `f₀, f₁` the feature matrices, `p` the
  transport matrix and `q` the second one as given, transposed.

    features    (Σ (f₀ − p f₁)² + Σ (f₁ − qᵀ f₀)²) / 2²⁰
    distances   (√ Σ (d₀ − p (d₁ pᵀ))² + √ Σ (d₁ − qᵀ (d₀ q))²) / 2048

  over the extended reals. Sums of squares and their roots are not negative, so a quotient of a sum is the sum of the
  quotients, with no condition on the arguments.
-/
module

public import proofs.«01_k».proof.Proof.Blocks

@[expose] public section

noncomputable section

namespace Cert.Align

open Idealize.ShloMosaic Idealize.ShloMosaic.ValueIdx
open scoped BigOperators

/-- What is left of the first features after the second ones, carried over by `p`, are taken away. -/
def featLeft (f₀ f₁ : Mat 2048 512) (p : Mat 2048 2048) : Mat 2048 512 := diff f₀ (prod p f₁)

/-- What is left of the first distances after the second ones, carried over by `p` on both sides, are taken away. -/
def distLeft (d₀ d₁ p : Mat 2048 2048) : Mat 2048 2048 := diff d₀ (prod p (prod d₁ (flip p)))

/-- 2²⁰, the number of entries of a feature matrix, as the programs write it. -/
def entries : EReal := Ideal.ofBits .f32 0x49800000#32

/-- 2048, the number of nodes, as the programs write it. -/
def nodes : EReal := Ideal.ofBits .f32 0x45000000#32

/-- The alignment loss of the features. -/
def featLoss (f₀ f₁ : Mat 2048 512) (p q : Mat 2048 2048) : EReal :=
  Ideal.div (sumSq (featLeft f₀ f₁ p) + sumSq (featLeft f₁ f₀ (flip q))) entries

/-- The loss of the distances. -/
def distLoss (d₀ d₁ p q : Mat 2048 2048) : EReal :=
  Ideal.div (Ideal.sqrt (sumSq (distLeft d₀ d₁ p)) + Ideal.sqrt (sumSq (distLeft d₁ d₀ (flip q)))) nodes

theorem entries_ne : entries ≠ 0 := by
  unfold entries
  rw [show (Ideal.ofBits .f32 0x49800000#32 : EReal) = ((1048576 : ℝ) : EReal) by
    simp [Ideal.ofBits, Ideal.ieee, -EReal.coe_mul]; norm_num]
  exact_mod_cast (by norm_num : (1048576 : ℝ) ≠ 0)

theorem nodes_ne : nodes ≠ 0 := by
  unfold nodes
  rw [show (Ideal.ofBits .f32 0x45000000#32 : EReal) = ((2048 : ℝ) : EReal) by
    simp [Ideal.ofBits, Ideal.ieee, -EReal.coe_mul]; norm_num]
  exact_mod_cast (by norm_num : (2048 : ℝ) ≠ 0)

/-- The features' loss term by term, as the reference adds it. -/
theorem featLoss_split (f₀ f₁ : Mat 2048 512) (p q : Mat 2048 2048) : featLoss f₀ f₁ p q =
    Ideal.div (sumSq (featLeft f₀ f₁ p)) entries + Ideal.div (sumSq (featLeft f₁ f₀ (flip q))) entries :=
  div_add (sumSq_nonneg _) (sumSq_nonneg _) _ entries_ne

/-- The distances' loss term by term, as the reference adds it. -/
theorem distLoss_split (d₀ d₁ p q : Mat 2048 2048) : distLoss d₀ d₁ p q =
    Ideal.div (Ideal.sqrt (sumSq (distLeft d₀ d₁ p))) nodes + Ideal.div (Ideal.sqrt (sumSq (distLeft d₁ d₀ (flip q)))) nodes :=
  div_add (sqrt_nonneg (sumSq_nonneg _)) (sqrt_nonneg (sumSq_nonneg _)) _ nodes_ne

end Cert.Align

end
-- ==== Proof.KernelRun.lean ====
/-
  The kernel's run: every execution ends with each buffer at the contents the host stretches and the four calls leave in
  turn, the arguments as launched. Then the result buffer, read back through them.
-/
module

public import proofs.«01_k».proof.Proof.RegionP1
public import proofs.«01_k».proof.Proof.RegionP2
public import proofs.«01_k».proof.Proof.Answer

@[expose] public section

set_option maxRecDepth 16384

noncomputable section

namespace Cert.Align

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Cert.KernelIdeal Cert.KernelIdeal.Gen

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)

set_option backward.isDefEq.respectTransparency.types false in
/-- Every execution terminates with the result buffer at the last boundary's contents and the arguments as launched. -/
theorem kernel_run : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Launch

/-! ## The result buffer -/

/-- The feature matrix of the first graph, and of the second. -/
def feat0 (x : Vec Ideal S2x2048x512 .f32) : Mat 2048 512 :=
  shapeCast S2048x512 (extractStridedSlice S1x2048x512 ![0, 0, 0] x slices_S2x2048x512_S1x2048x512_0_0_0) shapeCasts_S1x2048x512_S2048x512
def feat1 (x : Vec Ideal S2x2048x512 .f32) : Mat 2048 512 :=
  shapeCast S2048x512 (extractStridedSlice S1x2048x512 ![1, 0, 0] x slices_S2x2048x512_S1x2048x512_1_0_0) shapeCasts_S1x2048x512_S2048x512

/-- The distance matrix of the first graph, and of the second. -/
def dist0 (x : Vec Ideal S2x2048x2048 .f32) : Mat 2048 2048 :=
  shapeCast S2048x2048 (extractStridedSlice S1x2048x2048 ![0, 0, 0] x slices_S2x2048x2048_S1x2048x2048_0_0_0) shapeCasts_S1x2048x2048_S2048x2048
def dist1 (x : Vec Ideal S2x2048x2048 .f32) : Mat 2048 2048 :=
  shapeCast S2048x2048 (extractStridedSlice S1x2048x2048 ![1, 0, 0] x slices_S2x2048x2048_S1x2048x2048_1_0_0) shapeCasts_S1x2048x2048_S2048x2048

/-- The two losses side by side, as both programs return them. -/
def pair (x y : EReal) : Vec Ideal S2 .f32 :=
  concatenate S2 0 [⟨S1, broadcastInDim S1 ![] bcast_S_S1 ((fun _ => x) : Vec Ideal S_ .f32)⟩,
    ⟨S1, broadcastInDim S1 ![] bcast_S_S1 ((fun _ => y) : Vec Ideal S_ .f32)⟩] concatenates_S1_S1_S2_d0

/-- The two results as a function of the four arguments. -/
def answer (a0 : Vec Ideal S2x2048x512 .f32) (a1 : Vec Ideal S2x2048x2048 .f32) (a2 a3 : Mat 2048 2048) : Vec Ideal S2 .f32 :=
  pair (featLoss (feat0 a0) (feat1 a0) a2 a3) (distLoss (dist0 a1) (dist1 a1) a2 a3)

section Result

variable (m : (ℓ : Loc nD τ sig) → Buf (Elt Ideal) ℓ) (ρ : Dev nD → PrngReg) (c : Dev nD)

/-! What the first host stretch leaves. -/

theorem V1_v1 : V1 m ρ c main_v1 = feat0 (m ((c : Thread nD τ).loc main_arg0)) := by
  unfold V1 W1 hostOps0; after_results_simp; rfl
theorem V1_v3 : V1 m ρ c main_v3 = feat1 (m ((c : Thread nD τ).loc main_arg0)) := by
  unfold V1 W1 hostOps0; after_results_simp; rfl
theorem V1_v5 : V1 m ρ c main_v5 = dist0 (m ((c : Thread nD τ).loc main_arg1)) := by
  unfold V1 W1 hostOps0; after_results_simp; rfl
theorem V1_v7 : V1 m ρ c main_v7 = dist1 (m ((c : Thread nD τ).loc main_arg1)) := by
  unfold V1 W1 hostOps0; after_results_simp; rfl
theorem V1_v8 : V1 m ρ c main_v8 = feat0 (m ((c : Thread nD τ).loc main_arg0)) := by
  unfold V1 W1 hostOps0; after_results_simp; rfl
theorem V1_v9 : V1 m ρ c main_v9 = feat1 (m ((c : Thread nD τ).loc main_arg0)) := by
  unfold V1 W1 hostOps0; after_results_simp; rfl

/-! The four calls: what each leaves, what passes by. -/

theorem V2_of (r : Ref sig .tc) (h : ∀ w : Fin cfg0.W, Pipeline.arrRef spec0 w = r → (cfg0.win w).isOut = false) :
    V2 m ρ c r = V1 m ρ c r := W2_of m ρ c r h
theorem V3_of (r : Ref sig .tc) (h : ∀ w : Fin cfg1.W, Pipeline.arrRef spec1 w = r → (cfg1.win w).isOut = false) :
    V3 m ρ c r = V2 m ρ c r := W3_of m ρ c r h
theorem V4_of (r : Ref sig .tc) (h : ∀ w : Fin cfg2.W, Pipeline.arrRef spec2 w = r → (cfg2.win w).isOut = false) :
    V4 m ρ c r = V3 m ρ c r := W4_of m ρ c r h
theorem V5_of (r : Ref sig .tc) (h : ∀ w : Fin cfg3.W, Pipeline.arrRef spec3 w = r → (cfg3.win w).isOut = false) :
    V5 m ρ c r = V4 m ρ c r := W5_of m ρ c r h

theorem V1_arg2 : V1 m ρ c main_arg2 = m ((c : Thread nD τ).loc main_arg2) := W1_args m ρ c main_arg2 (by decide)
theorem V2_arg2 : V2 m ρ c main_arg2 = m ((c : Thread nD τ).loc main_arg2) := W2_args m ρ c main_arg2 (by decide)
theorem V3_arg3 : V3 m ρ c main_arg3 = m ((c : Thread nD τ).loc main_arg3) := W3_args m ρ c main_arg3 (by decide)
theorem V4_arg3 : V4 m ρ c main_arg3 = m ((c : Thread nD τ).loc main_arg3) := W4_args m ρ c main_arg3 (by decide)

theorem V2_v10 : V2 m ρ c main_v10 = t1Res (V1 m ρ) c := (W2_arr m ρ c 2).trans (t1_array (V1 m ρ) c)
theorem V4_v12 : V4 m ρ c main_v12 = t2Res (V3 m ρ) c := (W4_arr m ρ c 2).trans (t2_array (V3 m ρ) c)

theorem V5_dist1 : V5 m ρ c main_v11_0 = fun _ => sumSq (distLeft (dist0 (m ((c : Thread nD τ).loc main_arg1)))
    (dist1 (m ((c : Thread nD τ).loc main_arg1))) (m ((c : Thread nD τ).loc main_arg2))) := by
  rw [V5_of m ρ c _ (by decide), V4_of m ρ c _ (by decide)]
  refine ((W3_arr m ρ c 5).trans (p1_dist_array (V2 m ρ) c)).trans (funext fun _ => congrArg sumSq ?_)
  unfold p1Dist distLeft
  rw [V2_v10, V2_arg2, V2_of m ρ c main_v5 (by decide), V1_v5]
  unfold t1Res
  rw [V1_v7, V1_arg2]

theorem V5_feat1 : V5 m ρ c main_v11_1 = fun _ => sumSq (featLeft (feat0 (m ((c : Thread nD τ).loc main_arg0)))
    (feat1 (m ((c : Thread nD τ).loc main_arg0))) (m ((c : Thread nD τ).loc main_arg2))) := by
  rw [V5_of m ρ c _ (by decide), V4_of m ρ c _ (by decide)]
  refine ((W3_arr m ρ c 6).trans (p1_feat_array (V2 m ρ) c)).trans (funext fun _ => congrArg sumSq ?_)
  unfold p1Feat featLeft
  rw [V2_arg2, V2_of m ρ c main_v1 (by decide), V1_v1, V2_of m ρ c main_v9 (by decide), V1_v9]

theorem V5_dist2 : V5 m ρ c main_v13_0 = fun _ => sumSq (distLeft (dist1 (m ((c : Thread nD τ).loc main_arg1)))
    (dist0 (m ((c : Thread nD τ).loc main_arg1))) (flip (a := 2048) (b := 2048) (m ((c : Thread nD τ).loc main_arg3)))) := by
  refine ((W5_arr m ρ c 5).trans (p2_dist_array (V4 m ρ) c)).trans (funext fun _ => congrArg sumSq ?_)
  unfold p2Dist distLeft
  rw [V4_v12, V4_arg3, V4_of m ρ c main_v7 (by decide), V3_of m ρ c main_v7 (by decide), V2_of m ρ c main_v7 (by decide), V1_v7]
  unfold t2Res
  rw [V3_arg3, V3_of m ρ c main_v5 (by decide), V2_of m ρ c main_v5 (by decide), V1_v5]
  rfl

theorem V5_feat2 : V5 m ρ c main_v13_1 = fun _ => sumSq (featLeft (feat1 (m ((c : Thread nD τ).loc main_arg0)))
    (feat0 (m ((c : Thread nD τ).loc main_arg0))) (flip (a := 2048) (b := 2048) (m ((c : Thread nD τ).loc main_arg3)))) := by
  refine ((W5_arr m ρ c 6).trans (p2_feat_array (V4 m ρ) c)).trans (funext fun _ => congrArg sumSq ?_)
  unfold p2Feat featLeft
  rw [V4_arg3, V4_of m ρ c main_v3 (by decide), V3_of m ρ c main_v3 (by decide), V2_of m ρ c main_v3 (by decide), V1_v3,
    V4_of m ρ c main_v8 (by decide), V3_of m ρ c main_v8 (by decide), V2_of m ρ c main_v8 (by decide), V1_v8]

/-- The result buffer at the end: the two losses of the arguments. -/
theorem kernel_result : W6 m ρ c (Proc.devRef .tc main_v26) = answer (m ((c : Thread nD τ).loc main_arg0))
    (m ((c : Thread nD τ).loc main_arg1)) (m ((c : Thread nD τ).loc main_arg2)) (m ((c : Thread nD τ).loc main_arg3)) := by
  unfold W6 hostOps4
  after_results
  have e1 := V5_dist1 m ρ c
  have e2 := V5_feat1 m ρ c
  have e3 := V5_dist2 m ρ c
  have e4 := V5_feat2 m ρ c
  unfold V5 at e1 e2 e3 e4
  rw [e1, e2, e3, e4]
  rfl

end Result

end Cert.Align

end
-- ==== Proof.RefValue.lean ====
/-
  The reference's result is the two losses of its arguments.
-/
module

public import proofs.«01_k».proof.Proof.KernelRun
public import proofs.«01_k».proof.Proof.Gen.ReferenceIdeal.Run

@[expose] public section

set_option maxRecDepth 8192

noncomputable section

namespace Cert.Align

open Idealize.ShloMosaic Idealize.ShloMosaic.TcCoe Idealize.ShloMosaic.ValueIdx Cert.ReferenceIdeal Cert.ReferenceIdeal.Gen
open scoped BigOperators

/-- The mean square of what is left of a feature matrix. -/
theorem ref_feat (A : FVec Ideal S2048x2048 .f32) (X Y : FVec Ideal S2048x512 .f32) :
    (Host.divf (Host.reduceAdd (mulf
        (subf X (Host.dotGeneral dot_S2048x2048_S2048x512_S2048x512_1_0_0_1_n_n none A Y))
        (subf X (Host.dotGeneral dot_S2048x2048_S2048x512_S2048x512_1_0_0_1_n_n none A Y)))
        (constant S_ .f32 0x00000000#32) reducesTo_S2048x512_S_d0_1 h_S_) (constant S_ .f32 0x49800000#32) : FVec Ideal S_ .f32)
      = fun _ => Ideal.div (sumSq (featLeft X Y A)) entries := by
  rw [dot_plain (a := 2048) (k := 2048) (b := 512) dot_S2048x2048_S2048x512_S2048x512_1_0_0_1_n_n rfl none A Y]
  funext j
  exact congrArg (Ideal.div · entries) (hostTotal (a := 2048) (b := 512) _ _ reducesTo_S2048x512_S_d0_1 h_S_ Ideal.ofBits_zero_f32 j)

/-- The norm of what is left of a distance matrix, over the number of nodes. -/
theorem ref_dist (A X Y : FVec Ideal S2048x2048 .f32) :
    (Host.divf (Host.sqrt (Host.reduceAdd (mulf
        (subf X (Host.dotGeneral dot_S2048x2048_S2048x2048_S2048x2048_1_0_0_1_n_n none A
          (Host.dotGeneral dot_S2048x2048_S2048x2048_S2048x2048_1_0_0_1_n_n none Y
            (transpose S2048x2048 [1, 0] A transposes_S2048x2048_S2048x2048_1_0))))
        (subf X (Host.dotGeneral dot_S2048x2048_S2048x2048_S2048x2048_1_0_0_1_n_n none A
          (Host.dotGeneral dot_S2048x2048_S2048x2048_S2048x2048_1_0_0_1_n_n none Y
            (transpose S2048x2048 [1, 0] A transposes_S2048x2048_S2048x2048_1_0)))))
        (constant S_ .f32 0x00000000#32) reducesTo_S2048x2048_S_d0_1 h_S_)) (constant S_ .f32 0x45000000#32) : FVec Ideal S_ .f32)
      = fun _ => Ideal.div (Ideal.sqrt (sumSq (distLeft X Y A))) nodes := by
  rw [transpose_flip (a := 2048) (b := 2048) A,
    dot_plain (a := 2048) (k := 2048) (b := 2048) dot_S2048x2048_S2048x2048_S2048x2048_1_0_0_1_n_n rfl none Y _,
    dot_plain (a := 2048) (k := 2048) (b := 2048) dot_S2048x2048_S2048x2048_S2048x2048_1_0_0_1_n_n rfl none A _]
  funext j
  exact congrArg (fun s => Ideal.div (Ideal.sqrt s) nodes)
    (hostTotal (a := 2048) (b := 2048) _ _ reducesTo_S2048x2048_S_d0_1 h_S_ Ideal.ofBits_zero_f32 j)

theorem reference_result (m : (ℓ : Loc nD τ sig) → Buf (Elt Ideal) ℓ) (c : Dev nD) :
    Value.res_main_v37 m c = answer (m ((c : Thread nD τ).loc main_arg0))
      (m ((c : Thread nD τ).loc main_arg1)) (m ((c : Thread nD τ).loc main_arg2)) (m ((c : Thread nD τ).loc main_arg3)) := by
  unfold Value.res_main_v37
  refine (congrArg₂ (fun a b : FVec Ideal S_ .f32 => (concatenate S2 0 [⟨S1, broadcastInDim S1 ![] bcast_S_S1 a⟩,
      ⟨S1, broadcastInDim S1 ![] bcast_S_S1 b⟩] concatenates_S1_S1_S2_d0 : FVec Ideal S2 .f32))
    (congrArg₂ addf (ref_feat _ _ _) (ref_feat _ _ _)) (congrArg₂ addf (ref_dist _ _ _) (ref_dist _ _ _))).trans ?_
  unfold answer
  rw [featLoss_split, distLoss_split, transpose_flip (a := 2048) (b := 2048)]
  rfl

end Cert.Align

end
-- ==== Proof.EncodeMath.lean ====
/-
  The two losses of the encoder as functions of matrices of extended reals. `A` is an adjacency matrix, `G` a matrix of
  neighbour weights, `X` the features, `E` and `D` the encoding and decoding weights, `W` and `c` the discriminator's
  weights and offset, `T` the labels (two columns):

    H        = A (X E)                 the embedding
    H'       = A (X' E)                the embedding of the features with their rows permuted
    g, g'    = logistic of the average of the positive part of H, H' over neighbours, each row scaled to length 1
    score    = Σ_j (V W)_rj g_rj + c   how well row r of V fits row r of g
    term x t = max x 0 − x t + log (1 + e^(−|x|))

  Each row of everything after H and H' depends on the same row of `G`, `T` and of the embedding alone, so the sum over
  2048 rows is a sum over four blocks of 512 rows.
-/
module

public import proofs.«01_k».proof.Proof.Sums
public import proofs.«01_k».proof.Proof.Blocks

@[expose] public section

noncomputable section

namespace Cert.Encode

open Idealize.ShloMosaic Idealize.ShloMosaic.ValueIdx Cert.Align
open scoped BigOperators

/-! ## The functions -/

/-- The positive part of a matrix, entry by entry. -/
def relu {a b : ℕ} (H : Mat a b) : Mat a b := fun i => max (H i) 0

/-- The average of the rows of `V` with the weights of a row of `G`. -/
def average {a k b : ℕ} (G : Mat a k) (V : Mat k b) : Mat a b :=
  fun i => Ideal.div (prod G V i) (∑ l : Fin k, G (ix2 (i 0) l))

/-- The smallest length a row is divided by, as the programs write it. -/
def tiny : EReal := Ideal.ofBits .f32 0x2B8CBCCC#32

/-- The length of a row, but at least `tiny`. -/
def rowLength {a b : ℕ} (Q : Mat a b) (r : Fin a) : EReal :=
  max (Ideal.sqrt (∑ j : Fin b, Q (ix2 r j) * Q (ix2 r j))) tiny

/-- The logistic function of a matrix with its rows scaled to length 1. -/
def squash {a b : ℕ} (Q : Mat a b) : Mat a b := fun i => Ideal.logistic (Ideal.div (Q i) (rowLength Q (i 0)))

/-- The summary of a node's neighbourhood. -/
def readout {a k b : ℕ} (G : Mat a k) (V : Mat k b) : Mat a b := squash (average G V)

/-- How well a row of `V` fits the same row of `g`. -/
def score {a b : ℕ} (V : Mat a b) (W : Mat b b) (g : Mat a b) (c : EReal) (r : Fin a) : EReal :=
  (∑ j : Fin b, prod V W (ix2 r j) * g (ix2 r j)) + c

/-- The loss of one score `x` with label `t`. -/
def term (x t : EReal) : EReal := max x 0 - x * t + Ideal.log1p (Ideal.exp (-(max x (-x))))

/-- The losses of all rows: each embedding against each summary, each with its column of labels. -/
def scoreLoss {a b : ℕ} (V V' : Mat a b) (g g' : Mat a b) (W : Mat b b) (c : EReal) (T : Mat a 2) : EReal :=
  ((∑ r : Fin a, term (score V W g c r) (T (ix2 r 0))) + (∑ r : Fin a, term (score V' W g c r) (T (ix2 r 1)))
      + ∑ r : Fin a, term (score V' W g' c r) (T (ix2 r 0)))
    + ∑ r : Fin a, term (score V W g' c r) (T (ix2 r 1))

/-- The discriminator's loss of one network, from its embedding and the embedding of the permuted features. -/
def netLoss (G : Mat 2048 2048) (V V' : Mat 2048 128) (W : Mat 128 128) (c : EReal) (T : Mat 2048 2) : EReal :=
  scoreLoss V V' (readout G V) (readout G V') W c T

/-- The squared residual of the features after encoding and decoding, the adjacency matrix applied before the weights. -/
def netResidual (X : Mat 2048 512) (A : Mat 2048 2048) (H : Mat 2048 128) (D : Mat 128 512) : EReal :=
  sumSq (diff X (prod (prod A H) D))

/-! ## Row blocks -/

theorem rows_readout {k b : ℕ} (G : Mat 2048 k) (V : Mat k b) (t : Fin 4) : rows (readout G V) t = readout (rows G t) V := rfl

theorem rows_relu {b : ℕ} (H : Mat 2048 b) (t : Fin 4) : rows (relu H) t = relu (rows H t) := rfl

/-- The loss of a network is the sum of the losses of its four row blocks. -/
theorem netLoss_blocks (G : Mat 2048 2048) (V V' : Mat 2048 128) (W : Mat 128 128) (c : EReal) (T : Mat 2048 2) :
    netLoss G V V' W c T = ∑ t : Fin 4, scoreLoss (rows V t) (rows V' t) (readout (rows G t) V) (readout (rows G t) V') W c (rows T t) := by
  unfold netLoss scoreLoss
  rw [Finset.sum_add_distrib, Finset.sum_add_distrib, Finset.sum_add_distrib,
    sum_rows fun r => term (score V W (readout G V) c r) (T (ix2 r 0)),
    sum_rows fun r => term (score V' W (readout G V) c r) (T (ix2 r 1)),
    sum_rows fun r => term (score V' W (readout G V') c r) (T (ix2 r 0)),
    sum_rows fun r => term (score V W (readout G V') c r) (T (ix2 r 1))]
  rfl

/-- The residual of a network is the sum over its four row blocks. -/
theorem netResidual_blocks (X : Mat 2048 512) (A : Mat 2048 2048) (H : Mat 2048 128) (D : Mat 128 512) :
    netResidual X A H D = ∑ t : Fin 4, sumSq (diff (rows X t) (prod (prod (rows A t) H) D)) := by
  unfold netResidual
  rw [sumSq_blocks]; rfl

/-! ## Two finite facts -/

/-- Every entry is a real number. -/
def AllReal {a b : ℕ} (A : Mat a b) : Prop := ∀ i, ∃ x : ℝ, A i = (x : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of real matrices is real. -/
theorem AllReal.prod {a k b : ℕ} {A : Mat a k} {B : Mat k b} (hA : AllReal A) (hB : AllReal B) : AllReal (prod A B) := by
  choose f hf using hA
  choose g hg using hB
  refine fun i => ⟨∑ l : Fin k, f (ix2 (i 0) l) * g (ix2 l (i 1)), ?_⟩
  rw [coe_sum]
  refine Finset.sum_congr rfl fun l _ => ?_
  rw [hf, hg, EReal.coe_mul]

/-- Products of real matrices associate. (With infinite entries they need not.) -/
theorem prod_assoc {a k l b : ℕ} {A : Mat a k} {B : Mat k l} {C : Mat l b} (hA : AllReal A) (hB : AllReal B) (hC : AllReal C) :
    prod (prod A B) C = prod A (prod B C) := by
  choose f hf using hA
  choose g hg using hB
  choose h hh using hC
  funext i
  have e1 : prod (prod A B) C i = ((∑ y : Fin l, (∑ x : Fin k, f (ix2 (i 0) x) * g (ix2 x y)) * h (ix2 y (i 1)) : ℝ) : EReal) := by
    rw [coe_sum]
    refine Finset.sum_congr rfl fun y _ => ?_
    rw [EReal.coe_mul, coe_sum, ← hh]
    refine congrArg (· * C (ix2 y (i 1))) (Finset.sum_congr rfl fun x _ => ?_)
    rw [EReal.coe_mul, ← hf, ← hg]; rfl
  have e2 : prod A (prod B C) i = ((∑ x : Fin k, f (ix2 (i 0) x) * (∑ y : Fin l, g (ix2 x y) * h (ix2 y (i 1))) : ℝ) : EReal) := by
    rw [coe_sum]
    refine Finset.sum_congr rfl fun x _ => ?_
    rw [EReal.coe_mul, coe_sum, ← hf]
    refine congrArg (A (ix2 (i 0) x) * ·) (Finset.sum_congr rfl fun y _ => ?_)
    rw [EReal.coe_mul, ← hg, ← hh]; rfl
  rw [e1, e2]
  congr 1
  simp only [Finset.sum_mul, Finset.mul_sum]
  rw [Finset.sum_comm]
  exact Finset.sum_congr rfl fun x _ => Finset.sum_congr rfl fun y _ => mul_assoc _ _ _

/-- Division by a positive real number of any sum of two extended reals. -/
theorem div_add_real (x y : EReal) {d : ℝ} (hd : 0 < d) :
    Ideal.div (x + y) (d : EReal) = Ideal.div x d + Ideal.div y d := by
  have h0 : (d : EReal) ≠ 0 := by exact_mod_cast hd.ne'
  unfold Ideal.div
  rw [if_neg h0, if_neg h0, if_neg h0, ← EReal.coe_inv]
  exact EReal.right_distrib_of_nonneg_of_ne_top (by exact_mod_cast (inv_pos.mpr hd).le) (EReal.coe_ne_top _) x y

end Cert.Encode

end
-- ==== Proof.Kernel2Ideal.Body.lean ====
/-
  What one grid point of the encoder call does to its buffers, in three cases: a point of the encoding pass, the first point
  of the loss pass, and a later point of the loss pass. Each is stated on whole buffers at given contents.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.WordCmp

@[expose] public section

set_option maxRecDepth 16384

noncomputable section

namespace Cert.Kernel2Ideal.Enc

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- Contents `s'` are contents `s` with the rectangle `r` overwritten by `p`. -/
def Put {S : Shape} {e : EltTy} (r : Rect S) (p : r.shape.Idx → Elt F e) (s s' : S.Idx → Elt F e) : Prop :=
  (∀ z, s' (r.emb z) = p z) ∧ ∀ y, y ∉ r.set → s' y = s y

theorem put_writes {κ : Kind} {sp : Space} {S : Shape} {e : EltTy} (v : View sig κ sp S e) (f : v.ty.Contents (Elt F)) (r : Rect S)
    (p : r.shape.Idx → Elt F e) (s : S.Idx → Elt F e) (h : v.read (Elt F) f = s) :
    Put r p s (v.read (Elt F) (v.writes (Elt F) f [⟨r, p⟩])) := by
  subst h
  refine ⟨fun z => View.read_writes_cons_emb v f r p [] z, fun y hy => ?_⟩
  refine View.read_writes_apply_of_forall_not_mem v f y _ fun q hq => ?_
  obtain rfl := List.mem_singleton.mp hq
  exact hy

theorem zero2 : (![0, 0] : Fin 2 → ℕ) = fun _ => 0 := by decide
theorem zero3 : (![0, 0, 0] : Fin 3 → ℕ) = fun _ => 0 := by decide
theorem cell (i : S1x1.Idx) : i = ix2 0 0 := by
  have h0 : (i 0).val < 1 := (i 0).isLt
  have h1 : (i 1).val < 1 := (i 1).isLt
  exact (eq_ix2 i).trans (congrArg₂ ix2 (Fin.ext (by show (i 0).val = 0; omega)) (Fin.ext (by show (i 1).val = 0; omega)))

/-- A store over a whole buffer, done last, leaves its payload. -/
theorem read_whole {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hy := View.read_writes_cons_emb v f (Rect.whole S) w L y
  rw [Rect.emb_whole_apply] at hy
  exact hy

/-- The row blocks a point touches: of the adjacency scratch and of the 128-column scratch, written in the encoding
    pass and read in the loss pass. -/
abbrev rowsA (i : grid1.Coords) (h : k1_cond1 i = 1#1) : Rect S2048x2048 := Rect.unit (s := S2048x2048) (k1_off1 i) S512x2048.size (k1_off1_inb i h)
abbrev rowsH (i : grid1.Coords) (h : k1_cond1 i = 1#1) : Rect S2048x128 := Rect.unit (s := S2048x128) (k1_off2 i) S512x128.size (k1_off2_inb i h)
abbrev readA (i : grid1.Coords) (h : k1_cond2 i = 1#1) : Rect S2048x2048 := Rect.unit (s := S2048x2048) (k1_off3 i) S512x2048.size (k1_off3_inb i h)
abbrev readH (i : grid1.Coords) (h : k1_cond2 i = 1#1) : Rect S2048x128 := Rect.unit (s := S2048x128) (k1_off4 i) S512x128.size (k1_off4_inb i h)
abbrev col0 : Rect S1x512x2 := Rect.unit (s := S1x512x2) ![0, 0, 0] S1x512x1.size inb_S1x512x2_S1x512x1_0_0_0
abbrev col1 : Rect S1x512x2 := Rect.unit (s := S1x512x2) ![0, 0, 1] S1x512x1.size inb_S1x512x2_S1x512x1_0_0_1

/-- The contrastive sum after a point of the loss pass, from the sum before it, the point's inputs, and the whole readout
    scratches `sr`, `sn` of which the point's own row blocks are `hr`, `hn`. -/
def slStep (gn : Vec F S1x512x2048 .f32) (lb : Vec F S1x512x2 .f32) (dw : Vec F S128x128 .f32) (b : Elt F .f32)
    (sr sn : Vec F S2048x128 .bf16) (hr hn : Vec F S512x128 .bf16) (prev : Elt F .f32) : Elt F .f32 :=
  k1_pay3 prev
    (k1_pay31 (k1_pay24 (k1_pay16 gn sr) dw hn b) (k1_pay25 (k1_pay17 gn sn) (k1_pay18 gn sn) dw hn b) (k1_pay27 (View.ld lb col0))
      (k1_pay28 (View.ld lb col1)) (k1_pay29 (k1_pay16 gn sr) dw hr b (View.ld lb col0)) (k1_pay30 (k1_pay16 gn sr) dw hr b)
      (FloatOps.ofBits .f32 0x00000000#32))
    (k1_pay32 (k1_pay26 (k1_pay17 gn sn) (k1_pay18 gn sn) dw hr b) (k1_pay28 (View.ld lb col1)))

/-- The reconstruction sum after a point of the loss pass. -/
def ftStep (ar : Vec F S512x2048 .bf16) (sh : Vec F S2048x128 .bf16) (ft : Vec F S1x512x512 .f32) (dec : Vec F S1x128x512 .f32)
    (prev : Elt F .f32) : Elt F .f32 := k1_pay4 (k1_pay14 ar sh) dec ft prev

set_option maxHeartbeats 2000000 in
/-- A point of the encoding pass stores the block's rows of the hidden matrix and its row sums, and the point's rows of the four scratch matrices. -/
theorem point_encode (c : Dev nD) (E : Set ℕ) (i : grid1.Coords) (arg3 : Memref sig .tc .vmem S1x512x2048 .f32) (harg3 : arg3.IsWhole) (arg4 : Memref sig .tc .vmem S1x512x2048 .f32) (harg4 : arg4.IsWhole) (arg5 : Memref sig .tc .vmem S1x512x512 .f32) (harg5 : arg5.IsWhole) (arg6 : Memref sig .tc .vmem S1x512x2 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x128x512 .f32) (harg9 : arg9.IsWhole) (arg10 : Memref sig .tc .vmem S128x128 .f32) (harg10 : arg10.IsWhole) (arg11 : Memref sig .tc .smem S1x1 .f32) (harg11 : arg11.IsWhole) (arg12 : Memref sig .tc .vmem S1x512x128 .f32) (harg12 : arg12.IsWhole) (arg13 : Memref sig .tc .vmem S1x1x512 .f32) (harg13 : arg13.IsWhole) (arg14 : Memref sig .tc .smem S1x1 .f32) (harg14 : arg14.IsWhole) (arg15 : Memref sig .tc .smem S1x1 .f32) (harg15 : arg15.IsWhole) (arg16 : Memref sig .tc .vmem S2048x2048 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .bf16) (harg19 : arg19.IsWhole)
    (h1 : k1_cond1 i = 1#1) (h2 : ¬k1_cond2 i = 1#1)
    (x0 : Vec F S1x512x2048 .f32) (x1 : Vec F S1x512x2048 .f32) (x2 : Vec F S1x512x512 .f32) (x3 : Vec F S1x512x2 .f32) (x4 : Vec F S1x2048x128 .f32) (x5 : Vec F S1x2048x128 .f32) (x6 : Vec F S1x128x512 .f32) (x7 : Vec F S128x128 .f32) (x8 : Vec F S1x1 .f32) (sa : Vec F S2048x2048 .bf16) (sh sr sn : Vec F S2048x128 .bf16) (d11 d12 : Vec F S1x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ owns (c : Thread nD τ) arg14 fullShare d11 ∗ owns (c : Thread nD τ) arg15 fullShare d12 ∗ owns (c : Thread nD τ) arg16 fullShare sa ∗ owns (c : Thread nD τ) arg17 fullShare sh ∗ owns (c : Thread nD τ) arg18 fullShare sr ∗ owns (c : Thread nD τ) arg19 fullShare sn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k1_pay8 x0 x4) ∗ owns (c : Thread nD τ) arg13 fullShare (k1_pay2 (k1_pay7 x0 x4)) ∗ owns (c : Thread nD τ) arg14 fullShare d11 ∗ owns (c : Thread nD τ) arg15 fullShare d12 ∗ (∃ s, ⌜Put (rowsA i h1) (k1_pay6 x0) sa s⌝ ∗ owns (c : Thread nD τ) arg16 fullShare s) ∗ (∃ s, ⌜Put (rowsH i h1) (k1_pay9 x0 x4) sh s⌝ ∗ owns (c : Thread nD τ) arg17 fullShare s) ∗ (∃ s, ⌜Put (rowsH i h1) (k1_pay10 x0 x4) sr s⌝ ∗ owns (c : Thread nD τ) arg18 fullShare s) ∗ (∃ s, ⌜Put (rowsH i h1) (k1_pay1 (k1_pay11 x0 x5)) sn s⌝ ∗ owns (c : Thread nD τ) arg19 fullShare s)) -∗ K ⟨⟩))
      ⊢ wp frame (wpE (defs₀ (F := F)) Variants.none c none) E (cc1__enc_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__enc_body_eq_skeleton]; unfold cc1__enc_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg14.eq_unread hf11
  obtain rfl := harg15.eq_unread hf12
  obtain rfl := harg16.eq_unread hf13
  obtain rfl := harg17.eq_unread hf14
  obtain rfl := harg18.eq_unread hf15
  obtain rfl := harg19.eq_unread hf16
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro
    refine (read_whole _ _ zero3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]

  isplitl [H10]
  · iexists _; isplitr; swap; · iexact H10
    ipureintro
    refine (read_whole _ _ zero3 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]

  isplitl [H11]
  · iexists _; isplitr; · ipureintro; exact harg14.read_unread _
    iexact H11
  isplitl [H12]
  · iexists _; isplitr; · ipureintro; exact harg15.read_unread _
    iexact H12
  isplitl [H13]
  · iexists _; isplitr; swap; (iexists _; isplitr; swap; (iexact H13); ipureintro; rfl)
    ipureintro
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    exact put_writes _ _ _ _ _ (by assumption)
  isplitl [H14]
  · iexists _; isplitr; swap; (iexists _; isplitr; swap; (iexact H14); ipureintro; rfl)
    ipureintro
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    exact put_writes _ _ _ _ _ (by assumption)
  isplitl [H15]
  · iexists _; isplitr; swap; (iexists _; isplitr; swap; (iexact H15); ipureintro; rfl)
    ipureintro
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    exact put_writes _ _ _ _ _ (by assumption)
  iexists _; isplitr; swap; (iexists _; isplitr; swap; (iexact H16); ipureintro; rfl)
  ipureintro
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
  exact put_writes _ _ _ _ _ (by assumption)

set_option maxHeartbeats 2000000 in
/-- The first point of the loss pass clears the two sums and adds its own share. -/
theorem point_first (c : Dev nD) (E : Set ℕ) (i : grid1.Coords) (arg3 : Memref sig .tc .vmem S1x512x2048 .f32) (harg3 : arg3.IsWhole) (arg4 : Memref sig .tc .vmem S1x512x2048 .f32) (harg4 : arg4.IsWhole) (arg5 : Memref sig .tc .vmem S1x512x512 .f32) (harg5 : arg5.IsWhole) (arg6 : Memref sig .tc .vmem S1x512x2 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x128x512 .f32) (harg9 : arg9.IsWhole) (arg10 : Memref sig .tc .vmem S128x128 .f32) (harg10 : arg10.IsWhole) (arg11 : Memref sig .tc .smem S1x1 .f32) (harg11 : arg11.IsWhole) (arg12 : Memref sig .tc .vmem S1x512x128 .f32) (harg12 : arg12.IsWhole) (arg13 : Memref sig .tc .vmem S1x1x512 .f32) (harg13 : arg13.IsWhole) (arg14 : Memref sig .tc .smem S1x1 .f32) (harg14 : arg14.IsWhole) (arg15 : Memref sig .tc .smem S1x1 .f32) (harg15 : arg15.IsWhole) (arg16 : Memref sig .tc .vmem S2048x2048 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .bf16) (harg19 : arg19.IsWhole)
    (h1 : ¬k1_cond1 i = 1#1) (h2 : k1_cond2 i = 1#1) (h3 : k1_cond3 i = 1#1)
    (x0 : Vec F S1x512x2048 .f32) (x1 : Vec F S1x512x2048 .f32) (x2 : Vec F S1x512x512 .f32) (x3 : Vec F S1x512x2 .f32) (x4 : Vec F S1x2048x128 .f32) (x5 : Vec F S1x2048x128 .f32) (x6 : Vec F S1x128x512 .f32) (x7 : Vec F S128x128 .f32) (x8 : Vec F S1x1 .f32) (sa : Vec F S2048x2048 .bf16) (sh sr sn : Vec F S2048x128 .bf16) (d9 : Vec F S1x512x128 .f32) (d10 : Vec F S1x1x512 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare d9 ∗ owns (c : Thread nD τ) arg13 fullShare d10 ∗ (∃ d, owns (c : Thread nD τ) arg14 fullShare d) ∗ (∃ d, owns (c : Thread nD τ) arg15 fullShare d) ∗ owns (c : Thread nD τ) arg16 fullShare sa ∗ owns (c : Thread nD τ) arg17 fullShare sh ∗ owns (c : Thread nD τ) arg18 fullShare sr ∗ owns (c : Thread nD τ) arg19 fullShare sn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare d9 ∗ owns (c : Thread nD τ) arg13 fullShare d10 ∗ owns (c : Thread nD τ) arg14 fullShare (fun _ => slStep x1 x3 x7 (x8 (ix2 0 0)) sr sn (View.ld sr (readH i h2)) (View.ld sn (readH i h2)) (FloatOps.ofBits .f32 0x00000000#32)) ∗ owns (c : Thread nD τ) arg15 fullShare (fun _ => ftStep (View.ld sa (readA i h2)) sh x2 x6 (FloatOps.ofBits .f32 0x00000000#32)) ∗ owns (c : Thread nD τ) arg16 fullShare sa ∗ owns (c : Thread nD τ) arg17 fullShare sh ∗ owns (c : Thread nD τ) arg18 fullShare sr ∗ owns (c : Thread nD τ) arg19 fullShare sn) -∗ K ⟨⟩))
      ⊢ wp frame (wpE (defs₀ (F := F)) Variants.none c none) E (cc1__enc_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__enc_body_eq_skeleton]; unfold cc1__enc_body_skel
  simp only [k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg16.eq_unread hf13
  obtain rfl := harg17.eq_unread hf14
  obtain rfl := harg18.eq_unread hf15
  obtain rfl := harg19.eq_unread hf16
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; swap; · iexact H11
    ipureintro
    refine (read_whole _ _ zero2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    exact funext fun _ => congrArg (fun b => slStep x1 x3 x7 b sr sn (View.ld sr (readH i h2)) (View.ld sn (readH i h2)) (FloatOps.ofBits .f32 0x00000000#32)) (congrArg x8 (cell _))
  isplitl [H12]
  · iexists _; isplitr; swap; · iexact H12
    ipureintro
    refine (read_whole _ _ zero2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    rfl
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  iexists _; isplitr; · ipureintro; exact harg19.read_unread _
  iexact H16

set_option maxHeartbeats 2000000 in
/-- A later point of the loss pass adds its share to the two sums. -/
theorem point_later (c : Dev nD) (E : Set ℕ) (i : grid1.Coords) (arg3 : Memref sig .tc .vmem S1x512x2048 .f32) (harg3 : arg3.IsWhole) (arg4 : Memref sig .tc .vmem S1x512x2048 .f32) (harg4 : arg4.IsWhole) (arg5 : Memref sig .tc .vmem S1x512x512 .f32) (harg5 : arg5.IsWhole) (arg6 : Memref sig .tc .vmem S1x512x2 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x128x512 .f32) (harg9 : arg9.IsWhole) (arg10 : Memref sig .tc .vmem S128x128 .f32) (harg10 : arg10.IsWhole) (arg11 : Memref sig .tc .smem S1x1 .f32) (harg11 : arg11.IsWhole) (arg12 : Memref sig .tc .vmem S1x512x128 .f32) (harg12 : arg12.IsWhole) (arg13 : Memref sig .tc .vmem S1x1x512 .f32) (harg13 : arg13.IsWhole) (arg14 : Memref sig .tc .smem S1x1 .f32) (harg14 : arg14.IsWhole) (arg15 : Memref sig .tc .smem S1x1 .f32) (harg15 : arg15.IsWhole) (arg16 : Memref sig .tc .vmem S2048x2048 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .bf16) (harg19 : arg19.IsWhole)
    (h1 : ¬k1_cond1 i = 1#1) (h2 : k1_cond2 i = 1#1) (h3 : ¬k1_cond3 i = 1#1)
    (x0 : Vec F S1x512x2048 .f32) (x1 : Vec F S1x512x2048 .f32) (x2 : Vec F S1x512x512 .f32) (x3 : Vec F S1x512x2 .f32) (x4 : Vec F S1x2048x128 .f32) (x5 : Vec F S1x2048x128 .f32) (x6 : Vec F S1x128x512 .f32) (x7 : Vec F S128x128 .f32) (x8 : Vec F S1x1 .f32) (sa : Vec F S2048x2048 .bf16) (sh sr sn : Vec F S2048x128 .bf16) (d9 : Vec F S1x512x128 .f32) (d10 : Vec F S1x1x512 .f32) (p q : Elt F .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare d9 ∗ owns (c : Thread nD τ) arg13 fullShare d10 ∗ owns (c : Thread nD τ) arg14 fullShare (fun _ => p) ∗ owns (c : Thread nD τ) arg15 fullShare (fun _ => q) ∗ owns (c : Thread nD τ) arg16 fullShare sa ∗ owns (c : Thread nD τ) arg17 fullShare sh ∗ owns (c : Thread nD τ) arg18 fullShare sr ∗ owns (c : Thread nD τ) arg19 fullShare sn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare d9 ∗ owns (c : Thread nD τ) arg13 fullShare d10 ∗ owns (c : Thread nD τ) arg14 fullShare (fun _ => slStep x1 x3 x7 (x8 (ix2 0 0)) sr sn (View.ld sr (readH i h2)) (View.ld sn (readH i h2)) p) ∗ owns (c : Thread nD τ) arg15 fullShare (fun _ => ftStep (View.ld sa (readA i h2)) sh x2 x6 q) ∗ owns (c : Thread nD τ) arg16 fullShare sa ∗ owns (c : Thread nD τ) arg17 fullShare sh ∗ owns (c : Thread nD τ) arg18 fullShare sr ∗ owns (c : Thread nD τ) arg19 fullShare sn) -∗ K ⟨⟩))
      ⊢ wp frame (wpE (defs₀ (F := F)) Variants.none c none) E (cc1__enc_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__enc_body_eq_skeleton]; unfold cc1__enc_body_skel
  simp only [k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  obtain rfl := harg16.eq_unread hf13
  obtain rfl := harg17.eq_unread hf14
  obtain rfl := harg18.eq_unread hf15
  obtain rfl := harg19.eq_unread hf16
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; swap; · iexact H11
    ipureintro
    refine (read_whole _ _ zero2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    exact funext fun _ => congrArg (fun b => slStep x1 x3 x7 b sr sn (View.ld sr (readH i h2)) (View.ld sn (readH i h2)) p) (congrArg x8 (cell _))
  isplitl [H12]
  · iexists _; isplitr; swap; · iexact H12
    ipureintro
    refine (read_whole _ _ zero2 _ _ _).trans ?_
    sl_unfold_words
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x512) zero3, View.ld_unit_zero (S := S1x2048x128) zero3, View.ld_unit_zero (S := S1x128x512) zero3, View.ld_unit_zero (S := S128x128) zero2, View.ld_unit_zero (S := S2048x128) zero2]
    rfl
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  iexists _; isplitr; · ipureintro; exact harg19.read_unread _
  iexact H16

end Cert.Kernel2Ideal.Enc

end
-- ==== Proof.EncodeBlock.lean ====
/-
  What one step of the encoder's two calls computes, over the extended reals, in the terms of the losses: a product of a
  block with the encoded features, its positive part, and the two amounts a step on a row block adds to the running sums.
-/
module

public import proofs.«01_k».proof.Proof.EncodeMath
public import proofs.«01_k».proof.Proof.Gen.Kernel2Ideal.Skeleton
public import proofs.«01_k».proof.Proof.Kernel2Ideal.Body
public import Idealize.ShloMosaic.Lib.ValueLayout
public import Idealize.ShloMosaic.Lib.Pointwise.Reduce

@[expose] public section

noncomputable section

namespace Cert.Encode

open Idealize.ShloMosaic hiding ix0 ix1 ix2 ix3 eq_ix1 eq_ix2 eq_ix3
open Idealize.ShloMosaic.ValueIdx Cert.Align Cert.Kernel2Ideal Cert.Kernel2Ideal.Gen
open scoped BigOperators

/-! ## Layout changes and row sums -/

/-- The one slab of an array of shape `[1, a, b]`. -/
def slab {a b : ℕ} (X : (⟨3, ![1, a, b]⟩ : Shape).Idx → EReal) : Mat a b := fun i => X (ix3 0 (i 0) (i 1))

theorem squeeze_slab {a b : ℕ} (X : (⟨3, ![1, a, b]⟩ : Shape).Idx → EReal)
    (h : (⟨3, ![1, a, b]⟩ : Shape).ShapeCasts ⟨2, ![a, b]⟩) : shapeCast ⟨2, ![a, b]⟩ X h = slab X := by
  funext i
  obtain ⟨r, c, rfl⟩ : ∃ (r : Fin a) (c : Fin b), i = ix2 r c := ⟨i 0, i 1, eq_ix2 i⟩
  exact shapeCast_1ab_ab_apply X h r c

/-- A vector as a column. -/
theorem column {a : ℕ} (v : (⟨1, ![a]⟩ : Shape).Idx → EReal) (h : (⟨1, ![a]⟩ : Shape).ShapeCasts ⟨2, ![a, 1]⟩) :
    shapeCast ⟨2, ![a, 1]⟩ v h = fun i : (⟨2, ![a, 1]⟩ : Shape).Idx => v (ix1 (i 0)) := by
  funext i
  refine shapeCast_apply v h i _ ?_
  have h1 : (i 1 : Nat) < 1 := (i 1).isLt
  rw [Shape.rowMajor_val_one, Shape.rowMajor_val_two]
  show (i 0 : Nat) = (i 0 : Nat) * 1 + (i 1 : Nat)
  omega

/-- A column repeated along the rows. -/
theorem repeated {a b : ℕ} (M : Mat a 1) (h : (⟨2, ![a, 1]⟩ : Shape).Broadcasts ⟨2, ![a, b]⟩) (ha : a ≠ 1) :
    broadcastTo ⟨2, ![a, b]⟩ M h = fun i : (⟨2, ![a, b]⟩ : Shape).Idx => M (ix2 (i 0) 0) := by
  funext i
  refine broadcastTo_apply M h i _ fun x => ?_
  match x with
  | ⟨0, _⟩ => show (i 0 : Nat) = if a = 1 then 0 else (i 0 : Nat); rw [if_neg ha]
  | ⟨1, _⟩ => rfl

/-- The sum of each row. -/
theorem rowSums {a b : ℕ} (x : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) :
    multiReduction .add [1] ⟨1, ![a]⟩ x 0x00000000#32 h hφ hacc = fun j => ∑ k : Fin b, x (ix2 (j 0) k) :=
  funext fun j => Ideal.reduceAdd_r2_a1 h x j

theorem rowSums_2048 (x : FVec Ideal S512x2048 .f32) :
    multiReduction .add [1] S512 x 0x00000000#32 reduces_S512x2048_S512 (.inl rfl) rfl
      = fun j : S512.Idx => ∑ k : Fin 2048, x (ix2 (j 0) k) := rowSums (a := 512) (b := 2048) x _ _ _

theorem rowSums_128 (x : FVec Ideal S512x128 .f32) :
    multiReduction .add [1] S512 x 0x00000000#32 reduces_S512x128_S512 (.inl rfl) rfl
      = fun j : S512.Idx => ∑ k : Fin 128, x (ix2 (j 0) k) := rowSums (a := 512) (b := 128) x _ _ _

/-- The sum of a vector's entries as the kernel writes it: the vector as one row, the row summed, the one entry read. -/
theorem vectorTotal {a : ℕ} (x : FVec Ideal ⟨1, ![a]⟩ .f32) (h1 : (⟨1, ![a]⟩ : Shape).ShapeCasts ⟨2, ![1, a]⟩)
    (hr : (⟨2, ![1, a]⟩ : Shape).Reduces [1] ⟨1, ![1]⟩) (hφ : FKind.Formats .f32)
    (hacc : (0x00000000#32 : BitVec FTy.f32.bits) = FKind.add.neutral .f32 hφ)
    (h2 : (⟨1, ![1]⟩ : Shape).ShapeCasts ⟨2, ![1, 1]⟩) (hp : ∀ e, (![0, 0] : Fin 2 → ℕ) e < (⟨2, ![1, 1]⟩ : Shape).size e) :
    extractAt ![0, 0] (shapeCast ⟨2, ![1, 1]⟩
      (multiReduction .add [1] ⟨1, ![1]⟩ (shapeCast ⟨2, ![1, a]⟩ x h1) 0x00000000#32 hr hφ hacc) h2) hp = ∑ r : Fin a, x (ix1 r) := by
  rw [rowSums, column]
  show ∑ k : Fin a, shapeCast ⟨2, ![1, a]⟩ x h1 (ix2 _ k) = _
  exact Finset.sum_congr rfl fun k _ => shapeCast_a_1a_apply x h1 _ k

/-! ## The products -/

/-- The first call: one network's features times its encoding weights. -/
theorem encoded_block (X : Vec Ideal S1x2048x512 .f32) (E : Vec Ideal S1x512x128 .f32) :
    slab (k0_pay1 X E) = prod (slab (a := 2048) (b := 512) X) (slab (a := 512) (b := 128) E) := by
  unfold k0_pay1
  dsimp only
  funext i
  refine (shapeCast_ab_1ab_apply _ _ _ _ _).trans ?_
  rw [squeeze_slab (a := 2048) (b := 512), squeeze_slab (a := 512) (b := 128)]
  exact congrFun (matmul_plain (a := 2048) (k := 512) (b := 128) _ rfl _ _ _) _

theorem adjacency_block (A : Vec Ideal S1x512x2048 .f32) : k1_pay6 A = slab (a := 512) (b := 2048) A := by
  unfold k1_pay6 k1_pay5
  dsimp only
  rw [shapeCast_self, squeeze_slab (a := 512) (b := 2048)]; rfl

theorem embedding_block (A : Vec Ideal S1x512x2048 .f32) (Y : Vec Ideal S1x2048x128 .f32) :
    k1_pay7 A Y = prod (slab (a := 512) (b := 2048) A) (slab (a := 2048) (b := 128) Y) := by
  unfold k1_pay7 k1_pay5
  dsimp only
  rw [squeeze_slab (a := 512) (b := 2048), squeeze_slab (a := 2048) (b := 128)]
  exact matmul_plain (a := 512) (k := 2048) (b := 128) (φ₁ := .bf16) (φ₂ := .bf16) _ rfl _ _ _

theorem stored_embedding (A : Vec Ideal S1x512x2048 .f32) (Y : Vec Ideal S1x2048x128 .f32) :
    k1_pay9 A Y = prod (slab (a := 512) (b := 2048) A) (slab (a := 2048) (b := 128) Y) := by
  unfold k1_pay9
  dsimp only
  rw [shapeCast_self, embedding_block]; rfl

theorem stored_positive (A : Vec Ideal S1x512x2048 .f32) (Y : Vec Ideal S1x2048x128 .f32) :
    k1_pay10 A Y = relu (prod (slab (a := 512) (b := 2048) A) (slab (a := 2048) (b := 128) Y)) := by
  unfold k1_pay10
  dsimp only
  rw [shapeCast_self, embedding_block]
  funext i
  show max _ (Ideal.ofBits .f32 0x00000000#32) = max _ 0
  rw [Ideal.ofBits_zero_f32]

theorem stored_permuted (A : Vec Ideal S1x512x2048 .f32) (Y : Vec Ideal S1x2048x128 .f32) :
    k1_pay1 (k1_pay11 A Y) = relu (prod (slab (a := 512) (b := 2048) A) (slab (a := 2048) (b := 128) Y)) :=
  (rfl : k1_pay1 (k1_pay11 A Y) = k1_pay10 A Y).trans (stored_positive A Y)

/-! ## The summaries -/

theorem average_block (G : Vec Ideal S1x512x2048 .f32) (V : Vec Ideal S2048x128 .bf16) :
    k1_pay17 G V = average (slab (a := 512) (b := 2048) G) (V : Mat 2048 128) := by
  unfold k1_pay17 k1_pay15 k1_pay13 k1_pay12
  dsimp only
  rw [squeeze_slab (a := 512) (b := 2048), rowSums_2048, column (a := 512),
    repeated (a := 512) (b := 128) _ _ (by decide)]
  have e := matmul_plain (a := 512) (k := 2048) (b := 128) (φ₁ := .bf16) (φ₂ := .bf16)
    dot_S512x2048_S2048x128_S512x128_1_0_0_1_n_n rfl none (truncf .bf16 (slab (a := 512) (b := 2048) G : FVec Ideal S512x2048 .f32) bitsLt_bf16_f32) V
  rw [e]; rfl

theorem length_block (G : Vec Ideal S1x512x2048 .f32) (V : Vec Ideal S2048x128 .bf16) :
    k1_pay18 G V = fun i : S512x1.Idx => rowLength (average (slab (a := 512) (b := 2048) G) (V : Mat 2048 128)) (i 0) := by
  unfold k1_pay18
  dsimp only
  rw [average_block, rowSums_128, column (a := 512)]; rfl

theorem permuted_summary (G : Vec Ideal S1x512x2048 .f32) (V : Vec Ideal S2048x128 .bf16) :
    k1_pay19 (k1_pay17 G V) (k1_pay18 G V) = readout (slab (a := 512) (b := 2048) G) (V : Mat 2048 128) := by
  unfold k1_pay19
  dsimp only
  rw [average_block, length_block, repeated (a := 512) (b := 128) _ _ (by decide)]; rfl

theorem summary_as (G : Vec Ideal S1x512x2048 .f32) (V : Vec Ideal S2048x128 .bf16) :
    k1_pay16 G V = k1_pay19 (k1_pay17 G V) (k1_pay18 G V) := rfl

theorem summary (G : Vec Ideal S1x512x2048 .f32) (V : Vec Ideal S2048x128 .bf16) :
    k1_pay16 G V = readout (slab (a := 512) (b := 2048) G) (V : Mat 2048 128) :=
  (summary_as G V).trans (permuted_summary G V)

/-! ## The scores and their losses -/

theorem score_block (g : FVec Ideal S512x128 .f32) (W : Vec Ideal S128x128 .f32) (V : Vec Ideal S512x128 .bf16) (c : EReal) :
    k1_pay23 g W V c = fun j : S512.Idx => score (V : Mat 512 128) (W : Mat 128 128) (g : Mat 512 128) c (j 0) := by
  unfold k1_pay23 k1_pay21 k1_pay20
  dsimp only
  have e := matmul_plain (a := 512) (k := 128) (b := 128) (φ₁ := .bf16) (φ₂ := .bf16)
    dot_S512x128_S128x128_S512x128_1_0_0_1_n_n rfl none V (truncf .bf16 (W : FVec Ideal S128x128 .f32) bitsLt_bf16_f32)
  rw [rowSums_128, e]; rfl

theorem score_24 (g : FVec Ideal S512x128 .f32) (W : Vec Ideal S128x128 .f32) (V : Vec Ideal S512x128 .bf16) (c : EReal) :
    k1_pay24 g W V c = k1_pay23 g W V c := rfl

theorem score_25 (q : FVec Ideal S512x128 .f32) (n : FVec Ideal S512x1 .f32) (W : Vec Ideal S128x128 .f32)
    (V : Vec Ideal S512x128 .bf16) (c : EReal) : k1_pay25 q n W V c = k1_pay23 (k1_pay19 q n) W V c := rfl

theorem score_26 (q : FVec Ideal S512x128 .f32) (n : FVec Ideal S512x1 .f32) (W : Vec Ideal S128x128 .f32)
    (V : Vec Ideal S512x128 .bf16) (c : EReal) : k1_pay26 q n W V c = k1_pay23 (k1_pay19 q n) W V c := rfl

/-- A column of labels as a vector. -/
theorem labels_vector (L : Vec Ideal S1x512x1 .f32) : k1_pay27 L = fun j : S512.Idx => slab (a := 512) (b := 1) L (ix2 (j 0) 0) := by
  unfold k1_pay27
  dsimp only
  funext j
  refine shapeCast_apply (s := S1x512x1) (t := S512) L _ j _ ?_
  rw [Shape.rowMajor_val_one, Shape.rowMajor_val_three]
  show (0 * 512 + (j 0 : Nat)) * 1 + 0 = (j 0 : Nat)
  omega

theorem labels_28 (L : Vec Ideal S1x512x1 .f32) : k1_pay28 L = k1_pay27 L := rfl

/-- The losses of a vector of scores. -/
theorem term_vector (x t : FVec Ideal S512 .f32) :
    (addf (subf (maximumf x (broadcast S512 (Scalar.ofBits .f32 0x00000000#32))) (mulf x t))
      (log1p (exp (subf (broadcast S512 (Scalar.ofBits .f32 0x00000000#32)) (absf x)))) : FVec Ideal S512 .f32)
      = fun j => term (x j) (t j) := by
  funext j
  show (max (x j) (Ideal.ofBits .f32 0x00000000#32) - x j * t j)
    + Ideal.log1p (Ideal.exp (Ideal.ofBits .f32 0x00000000#32 - max (x j) (-(x j)))) = _
  rw [Ideal.ofBits_zero_f32, zero_sub]; rfl

/-- Three of the four losses of a row block. -/
theorem three_losses (s₁ s₂ s₃ t₁ t₂ : FVec Ideal S512 .f32) :
    k1_pay31 s₂ s₃ t₁ t₂
      (subf (maximumf s₁ (broadcast S512 (Scalar.ofBits .f32 0x00000000#32))) (mulf s₁ t₁)) (absf s₁) (Scalar.ofBits .f32 0x00000000#32)
      = (∑ r : Fin 512, term (s₁ (ix1 r)) (t₁ (ix1 r))) + (∑ r : Fin 512, term (s₂ (ix1 r)) (t₂ (ix1 r)))
        + ∑ r : Fin 512, term (s₃ (ix1 r)) (t₁ (ix1 r)) := by
  unfold k1_pay31
  dsimp only
  rw [term_vector, term_vector, term_vector]
  exact congrArg₂ (· + ·) (congrArg₂ (· + ·) (vectorTotal (a := 512) _ _ _ _ _ _ _) (vectorTotal (a := 512) _ _ _ _ _ _ _))
    (vectorTotal (a := 512) _ _ _ _ _ _ _)

/-- The fourth, added with the other three to the running sum. -/
theorem fourth_loss (s t : FVec Ideal S512 .f32) (prev three : EReal) :
    k1_pay3 prev three (k1_pay32 s t) = prev + (three + ∑ r : Fin 512, term (s (ix1 r)) (t (ix1 r))) := by
  unfold k1_pay3 k1_pay32
  dsimp only
  rw [term_vector]
  exact congrArg (fun z => prev + (three + z)) (vectorTotal (a := 512) _ _ _ _ _ _ _)

end Cert.Encode

end
-- ==== Proof.EncodeStep.lean ====
/-
  The two amounts one point of the loss pass adds to the running sums, as functions of the blocks it reads: the losses of
  512 rows of scores, and the squared residual of 512 rows of features.
-/
module

public import proofs.«01_k».proof.Proof.EncodeBlock

@[expose] public section

noncomputable section

namespace Cert.Encode

open Idealize.ShloMosaic hiding ix0 ix1 ix2 ix3 eq_ix1 eq_ix2 eq_ix3
open Idealize.ShloMosaic.ValueIdx Cert.Align Cert.Kernel2Ideal Cert.Kernel2Ideal.Gen Cert.Kernel2Ideal.Enc
open scoped BigOperators

/-- The first column of the labels. -/
theorem labels_first (lb : Vec Ideal S1x512x2 .f32) :
    k1_pay27 (View.ld lb col0) = fun j : S512.Idx => slab (a := 512) (b := 2) lb (ix2 (j 0) 0) := by
  rw [labels_vector]
  funext j
  show lb _ = lb _
  congr 1; funext a; apply Fin.ext
  match a with
  | ⟨0, _⟩ => rfl
  | ⟨1, _⟩ => show 0 + 1 * (j 0 : Nat) = (j 0 : Nat); omega
  | ⟨2, _⟩ => rfl

/-- The second column of the labels. -/
theorem labels_second (lb : Vec Ideal S1x512x2 .f32) :
    k1_pay28 (View.ld lb col1) = fun j : S512.Idx => slab (a := 512) (b := 2) lb (ix2 (j 0) 1) := by
  rw [labels_28, labels_vector]
  funext j
  show lb _ = lb _
  congr 1; funext a; apply Fin.ext
  match a with
  | ⟨0, _⟩ => rfl
  | ⟨1, _⟩ => show 0 + 1 * (j 0 : Nat) = (j 0 : Nat); omega
  | ⟨2, _⟩ => rfl

theorem loss_step (gn : Vec Ideal S1x512x2048 .f32) (lb : Vec Ideal S1x512x2 .f32) (dw : Vec Ideal S128x128 .f32) (b : EReal)
    (sr sn : Vec Ideal S2048x128 .bf16) (hr hn : Vec Ideal S512x128 .bf16) (prev : EReal) :
    slStep (F := Ideal) gn lb dw b sr sn hr hn prev = prev + scoreLoss (a := 512) (b := 128) hr hn
      (readout (slab (a := 512) (b := 2048) gn) (sr : Mat 2048 128)) (readout (slab (a := 512) (b := 2048) gn) (sn : Mat 2048 128))
      dw b (slab (a := 512) (b := 2) lb) := by
  unfold slStep
  rw [fourth_loss]
  refine congrArg (prev + ·) ?_
  unfold k1_pay29 k1_pay30
  dsimp only
  rw [score_24, score_25, score_26, permuted_summary, summary, score_block, score_block, score_block, score_block,
    labels_first, labels_second]
  exact congrArg (· + _) (three_losses _ _ _ _ _)

theorem residual_step (ar : Vec Ideal S512x2048 .bf16) (sh : Vec Ideal S2048x128 .bf16) (ft : Vec Ideal S1x512x512 .f32)
    (dec : Vec Ideal S1x128x512 .f32) (prev : EReal) :
    ftStep (F := Ideal) ar sh ft dec prev = prev + sumSq (diff (slab (a := 512) (b := 512) ft)
      (prod (prod (a := 512) (k := 2048) (b := 128) ar sh) (slab (a := 128) (b := 512) dec))) := by
  unfold ftStep k1_pay4 k1_pay14
  dsimp only
  have e1 := matmul_plain (a := 512) (k := 2048) (b := 128) (φ₁ := .bf16) (φ₂ := .bf16)
    dot_S512x2048_S2048x128_S512x128_1_0_0_1_n_n rfl none ar sh
  have e2 := matmul_plain (a := 512) (k := 128) (b := 512) (φ₁ := .bf16) (φ₂ := .bf16)
    dot_S512x128_S128x512_S512x512_1_0_0_1_n_n rfl none
    (truncf .bf16 (prod (a := 512) (k := 2048) (b := 128) ar sh : FVec Ideal S512x128 .f32) bitsLt_bf16_f32)
    (truncf .bf16 (slab (a := 128) (b := 512) dec : FVec Ideal S128x512 .f32) bitsLt_bf16_f32)
  rw [squeeze_slab (a := 512) (b := 512), squeeze_slab (a := 128) (b := 512), e1, e2]
  exact congrArg (prev + ·) (blockTotal (a := 512) (b := 512) _ _ _ _ _ _ _)

end Cert.Encode

end
-- ==== Proof.Kernel2Ideal.Data.lean ====
/-
  The two calls' proof data: what every buffer holds after each grid point. The encoder call's four scratch matrices are
  described by how many of their rows the current network's encoding pass has stored so far; its two sums by a recursion
  over the points.
-/
module

public import proofs.«01_k».proof.Proof.Kernel2Ideal.Body

@[expose] public section

set_option maxRecDepth 16384

noncomputable section

namespace Cert.Kernel2Ideal.Enc

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/- What the buffers hold when a call is entered. -/
variable (V : (c : Dev nD) → (b : Ref sig .tc) → Buf (Elt F) ((c : Thread nD τ).loc b))

/-! ## The call computing the feature products -/

/-- The block window `w` reads at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body stores its product over the whole output block. -/
theorem point_product (c : Dev nD) (E : Set ℕ) (i : grid0.Coords) (arg1 : Memref sig .tc .vmem S1x2048x512 .f32) (harg1 : arg1.IsWhole)
    (arg2 : Memref sig .tc .vmem S1x512x128 .f32) (harg2 : arg2.IsWhole) (arg3 : Memref sig .tc .vmem S1x2048x128 .f32) (harg3 : arg3.IsWhole)
    (x0 : Vec F S1x2048x512 .f32) (x1 : Vec F S1x512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__xe_body i arg1 harg1 arg2 harg2 arg3 harg3) K := by
  simp only [cc0__xe_body_eq_skeleton]; unfold cc0__xe_body_skel
  unfold owns
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine (read_whole _ _ zero3 _ _ _).trans ?_
  sl_unfold_words
  simp only [View.readAt_eq_ld, harg1.read_unread, harg2.read_unread, View.ld_unit_zero (S := S1x2048x512) zero3, View.ld_unit_zero (S := S1x512x128) zero3]

/-- The first call's data: each output block is the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem before0_0 (c : Dev nD) (t : Fin cfg0.N) (d) : (dat0 V c).before 0 t d = iblk0 V c 0 t :=
  found0_0 V (dat0 V c) (A_eq0 V c 0) (after0_0 V c) t d
theorem before0_1 (c : Dev nD) (t : Fin cfg0.N) (d) : (dat0 V c).before 1 t d = iblk0 V c 1 t :=
  found0_1 V (dat0 V c) (A_eq0 V c 1) (after0_1 V c) t d

theorem row0 (t : Fin cfg0.N) : defs₀ (F := F) .tc cfg0.body (cfg0.bodyArgs t (cfg0.slots t)) = bodyAt0 t := by
  unfold defs₀; rw [Defs.onTc_tc]

theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (point_product c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every point of the first call is as its data say. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-! ## The encoder call -/

/-- The block window `w` reads at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem found1_5 {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem found1_6 {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem found1_7 {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem found1_8 {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ### The points: eight per network, four of the encoding pass and then four of the loss pass -/

theorem isEnc : ∀ t : Fin cfg1.N, k1_cond1 (grid1.coords t) = 1#1 ↔ t.val / 4 % 2 = 0 := by decide +kernel
theorem isLoss : ∀ t : Fin cfg1.N, k1_cond2 (grid1.coords t) = 1#1 ↔ t.val / 4 % 2 = 1 := by decide +kernel
theorem isFirst : ∀ t : Fin cfg1.N, k1_cond3 (grid1.coords t) = 1#1 ↔ t.val / 8 % 2 + t.val % 4 = 0 := by decide +kernel
theorem offA : ∀ t : Fin cfg1.N, k1_off1 (grid1.coords t) 0 = 512 * (t.val % 4) ∧ k1_off1 (grid1.coords t) 1 = 0 := by decide +kernel
theorem offH : ∀ t : Fin cfg1.N, k1_off2 (grid1.coords t) 0 = 512 * (t.val % 4) ∧ k1_off2 (grid1.coords t) 1 = 0 := by decide +kernel

/-- Point `r` of network `k`. -/
def pt (k r : ℕ) : Fin cfg1.N := ⟨(8 * k + r) % 16, lt_of_lt_of_eq (Nat.mod_lt _ (by decide)) N_1.symm⟩
theorem lt16 (t : Fin cfg1.N) : t.val < 16 := lt_of_lt_of_eq t.isLt N_1
theorem pt_self (t : Fin cfg1.N) : pt (t.val / 8) (t.val % 8) = t := by
  have := lt16 t
  apply Fin.ext; show (8 * (t.val / 8) + t.val % 8) % 16 = t.val; omega

/-! ### The scratch matrices -/

def row512 (n : ℕ) : Fin 512 := ⟨n % 512, Nat.mod_lt _ (by decide)⟩

/-- The four scratch matrices of network `k` once its encoding pass is over. -/
def fullA (c : Dev nD) (k : ℕ) : Vec F S2048x2048 .bf16 := fun y =>
  k1_pay6 (iblk1 V c 0 (pt k ((y 0).val / 512))) (ix2 (row512 (y 0).val) (y 1))
def fullH (c : Dev nD) (k : ℕ) : Vec F S2048x128 .bf16 := fun y =>
  k1_pay9 (iblk1 V c 0 (pt k ((y 0).val / 512))) (iblk1 V c 4 (pt k ((y 0).val / 512))) (ix2 (row512 (y 0).val) (y 1))
def fullR (c : Dev nD) (k : ℕ) : Vec F S2048x128 .bf16 := fun y =>
  k1_pay10 (iblk1 V c 0 (pt k ((y 0).val / 512))) (iblk1 V c 4 (pt k ((y 0).val / 512))) (ix2 (row512 (y 0).val) (y 1))
def fullN (c : Dev nD) (k : ℕ) : Vec F S2048x128 .bf16 := fun y =>
  k1_pay1 (k1_pay11 (iblk1 V c 0 (pt k ((y 0).val / 512))) (iblk1 V c 5 (pt k ((y 0).val / 512)))) (ix2 (row512 (y 0).val) (y 1))

/-- How many rows the network's encoding pass has stored before point `n`, and whose network they are. -/
def known (n : ℕ) : ℕ := if n = 0 then 0 else 512 * (min ((n - 1) % 8) 3 + 1)
def net (n : ℕ) : ℕ := (n - 1) / 8
theorem known_enc {n : ℕ} (h : n / 4 % 2 = 0) : known (n + 1) = 512 * (n % 4) + 512 := by unfold known; rw [if_neg (by omega)]; omega
theorem known_enc_before {n : ℕ} (h : n / 4 % 2 = 0) (h' : n % 4 ≠ 0) : known n = 512 * (n % 4) := by unfold known; rw [if_neg (by omega)]; omega
theorem known_loss {n : ℕ} (h : n / 4 % 2 = 1) : known n = 2048 := by unfold known; rw [if_neg (by omega)]; omega
theorem net_loss {n : ℕ} (h : n / 4 % 2 = 1) : net n = n / 8 := by unfold net; omega
theorem net_succ (n : ℕ) : net (n + 1) = n / 8 := by unfold net; omega

/-- Contents `s` agree with the final contents on the rows stored so far. -/
def Fits2048 (full : ℕ → Vec F S2048x2048 .bf16) (n : ℕ) (s : Vec F S2048x2048 .bf16) : Prop := ∀ y, (y 0).val < known n → s y = full (net n) y

/-- In the loss pass that is all the rows. -/
theorem Fits2048.all {full : ℕ → Vec F S2048x2048 .bf16} {n : ℕ} {s : Vec F S2048x2048 .bf16} (h : Fits2048 full n s) (hn : n / 4 % 2 = 1) :
    s = full (n / 8) :=
  funext fun y => (h y (by rw [known_loss hn]; exact (y 0).isLt)).trans (by rw [net_loss hn])
theorem Fits2048.of_all (full : ℕ → Vec F S2048x2048 .bf16) (n : ℕ) : Fits2048 full (n + 1) (full (n / 8)) := fun y _ => by rw [net_succ]
theorem Fits2048.zero (full : ℕ → Vec F S2048x2048 .bf16) (s : Vec F S2048x2048 .bf16) : Fits2048 full 0 s := fun y h => absurd h (Nat.not_lt_zero _)

/-- A point of the encoding pass stores the next 512 rows. -/
theorem Fits2048.step {full : ℕ → Vec F S2048x2048 .bf16} {t : Fin cfg1.N} {s s' : Vec F S2048x2048 .bf16} (h : Fits2048 full t.val s) (ht : t.val / 4 % 2 = 0)
    {off : Fin 2 → ℕ} (inb : ∀ a, off a + S512x2048.size a ≤ S2048x2048.size a) (h0 : off 0 = 512 * (t.val % 4)) (h1 : off 1 = 0)
    (p : Vec F S512x2048 .bf16) (hp : ∀ y, (y 0).val / 512 = t.val % 4 → full (t.val / 8) y = p (ix2 (row512 (y 0).val) (y 1)))
    (hs : Put (Rect.unit (s := S2048x2048) off S512x2048.size inb) p s s') : Fits2048 full (t.val + 1) s' := by
  intro y hy
  rw [known_enc ht] at hy
  rw [net_succ]
  by_cases hr : 512 * (t.val % 4) ≤ (y 0).val
  · have e : (Rect.unit (s := S2048x2048) off S512x2048.size inb).emb (ix2 (row512 (y 0).val) (y 1)) = y := by
      funext a; apply Fin.ext
      match a with
      | ⟨0, _⟩ => show off 0 + 1 * ((y 0).val % 512) = (y 0).val; rw [h0]; omega
      | ⟨1, _⟩ => show off 1 + 1 * (y 1).val = (y 1).val; rw [h1]; omega
    rw [hp y (by omega), ← hs.1, e]
  · have hne : y ∉ (Rect.unit (s := S2048x2048) off S512x2048.size inb).set := by
      intro hm
      obtain ⟨j, -, hj⟩ := (LoadRect.mem_set _).mp hm 0
      have e0 : (y 0).val = off 0 + 1 * j := hj
      apply hr
      rw [e0, h0]; omega
    have h4 : t.val % 4 ≠ 0 := by intro h4; rw [h4] at hr; omega
    rw [hs.2 y hne, h y (by rw [known_enc_before ht h4]; omega)]
    congr 1; unfold net; omega

/-- Contents `s` agree with the final contents on the rows stored so far. -/
def Fits128 (full : ℕ → Vec F S2048x128 .bf16) (n : ℕ) (s : Vec F S2048x128 .bf16) : Prop := ∀ y, (y 0).val < known n → s y = full (net n) y

/-- In the loss pass that is all the rows. -/
theorem Fits128.all {full : ℕ → Vec F S2048x128 .bf16} {n : ℕ} {s : Vec F S2048x128 .bf16} (h : Fits128 full n s) (hn : n / 4 % 2 = 1) :
    s = full (n / 8) :=
  funext fun y => (h y (by rw [known_loss hn]; exact (y 0).isLt)).trans (by rw [net_loss hn])
theorem Fits128.of_all (full : ℕ → Vec F S2048x128 .bf16) (n : ℕ) : Fits128 full (n + 1) (full (n / 8)) := fun y _ => by rw [net_succ]
theorem Fits128.zero (full : ℕ → Vec F S2048x128 .bf16) (s : Vec F S2048x128 .bf16) : Fits128 full 0 s := fun y h => absurd h (Nat.not_lt_zero _)

/-- A point of the encoding pass stores the next 512 rows. -/
theorem Fits128.step {full : ℕ → Vec F S2048x128 .bf16} {t : Fin cfg1.N} {s s' : Vec F S2048x128 .bf16} (h : Fits128 full t.val s) (ht : t.val / 4 % 2 = 0)
    {off : Fin 2 → ℕ} (inb : ∀ a, off a + S512x128.size a ≤ S2048x128.size a) (h0 : off 0 = 512 * (t.val % 4)) (h1 : off 1 = 0)
    (p : Vec F S512x128 .bf16) (hp : ∀ y, (y 0).val / 512 = t.val % 4 → full (t.val / 8) y = p (ix2 (row512 (y 0).val) (y 1)))
    (hs : Put (Rect.unit (s := S2048x128) off S512x128.size inb) p s s') : Fits128 full (t.val + 1) s' := by
  intro y hy
  rw [known_enc ht] at hy
  rw [net_succ]
  by_cases hr : 512 * (t.val % 4) ≤ (y 0).val
  · have e : (Rect.unit (s := S2048x128) off S512x128.size inb).emb (ix2 (row512 (y 0).val) (y 1)) = y := by
      funext a; apply Fin.ext
      match a with
      | ⟨0, _⟩ => show off 0 + 1 * ((y 0).val % 512) = (y 0).val; rw [h0]; omega
      | ⟨1, _⟩ => show off 1 + 1 * (y 1).val = (y 1).val; rw [h1]; omega
    rw [hp y (by omega), ← hs.1, e]
  · have hne : y ∉ (Rect.unit (s := S2048x128) off S512x128.size inb).set := by
      intro hm
      obtain ⟨j, -, hj⟩ := (LoadRect.mem_set _).mp hm 0
      have e0 : (y 0).val = off 0 + 1 * j := hj
      apply hr
      rw [e0, h0]; omega
    have h4 : t.val % 4 ≠ 0 := by intro h4; rw [h4] at hr; omega
    rw [hs.2 y hne, h y (by rw [known_enc_before ht h4]; omega)]
    congr 1; unfold net; omega

/-! ### The results after each point -/

/-- The hidden rows and row sums in their windows after point `t`: those of the network's latest encoding point. -/
def lastEnc (t : Fin cfg1.N) : Fin cfg1.N := pt (t.val / 8) (min (t.val % 8) 3)
theorem lastEnc_enc (t : Fin cfg1.N) (h : t.val / 4 % 2 = 0) : lastEnc t = t := by
  unfold lastEnc; rw [show min (t.val % 8) 3 = t.val % 8 by omega]; exact pt_self t

theorem lastEnc_pred (t : Fin cfg1.N) (h : t.val / 4 % 2 = 1) : lastEnc (⟨t.val - 1, Nat.lt_of_le_of_lt (Nat.sub_le _ _) t.isLt⟩ : Fin cfg1.N) = lastEnc t := by
  unfold lastEnc
  rw [show (t.val - 1) / 8 = t.val / 8 by omega, show min ((t.val - 1) % 8) 3 = min (t.val % 8) 3 by omega]

/-- The two running sums after point `n`: a point of the encoding pass keeps them, one of the loss pass adds its share. -/
def slAt (c : Dev nD) : ℕ → Elt F .f32
  | 0 => FloatOps.ofBits .f32 0x00000000#32
  | n + 1 => if h : (n + 1) / 4 % 2 = 1 ∧ n + 1 < 16 then
      slStep (iblk1 V c 1 ⟨n + 1, lt_of_lt_of_eq h.2 N_1.symm⟩) (iblk1 V c 3 ⟨n + 1, lt_of_lt_of_eq h.2 N_1.symm⟩)
        (iblk1 V c 7 ⟨n + 1, lt_of_lt_of_eq h.2 N_1.symm⟩) (iblk1 V c 8 ⟨n + 1, lt_of_lt_of_eq h.2 N_1.symm⟩ (ix2 0 0))
        (fullR V c ((n + 1) / 8)) (fullN V c ((n + 1) / 8))
        (View.ld (fullR V c ((n + 1) / 8)) (readH (grid1.coords ⟨n + 1, lt_of_lt_of_eq h.2 N_1.symm⟩) ((isLoss _).mpr h.1)))
        (View.ld (fullN V c ((n + 1) / 8)) (readH (grid1.coords ⟨n + 1, lt_of_lt_of_eq h.2 N_1.symm⟩) ((isLoss _).mpr h.1))) (slAt c n)
    else slAt c n
def ftAt (c : Dev nD) : ℕ → Elt F .f32
  | 0 => FloatOps.ofBits .f32 0x00000000#32
  | n + 1 => if h : (n + 1) / 4 % 2 = 1 ∧ n + 1 < 16 then
      ftStep (View.ld (fullA V c ((n + 1) / 8)) (readA (grid1.coords ⟨n + 1, lt_of_lt_of_eq h.2 N_1.symm⟩) ((isLoss _).mpr h.1)))
        (fullH V c ((n + 1) / 8)) (iblk1 V c 2 ⟨n + 1, lt_of_lt_of_eq h.2 N_1.symm⟩) (iblk1 V c 6 ⟨n + 1, lt_of_lt_of_eq h.2 N_1.symm⟩) (ftAt c n)
    else ftAt c n

/-- One point of the loss pass, from the value before it. -/
theorem slAt_loss (c : Dev nD) (t : Fin cfg1.N) (h : t.val / 4 % 2 = 1) :
    slAt V c t.val = slStep (iblk1 V c 1 t) (iblk1 V c 3 t) (iblk1 V c 7 t) (iblk1 V c 8 t (ix2 0 0)) (fullR V c (t.val / 8)) (fullN V c (t.val / 8))
      (View.ld (fullR V c (t.val / 8)) (readH (grid1.coords t) ((isLoss t).mpr h)))
      (View.ld (fullN V c (t.val / 8)) (readH (grid1.coords t) ((isLoss t).mpr h))) (slAt V c (t.val - 1)) := by
  obtain ⟨n, hn⟩ := t
  match n, hn, h with
  | 0, hn, h => exact absurd (show 0 / 4 % 2 = 1 from h) (by decide)
  | m + 1, hn, h => rw [slAt, dif_pos ⟨h, lt_of_lt_of_eq hn N_1⟩]; rfl
theorem ftAt_loss (c : Dev nD) (t : Fin cfg1.N) (h : t.val / 4 % 2 = 1) :
    ftAt V c t.val = ftStep (View.ld (fullA V c (t.val / 8)) (readA (grid1.coords t) ((isLoss t).mpr h))) (fullH V c (t.val / 8))
      (iblk1 V c 2 t) (iblk1 V c 6 t) (ftAt V c (t.val - 1)) := by
  obtain ⟨n, hn⟩ := t
  match n, hn, h with
  | 0, hn, h => exact absurd (show 0 / 4 % 2 = 1 from h) (by decide)
  | m + 1, hn, h => rw [ftAt, dif_pos ⟨h, lt_of_lt_of_eq hn N_1⟩]; rfl
theorem slAt_enc (c : Dev nD) (n : ℕ) (h : n / 4 % 2 = 0) (h0 : n ≠ 0) : slAt V c n = slAt V c (n - 1) := by
  match n, h0 with
  | m + 1, _ => rw [slAt, dif_neg (by omega)]; rfl
theorem ftAt_enc (c : Dev nD) (n : ℕ) (h : n / 4 % 2 = 0) (h0 : n ≠ 0) : ftAt V c n = ftAt V c (n - 1) := by
  match n, h0 with
  | m + 1, _ => rw [ftAt, dif_neg (by omega)]; rfl
theorem slAt_start (c : Dev nD) : slAt V c 3 = FloatOps.ofBits .f32 0x00000000#32 := by
  rw [slAt_enc V c 3 rfl (by decide), slAt_enc V c 2 rfl (by decide), slAt_enc V c 1 rfl (by decide)]; rfl
theorem ftAt_start (c : Dev nD) : ftAt V c 3 = FloatOps.ofBits .f32 0x00000000#32 := by
  rw [ftAt_enc V c 3 rfl (by decide), ftAt_enc V c 2 rfl (by decide), ftAt_enc V c 1 rfl (by decide)]; rfl

abbrev scA : Memref sig .tc .vmem S2048x2048 .bf16 := Memref.whole cc1_scratch0
abbrev scH : Memref sig .tc .vmem S2048x128 .bf16 := Memref.whole cc1_scratch1
abbrev scR : Memref sig .tc .vmem S2048x128 .bf16 := Memref.whole cc1_scratch2
abbrev scN : Memref sig .tc .vmem S2048x128 .bf16 := Memref.whole cc1_scratch3

/-- The scratch matrices between two points. -/
def scratch (c : Dev nD) (n : ℕ) : sProp 𝕄 :=
  iprop((∃ s, ⌜Fits2048 (fullA V c) n s⌝ ∗ owns (c : Thread nD τ) scA fullShare s) ∗ (∃ s, ⌜Fits128 (fullH V c) n s⌝ ∗ owns (c : Thread nD τ) scH fullShare s)
    ∗ (∃ s, ⌜Fits128 (fullR V c) n s⌝ ∗ owns (c : Thread nD τ) scR fullShare s) ∗ (∃ s, ⌜Fits128 (fullN V c) n s⌝ ∗ owns (c : Thread nD τ) scN fullShare s))

/-- The first call's staging buffers, which this call leaves alone. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What holds between two points. -/
def between (c : Dev nD) (n : ℕ) : sProp 𝕄 := iprop(scratch V c n ∗ others (F := F) c ∗ (∃ r, prngReg c r))

/-- The encoder call's data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay8 (iblk1 V c 0 (lastEnc t)) (iblk1 V c 4 (lastEnc t))
    | ⟨10, _⟩ => k1_pay2 (k1_pay7 (iblk1 V c 0 (lastEnc t)) (iblk1 V c 4 (lastEnc t)))
    | ⟨11, _⟩ => fun _ => slAt V c t.val
    | ⟨12, _⟩ => fun _ => ftAt V c t.val
  Φ n := between V c n.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay8 (iblk1 V c 0 (lastEnc t)) (iblk1 V c 4 (lastEnc t)) := by dsimp only [dat1]
theorem after1_10 (c : Dev nD) (t : Fin cfg1.N) : (dat1 V c).after 10 t = k1_pay2 (k1_pay7 (iblk1 V c 0 (lastEnc t)) (iblk1 V c 4 (lastEnc t))) := by dsimp only [dat1]
theorem after1_11 (c : Dev nD) (t : Fin cfg1.N) : (dat1 V c).after 11 t = fun _ => slAt V c t.val := by dsimp only [dat1]
theorem after1_12 (c : Dev nD) (t : Fin cfg1.N) : (dat1 V c).after 12 t = fun _ => ftAt V c t.val := by dsimp only [dat1]
theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d
theorem before1_5 (c : Dev nD) (t : Fin cfg1.N) (d) : (dat1 V c).before 5 t d = iblk1 V c 5 t :=
  found1_5 V (dat1 V c) (A_eq1 V c 5) (after1_5 V c) t d
theorem before1_6 (c : Dev nD) (t : Fin cfg1.N) (d) : (dat1 V c).before 6 t d = iblk1 V c 6 t :=
  found1_6 V (dat1 V c) (A_eq1 V c 6) (after1_6 V c) t d
theorem before1_7 (c : Dev nD) (t : Fin cfg1.N) (d) : (dat1 V c).before 7 t d = iblk1 V c 7 t :=
  found1_7 V (dat1 V c) (A_eq1 V c 7) (after1_7 V c) t d
theorem before1_8 (c : Dev nD) (t : Fin cfg1.N) (d) : (dat1 V c).before 8 t d = iblk1 V c 8 t :=
  found1_8 V (dat1 V c) (A_eq1 V c 8) (after1_8 V c) t d

/-! ### Which points leave a result window alone, and where it is written back -/

/-- After a point that stores to a window, not followed by a write-back, the next point finds what it left. -/
theorem found_after (c : Dev nD) (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hlive : cfg1.idle w (cfg1.grid.coords (⟨t.val - 1, Nat.lt_of_le_of_lt (Nat.sub_le _ _) t.isLt⟩ : Fin cfg1.N)) = false)
    (hclip : ∀ (i : cfg1.grid.Coords) a, (cfg1.win w).clip i a = none) (d) :
    (dat1 V c).before w t d = (dat1 V c).after w ⟨t.val - 1, Nat.lt_of_le_of_lt (Nat.sub_le _ _) t.isLt⟩ := by
  rw [Dat.before_of_pos _ w t ht ((cfg1.win w).fetch_out hw t), hfl, if_neg Bool.false_ne_true]
  unfold Dat.left; rw [hlive]
  show (dat1 V c).kept w _ d = _
  unfold Dat.kept
  rw [Pipeline.fill_of_clip_none w _ (hclip _) d ((dat1 V c).after w _), Window.fill_cut]

/-- After a point that leaves the window alone, the next finds what that one found. -/
theorem found_before (c : Dev nD) (w : Fin cfg1.W) (hw : (cfg1.win w).isOut = true) (t : Fin cfg1.N) (ht : t.val ≠ 0)
    (hfl : (cfg1.win w).flush ⟨t.val - 1, Nat.lt_of_le_of_lt (Nat.sub_le _ _) t.isLt⟩ = false)
    (hidle : cfg1.idle w (cfg1.grid.coords (⟨t.val - 1, Nat.lt_of_le_of_lt (Nat.sub_le _ _) t.isLt⟩ : Fin cfg1.N)) = true) (d) :
    (dat1 V c).before w t d = (dat1 V c).before w ⟨t.val - 1, Nat.lt_of_le_of_lt (Nat.sub_le _ _) t.isLt⟩ d := by
  rw [Dat.before_of_pos _ w t ht ((cfg1.win w).fetch_out hw t), hfl, if_neg Bool.false_ne_true]
  unfold Dat.left; rw [hidle]

theorem idle9 : ∀ t : Fin cfg1.N, cfg1.idle 9 (grid1.coords t) = !decide (t.val / 4 % 2 = 0) := by decide +kernel
theorem idle10 : ∀ t : Fin cfg1.N, cfg1.idle 10 (grid1.coords t) = !decide (t.val / 4 % 2 = 0) := by decide +kernel
theorem idle11 : ∀ t : Fin cfg1.N, cfg1.idle 11 (grid1.coords t) = !decide (t.val / 4 % 2 = 1) := by decide +kernel
theorem idle12 : ∀ t : Fin cfg1.N, cfg1.idle 12 (grid1.coords t) = !decide (t.val / 4 % 2 = 1) := by decide +kernel
theorem flush9 : ∀ t : Fin cfg1.N, t.val % 8 = 3 ∨ t.val % 8 = 4 ∨ t.val % 8 = 5 ∨ t.val % 8 = 6 → (cfg1.win 9).flush t = false := by decide +kernel
theorem flush10 : ∀ t : Fin cfg1.N, t.val % 8 = 3 ∨ t.val % 8 = 4 ∨ t.val % 8 = 5 ∨ t.val % 8 = 6 → (cfg1.win 10).flush t = false := by decide +kernel
theorem flush11 (t : Fin cfg1.N) (h : t.val < 15) : (cfg1.win 11).flush t = false :=
  Bool.eq_false_iff.mpr fun e => by have := (flush1_11 t).mp e; omega
theorem flush12 (t : Fin cfg1.N) (h : t.val < 15) : (cfg1.win 12).flush t = false :=
  Bool.eq_false_iff.mpr fun e => by have := (flush1_12 t).mp e; omega

/-- In the loss pass window 9 still holds what the network's last encoding point left. -/
theorem kept9 (c : Dev nD) : ∀ (r : ℕ) (t : Fin cfg1.N), t.val % 8 = 4 + r → ∀ d, (dat1 V c).before 9 t d = (dat1 V c).after 9 t
  | 0, t, h, d => by
    have hN := lt16 t
    refine (found_after V c 9 rfl t (by omega) (flush9 _ (by left; show (t.val - 1) % 8 = 3; omega)) ?_ (fun _ _ => rfl) d).trans ?_
    · refine (idle9 _).trans ?_
      simp only [Bool.not_eq_false', decide_eq_true_eq]; show (t.val - 1) / 4 % 2 = 0; omega
    · rw [after1_9, after1_9, lastEnc_pred t (by omega)]
  | r + 1, t, h, d => by
    have hN := lt16 t
    have hlt : t.val % 8 < 8 := Nat.mod_lt _ (by decide)
    refine (found_before V c 9 rfl t (by omega) (flush9 _ (by show (t.val - 1) % 8 = 3 ∨ (t.val - 1) % 8 = 4 ∨ (t.val - 1) % 8 = 5 ∨ (t.val - 1) % 8 = 6; omega)) ?_ d).trans ?_
    · refine (idle9 _).trans ?_
      simp only [Bool.not_eq_true', decide_eq_false_iff_not]; show ¬ (t.val - 1) / 4 % 2 = 0; omega
    · rw [kept9 c r ⟨t.val - 1, _⟩ (by show (t.val - 1) % 8 = 4 + r; omega) d, after1_9, after1_9, lastEnc_pred t (by omega)]

/-- In the loss pass window 10 still holds what the network's last encoding point left. -/
theorem kept10 (c : Dev nD) : ∀ (r : ℕ) (t : Fin cfg1.N), t.val % 8 = 4 + r → ∀ d, (dat1 V c).before 10 t d = (dat1 V c).after 10 t
  | 0, t, h, d => by
    have hN := lt16 t
    refine (found_after V c 10 rfl t (by omega) (flush10 _ (by left; show (t.val - 1) % 8 = 3; omega)) ?_ (fun _ _ => rfl) d).trans ?_
    · refine (idle10 _).trans ?_
      simp only [Bool.not_eq_false', decide_eq_true_eq]; show (t.val - 1) / 4 % 2 = 0; omega
    · rw [after1_10, after1_10, lastEnc_pred t (by omega)]
  | r + 1, t, h, d => by
    have hN := lt16 t
    have hlt : t.val % 8 < 8 := Nat.mod_lt _ (by decide)
    refine (found_before V c 10 rfl t (by omega) (flush10 _ (by show (t.val - 1) % 8 = 3 ∨ (t.val - 1) % 8 = 4 ∨ (t.val - 1) % 8 = 5 ∨ (t.val - 1) % 8 = 6; omega)) ?_ d).trans ?_
    · refine (idle10 _).trans ?_
      simp only [Bool.not_eq_true', decide_eq_false_iff_not]; show ¬ (t.val - 1) / 4 % 2 = 0; omega
    · rw [kept10 c r ⟨t.val - 1, _⟩ (by show (t.val - 1) % 8 = 4 + r; omega) d, after1_10, after1_10, lastEnc_pred t (by omega)]

/-- After the first point of the loss pass window 11 holds the running sum, through the next network's encoding pass too. -/
theorem kept11 (c : Dev nD) : ∀ (n : ℕ) (t : Fin cfg1.N), t.val = n + 5 → ∀ d, (dat1 V c).before 11 t d = fun _ => slAt V c (t.val - 1)
  | n, t, h, d => by
    have hN := lt16 t
    by_cases hp : (t.val - 1) / 4 % 2 = 1
    · refine (found_after V c 11 rfl t (by omega) (flush11 _ (by show t.val - 1 < 15; omega)) ?_ (fun _ _ => rfl) d).trans (after1_11 V c _)
      refine (idle11 _).trans ?_
      simp only [Bool.not_eq_false', decide_eq_true_eq]; exact hp
    · match n, h with
      | 0, h => exact absurd (by omega) hp
      | m + 1, h =>
        refine (found_before V c 11 rfl t (by omega) (flush11 _ (by show t.val - 1 < 15; omega)) ?_ d).trans ?_
        · refine (idle11 _).trans ?_
          simp only [Bool.not_eq_true', decide_eq_false_iff_not]; exact hp
        · rw [kept11 c m ⟨t.val - 1, _⟩ (by show t.val - 1 = m + 5; omega) d, slAt_enc V c (t.val - 1) (by omega) (by omega)]

/-- After the first point of the loss pass window 12 holds the running sum, through the next network's encoding pass too. -/
theorem kept12 (c : Dev nD) : ∀ (n : ℕ) (t : Fin cfg1.N), t.val = n + 5 → ∀ d, (dat1 V c).before 12 t d = fun _ => ftAt V c (t.val - 1)
  | n, t, h, d => by
    have hN := lt16 t
    by_cases hp : (t.val - 1) / 4 % 2 = 1
    · refine (found_after V c 12 rfl t (by omega) (flush12 _ (by show t.val - 1 < 15; omega)) ?_ (fun _ _ => rfl) d).trans (after1_12 V c _)
      refine (idle12 _).trans ?_
      simp only [Bool.not_eq_false', decide_eq_true_eq]; exact hp
    · match n, h with
      | 0, h => exact absurd (by omega) hp
      | m + 1, h =>
        refine (found_before V c 12 rfl t (by omega) (flush12 _ (by show t.val - 1 < 15; omega)) ?_ d).trans ?_
        · refine (idle12 _).trans ?_
          simp only [Bool.not_eq_true', decide_eq_false_iff_not]; exact hp
        · rw [kept12 c m ⟨t.val - 1, _⟩ (by show t.val - 1 = m + 5; omega) d, ftAt_enc V c (t.val - 1) (by omega) (by omega)]

end Cert.Kernel2Ideal.Enc

end
-- ==== Proof.EncodeArrays.lean ====
/-
  The encoder call as a whole: the block each window holds at a point as part of the array behind it, the four scratch
  matrices of a network, and the two running sums after the last point, which are sums over both networks.
-/
module

public import proofs.«01_k».proof.Proof.EncodeStep
public import proofs.«01_k».proof.Proof.Kernel2Ideal.Data

@[expose] public section

noncomputable section

namespace Cert.Encode

open Idealize.ShloMosaic hiding ix0 ix1 ix2 ix3 eq_ix1 eq_ix2 eq_ix3
open Idealize.ShloMosaic.TcCoe Idealize.ShloMosaic.ValueIdx Cert.Align Cert.Kernel2Ideal Cert.Kernel2Ideal.Gen Cert.Kernel2Ideal.Enc
open Idealize.ShloMosaic.Pipeline (Dat)
open scoped BigOperators

/-- Matrix `k` of a stack. -/
def page {n a b : ℕ} (X : (⟨3, ![n, a, b]⟩ : Shape).Idx → EReal) (k : Fin n) : Mat a b := fun i => X (ix3 k (i 0) (i 1))

variable (V : (c : Dev nD) → (b : Ref sig .tc) → Buf (Elt Ideal) ((c : Thread nD τ).loc b))

/-! ## Which network and which row block a point works on -/

def network (t : Fin cfg1.N) : Fin 2 := ⟨t.val / 8, by have := lt16 t; omega⟩
def part (t : Fin cfg1.N) : Fin 4 := ⟨t.val % 4, by omega⟩

theorem at_adj : ∀ t : Fin cfg1.N, t.val / 4 % 2 = 0 →
    win1_0.index t 0 = t.val / 8 ∧ win1_0.index t 1 = t.val % 4 ∧ win1_0.index t 2 = 0 := by decide +kernel
theorem at_neigh : ∀ t : Fin cfg1.N, t.val / 4 % 2 = 1 →
    win1_1.index t 0 = t.val / 8 ∧ win1_1.index t 1 = t.val % 4 ∧ win1_1.index t 2 = 0 := by decide +kernel
theorem at_feat : ∀ t : Fin cfg1.N, t.val / 4 % 2 = 1 →
    win1_2.index t 0 = t.val / 8 ∧ win1_2.index t 1 = t.val % 4 ∧ win1_2.index t 2 = 0 := by decide +kernel
theorem at_label : ∀ t : Fin cfg1.N, t.val / 4 % 2 = 1 →
    win1_3.index t 0 = t.val / 8 ∧ win1_3.index t 1 = t.val % 4 ∧ win1_3.index t 2 = 0 := by decide +kernel
theorem at_enc : ∀ t : Fin cfg1.N, win1_4.index t 0 = t.val / 8 ∧ win1_4.index t 1 = 0 ∧ win1_4.index t 2 = 0 := by decide +kernel
theorem at_perm : ∀ t : Fin cfg1.N, win1_5.index t 0 = t.val / 8 ∧ win1_5.index t 1 = 0 ∧ win1_5.index t 2 = 0 := by decide +kernel
theorem at_dec : ∀ t : Fin cfg1.N, win1_6.index t 0 = t.val / 8 ∧ win1_6.index t 1 = 0 ∧ win1_6.index t 2 = 0 := by decide +kernel
theorem at_disc : ∀ t : Fin cfg1.N, win1_7.index t 0 = 0 ∧ win1_7.index t 1 = 0 := by decide +kernel
theorem at_bias : ∀ t : Fin cfg1.N, win1_8.index t 0 = 0 ∧ win1_8.index t 1 = 0 := by decide +kernel
theorem at_score : ∀ t : Fin cfg1.N, win1_11.index t 0 = 0 ∧ win1_11.index t 1 = 0 := by decide +kernel
theorem at_resid : ∀ t : Fin cfg1.N, win1_12.index t 0 = 0 ∧ win1_12.index t 1 = 0 := by decide +kernel
theorem from_adj : ∀ t : Fin cfg1.N, k1_off3 (grid1.coords t) 0 = 512 * (t.val % 4) ∧ k1_off3 (grid1.coords t) 1 = 0 := by decide +kernel
theorem from_emb : ∀ t : Fin cfg1.N, k1_off4 (grid1.coords t) 0 = 512 * (t.val % 4) ∧ k1_off4 (grid1.coords t) 1 = 0 := by decide +kernel

/-! ## The blocks -/

theorem in_adj (c : Dev nD) (t : Fin cfg1.N) (h : t.val / 4 % 2 = 0) :
    slab (a := 512) (b := 2048) (iblk1 V c 0 t) = rows (page (n := 2) (a := 2048) (b := 2048) (V c main_arg1) (network t)) (part t) := by
  funext j
  unfold slab iblk1
  rw [View.read_apply]
  show V c main_arg1 _ = V c main_arg1 _
  congr 1; funext a; apply Fin.ext
  match a with
  | ⟨0, _⟩ => show win1_0.index t 0 * 1 + 1 * 0 = t.val / 8; rw [(at_adj t h).1]; omega
  | ⟨1, _⟩ => show win1_0.index t 1 * 512 + 1 * (j 0).val = t.val % 4 * 512 + (j 0).val; rw [(at_adj t h).2.1]; omega
  | ⟨2, _⟩ => show win1_0.index t 2 * 2048 + 1 * (j 1).val = (j 1).val; rw [(at_adj t h).2.2]; omega

theorem in_neigh (c : Dev nD) (t : Fin cfg1.N) (h : t.val / 4 % 2 = 1) :
    slab (a := 512) (b := 2048) (iblk1 V c 1 t) = rows (page (n := 2) (a := 2048) (b := 2048) (V c main_arg2) (network t)) (part t) := by
  funext j
  unfold slab iblk1
  rw [View.read_apply]
  show V c main_arg2 _ = V c main_arg2 _
  congr 1; funext a; apply Fin.ext
  match a with
  | ⟨0, _⟩ => show win1_1.index t 0 * 1 + 1 * 0 = t.val / 8; rw [(at_neigh t h).1]; omega
  | ⟨1, _⟩ => show win1_1.index t 1 * 512 + 1 * (j 0).val = t.val % 4 * 512 + (j 0).val; rw [(at_neigh t h).2.1]; omega
  | ⟨2, _⟩ => show win1_1.index t 2 * 2048 + 1 * (j 1).val = (j 1).val; rw [(at_neigh t h).2.2]; omega

theorem in_feat (c : Dev nD) (t : Fin cfg1.N) (h : t.val / 4 % 2 = 1) :
    slab (a := 512) (b := 512) (iblk1 V c 2 t) = rows (page (n := 2) (a := 2048) (b := 512) (V c main_arg0) (network t)) (part t) := by
  funext j
  unfold slab iblk1
  rw [View.read_apply]
  show V c main_arg0 _ = V c main_arg0 _
  congr 1; funext a; apply Fin.ext
  match a with
  | ⟨0, _⟩ => show win1_2.index t 0 * 1 + 1 * 0 = t.val / 8; rw [(at_feat t h).1]; omega
  | ⟨1, _⟩ => show win1_2.index t 1 * 512 + 1 * (j 0).val = t.val % 4 * 512 + (j 0).val; rw [(at_feat t h).2.1]; omega
  | ⟨2, _⟩ => show win1_2.index t 2 * 512 + 1 * (j 1).val = (j 1).val; rw [(at_feat t h).2.2]; omega

theorem in_label (c : Dev nD) (t : Fin cfg1.N) (h : t.val / 4 % 2 = 1) :
    slab (a := 512) (b := 2) (iblk1 V c 3 t) = rows (page (n := 2) (a := 2048) (b := 2) (V c main_arg3) (network t)) (part t) := by
  funext j
  unfold slab iblk1
  rw [View.read_apply]
  show V c main_arg3 _ = V c main_arg3 _
  congr 1; funext a; apply Fin.ext
  match a with
  | ⟨0, _⟩ => show win1_3.index t 0 * 1 + 1 * 0 = t.val / 8; rw [(at_label t h).1]; omega
  | ⟨1, _⟩ => show win1_3.index t 1 * 512 + 1 * (j 0).val = t.val % 4 * 512 + (j 0).val; rw [(at_label t h).2.1]; omega
  | ⟨2, _⟩ => show win1_3.index t 2 * 2 + 1 * (j 1).val = (j 1).val; rw [(at_label t h).2.2]; omega

theorem in_enc (c : Dev nD) (t : Fin cfg1.N) :
    slab (a := 2048) (b := 128) (iblk1 V c 4 t) = page (n := 2) (a := 2048) (b := 128) (V c main_v1) (network t) := by
  funext j
  unfold slab iblk1
  rw [View.read_apply]
  show V c main_v1 _ = V c main_v1 _
  congr 1; funext a; apply Fin.ext
  match a with
  | ⟨0, _⟩ => show win1_4.index t 0 * 1 + 1 * 0 = t.val / 8; rw [(at_enc t).1]; omega
  | ⟨1, _⟩ => show win1_4.index t 1 * 2048 + 1 * (j 0).val = (j 0).val; rw [(at_enc t).2.1]; omega
  | ⟨2, _⟩ => show win1_4.index t 2 * 128 + 1 * (j 1).val = (j 1).val; rw [(at_enc t).2.2]; omega

theorem in_perm (c : Dev nD) (t : Fin cfg1.N) :
    slab (a := 2048) (b := 128) (iblk1 V c 5 t) = page (n := 2) (a := 2048) (b := 128) (V c main_v2) (network t) := by
  funext j
  unfold slab iblk1
  rw [View.read_apply]
  show V c main_v2 _ = V c main_v2 _
  congr 1; funext a; apply Fin.ext
  match a with
  | ⟨0, _⟩ => show win1_5.index t 0 * 1 + 1 * 0 = t.val / 8; rw [(at_perm t).1]; omega
  | ⟨1, _⟩ => show win1_5.index t 1 * 2048 + 1 * (j 0).val = (j 0).val; rw [(at_perm t).2.1]; omega
  | ⟨2, _⟩ => show win1_5.index t 2 * 128 + 1 * (j 1).val = (j 1).val; rw [(at_perm t).2.2]; omega

theorem in_dec (c : Dev nD) (t : Fin cfg1.N) :
    slab (a := 128) (b := 512) (iblk1 V c 6 t) = page (n := 2) (a := 128) (b := 512) (V c main_arg5) (network t) := by
  funext j
  unfold slab iblk1
  rw [View.read_apply]
  show V c main_arg5 _ = V c main_arg5 _
  congr 1; funext a; apply Fin.ext
  match a with
  | ⟨0, _⟩ => show win1_6.index t 0 * 1 + 1 * 0 = t.val / 8; rw [(at_dec t).1]; omega
  | ⟨1, _⟩ => show win1_6.index t 1 * 128 + 1 * (j 0).val = (j 0).val; rw [(at_dec t).2.1]; omega
  | ⟨2, _⟩ => show win1_6.index t 2 * 512 + 1 * (j 1).val = (j 1).val; rw [(at_dec t).2.2]; omega

theorem in_disc (c : Dev nD) (t : Fin cfg1.N) : (iblk1 V c 7 t : Mat 128 128) = V c main_arg6 := by
  funext j
  unfold iblk1
  rw [View.read_apply]
  show V c main_arg6 _ = V c main_arg6 _
  congr 1; funext a; apply Fin.ext
  match a with
  | ⟨0, _⟩ => show win1_7.index t 0 * 128 + 1 * (j 0).val = (j 0).val; rw [(at_disc t).1]; omega
  | ⟨1, _⟩ => show win1_7.index t 1 * 128 + 1 * (j 1).val = (j 1).val; rw [(at_disc t).2]; omega

theorem in_bias (c : Dev nD) (t : Fin cfg1.N) : (iblk1 V c 8 t (ix2 0 0) : EReal) = V c main_v0 (ix2 0 0) := by
  unfold iblk1
  rw [View.read_apply]
  show V c main_v0 _ = V c main_v0 _
  congr 1; funext a; apply Fin.ext
  match a with
  | ⟨0, _⟩ => show win1_8.index t 0 * 1 + 1 * 0 = 0; rw [(at_bias t).1]
  | ⟨1, _⟩ => show win1_8.index t 1 * 1 + 1 * 0 = 0; rw [(at_bias t).2]

/-! ## The scratch matrices -/

/-- The embedding of network `k`. -/
def emb (c : Dev nD) (k : Fin 2) : Mat 2048 128 :=
  prod (page (n := 2) (a := 2048) (b := 2048) (V c main_arg1) k) (page (n := 2) (a := 2048) (b := 128) (V c main_v1) k)
/-- The embedding of the permuted features. -/
def embPerm (c : Dev nD) (k : Fin 2) : Mat 2048 128 :=
  prod (page (n := 2) (a := 2048) (b := 2048) (V c main_arg1) k) (page (n := 2) (a := 2048) (b := 128) (V c main_v2) k)

/-- The encoding point that stores row `r` of network `k`. -/
theorem storing (k : Fin 2) (q : ℕ) (hq : q < 4) : (pt k.val q).val / 4 % 2 = 0 ∧ network (pt k.val q) = k ∧ part (pt k.val q) = ⟨q, hq⟩ := by
  have hv : (pt k.val q).val = 8 * k.val + q := by show (8 * k.val + q) % 16 = _; have := k.isLt; omega
  refine ⟨by rw [hv]; omega, Fin.ext ?_, Fin.ext ?_⟩
  · show (pt k.val q).val / 8 = k.val; rw [hv]; omega
  · show (pt k.val q).val % 4 = q; rw [hv]; omega

/-- Row `r` is row `r mod 512` of block `r / 512`. -/
theorem row_of_block {b : ℕ} (M : Mat 2048 b) (r : Fin 2048) (j : Fin b) (h : r.val / 512 < 4) :
    rows M ⟨r.val / 512, h⟩ (ix2 (row512 r.val) j) = M (ix2 r j) := by
  show M _ = M _
  congr 1; funext a; apply Fin.ext
  match a with
  | ⟨0, _⟩ => show r.val / 512 * 512 + r.val % 512 = r.val; omega
  | ⟨1, _⟩ => rfl

theorem block_lt (y : Fin 2048) : y.val / 512 < 4 := by have := y.isLt; omega

theorem scratch_adj (c : Dev nD) (k : Fin 2) :
    (fullA V c k.val : Mat 2048 2048) = page (n := 2) (a := 2048) (b := 2048) (V c main_arg1) k := by
  funext y
  obtain ⟨r, j, rfl⟩ : ∃ (r : Fin 2048) (j : Fin 2048), y = ix2 r j := ⟨y 0, y 1, eq_ix2 y⟩
  obtain ⟨h, hn, hp⟩ := storing k (r.val / 512) (block_lt r)
  show k1_pay6 (iblk1 V c 0 (pt k.val (r.val / 512))) (ix2 (row512 r.val) j) = _
  rw [adjacency_block, in_adj V c _ h, hn, hp]
  exact row_of_block _ r j _

theorem scratch_emb (c : Dev nD) (k : Fin 2) : (fullH V c k.val : Mat 2048 128) = emb V c k := by
  funext y
  obtain ⟨r, j, rfl⟩ : ∃ (r : Fin 2048) (j : Fin 128), y = ix2 r j := ⟨y 0, y 1, eq_ix2 y⟩
  obtain ⟨h, hn, hp⟩ := storing k (r.val / 512) (block_lt r)
  show k1_pay9 (iblk1 V c 0 (pt k.val (r.val / 512))) (iblk1 V c 4 (pt k.val (r.val / 512))) (ix2 (row512 r.val) j) = _
  rw [stored_embedding, in_adj V c _ h, in_enc, hn, hp]
  exact row_of_block (emb V c k) r j _

theorem scratch_pos (c : Dev nD) (k : Fin 2) : (fullR V c k.val : Mat 2048 128) = relu (emb V c k) := by
  funext y
  obtain ⟨r, j, rfl⟩ : ∃ (r : Fin 2048) (j : Fin 128), y = ix2 r j := ⟨y 0, y 1, eq_ix2 y⟩
  obtain ⟨h, hn, hp⟩ := storing k (r.val / 512) (block_lt r)
  show k1_pay10 (iblk1 V c 0 (pt k.val (r.val / 512))) (iblk1 V c 4 (pt k.val (r.val / 512))) (ix2 (row512 r.val) j) = _
  rw [stored_positive, in_adj V c _ h, in_enc, hn, hp]
  exact row_of_block (relu (emb V c k)) r j _

theorem scratch_perm (c : Dev nD) (k : Fin 2) : (fullN V c k.val : Mat 2048 128) = relu (embPerm V c k) := by
  funext y
  obtain ⟨r, j, rfl⟩ : ∃ (r : Fin 2048) (j : Fin 128), y = ix2 r j := ⟨y 0, y 1, eq_ix2 y⟩
  obtain ⟨h, hn, hp⟩ := storing k (r.val / 512) (block_lt r)
  show k1_pay1 (k1_pay11 (iblk1 V c 0 (pt k.val (r.val / 512))) (iblk1 V c 5 (pt k.val (r.val / 512)))) (ix2 (row512 r.val) j) = _
  rw [stored_permuted, in_adj V c _ h, in_perm, hn, hp]
  exact row_of_block (relu (embPerm V c k)) r j _

/-- The rows of a scratch matrix a loss point reads. -/
theorem read_adj (M : Mat 2048 2048) (t : Fin cfg1.N) (h) : (View.ld (Val := Elt Ideal) (e' := .bf16) M (readA (grid1.coords t) h) : Mat 512 2048) = rows M (part t) := by
  funext j
  show M _ = M _
  congr 1; funext a; apply Fin.ext
  match a with
  | ⟨0, _⟩ => show k1_off3 (grid1.coords t) 0 + 1 * (j 0).val = t.val % 4 * 512 + (j 0).val; rw [(from_adj t).1]; omega
  | ⟨1, _⟩ => show k1_off3 (grid1.coords t) 1 + 1 * (j 1).val = (j 1).val; rw [(from_adj t).2]; omega

theorem read_emb (M : Mat 2048 128) (t : Fin cfg1.N) (h) : (View.ld (Val := Elt Ideal) (e' := .bf16) M (readH (grid1.coords t) h) : Mat 512 128) = rows M (part t) := by
  funext j
  show M _ = M _
  congr 1; funext a; apply Fin.ext
  match a with
  | ⟨0, _⟩ => show k1_off4 (grid1.coords t) 0 + 1 * (j 0).val = t.val % 4 * 512 + (j 0).val; rw [(from_emb t).1]; omega
  | ⟨1, _⟩ => show k1_off4 (grid1.coords t) 1 + 1 * (j 1).val = (j 1).val; rw [(from_emb t).2]; omega

/-! ## The running sums -/

/-- What one network adds to the first result. -/
def lossOf (c : Dev nD) (k : Fin 2) : EReal :=
  netLoss (page (n := 2) (a := 2048) (b := 2048) (V c main_arg2) k) (relu (emb V c k)) (relu (embPerm V c k)) (V c main_arg6 : Mat 128 128)
    (V c main_v0 (ix2 0 0)) (page (n := 2) (a := 2048) (b := 2) (V c main_arg3) k)
/-- What one network adds to the second. -/
def residOf (c : Dev nD) (k : Fin 2) : EReal :=
  netResidual (page (n := 2) (a := 2048) (b := 512) (V c main_arg0) k) (page (n := 2) (a := 2048) (b := 2048) (V c main_arg1) k)
    (emb V c k) (page (n := 2) (a := 128) (b := 512) (V c main_arg5) k)

/-- What one row block of a network adds to the two sums. -/
def lossPart (c : Dev nD) (k : Fin 2) (q : Fin 4) : EReal :=
  scoreLoss (rows (relu (emb V c k)) q) (rows (relu (embPerm V c k)) q)
    (readout (rows (page (n := 2) (a := 2048) (b := 2048) (V c main_arg2) k) q) (relu (emb V c k)))
    (readout (rows (page (n := 2) (a := 2048) (b := 2048) (V c main_arg2) k) q) (relu (embPerm V c k))) (V c main_arg6 : Mat 128 128)
    (V c main_v0 (ix2 0 0)) (rows (page (n := 2) (a := 2048) (b := 2) (V c main_arg3) k) q)
def residPart (c : Dev nD) (k : Fin 2) (q : Fin 4) : EReal :=
  sumSq (diff (rows (page (n := 2) (a := 2048) (b := 512) (V c main_arg0) k) q)
    (prod (prod (rows (page (n := 2) (a := 2048) (b := 2048) (V c main_arg1) k) q) (emb V c k)) (page (n := 2) (a := 128) (b := 512) (V c main_arg5) k)))

theorem loss_point (c : Dev nD) (t : Fin cfg1.N) (h : t.val / 4 % 2 = 1) :
    (slAt V c t.val : EReal) = (slAt V c (t.val - 1) : EReal) + lossPart V c (network t) (part t) := by
  rw [slAt_loss V c t h, loss_step, in_neigh V c t h, in_label V c t h, in_disc, in_bias]
  have eR : (fullR V c (t.val / 8) : Mat 2048 128) = relu (emb V c (network t)) := scratch_pos V c (network t)
  have eN : (fullN V c (t.val / 8) : Mat 2048 128) = relu (embPerm V c (network t)) := scratch_perm V c (network t)
  rw [eR, eN]
  have e1 := read_emb (relu (emb V c (network t))) t ((isLoss t).mpr h)
  have e2 := read_emb (relu (embPerm V c (network t))) t ((isLoss t).mpr h)
  unfold lossPart
  rw [← e1, ← e2]

theorem resid_point (c : Dev nD) (t : Fin cfg1.N) (h : t.val / 4 % 2 = 1) :
    (ftAt V c t.val : EReal) = (ftAt V c (t.val - 1) : EReal) + residPart V c (network t) (part t) := by
  rw [ftAt_loss V c t h, residual_step, in_feat V c t h, in_dec]
  have eA : (fullA V c (t.val / 8) : Mat 2048 2048) = page (n := 2) (a := 2048) (b := 2048) (V c main_arg1) (network t) := scratch_adj V c (network t)
  have eH : (fullH V c (t.val / 8) : Mat 2048 128) = emb V c (network t) := scratch_emb V c (network t)
  rw [eA, eH]
  have e1 := read_adj (page (n := 2) (a := 2048) (b := 2048) (V c main_arg1) (network t)) t ((isLoss t).mpr h)
  unfold residPart
  rw [← e1]

theorem loss_at (c : Dev nD) (k : Fin 2) (q : Fin 4) (n : ℕ) (h : n = 8 * k.val + 4 + q.val) :
    (slAt V c n : EReal) = (slAt V c (n - 1) : EReal) + lossPart V c k q := by
  have hk := k.isLt
  have hq := q.isLt
  have e := loss_point V c ⟨n, by have : cfg1.N = 16 := N_1; omega⟩ (by show n / 4 % 2 = 1; omega)
  have e1 : network ⟨n, by have : cfg1.N = 16 := N_1; omega⟩ = k := Fin.ext (by show n / 8 = k.val; omega)
  have e2 : part ⟨n, by have : cfg1.N = 16 := N_1; omega⟩ = q := Fin.ext (by show n % 4 = q.val; omega)
  rw [e1, e2] at e
  exact e

theorem resid_at (c : Dev nD) (k : Fin 2) (q : Fin 4) (n : ℕ) (h : n = 8 * k.val + 4 + q.val) :
    (ftAt V c n : EReal) = (ftAt V c (n - 1) : EReal) + residPart V c k q := by
  have hk := k.isLt
  have hq := q.isLt
  have e := resid_point V c ⟨n, by have : cfg1.N = 16 := N_1; omega⟩ (by show n / 4 % 2 = 1; omega)
  have e1 : network ⟨n, by have : cfg1.N = 16 := N_1; omega⟩ = k := Fin.ext (by show n / 8 = k.val; omega)
  have e2 : part ⟨n, by have : cfg1.N = 16 := N_1; omega⟩ = q := Fin.ext (by show n % 4 = q.val; omega)
  rw [e1, e2] at e
  exact e

/-- The four row blocks of one network together. -/
theorem loss_pass (c : Dev nD) (k : Fin 2) :
    (slAt V c (8 * k.val + 7) : EReal) = (slAt V c (8 * k.val + 3) : EReal) + lossOf V c k := by
  have e0 := loss_at V c k 0 (8 * k.val + 4) rfl
  have e1 := loss_at V c k 1 (8 * k.val + 5) rfl
  have e2 := loss_at V c k 2 (8 * k.val + 6) rfl
  have e3 := loss_at V c k 3 (8 * k.val + 7) rfl
  have eT : lossOf V c k = lossPart V c k 0 + lossPart V c k 1 + lossPart V c k 2 + lossPart V c k 3 := by
    unfold lossOf; rw [netLoss_blocks, Fin.sum_univ_four]; rfl
  refine e3.trans ?_
  rw [show 8 * k.val + 7 - 1 = 8 * k.val + 6 from rfl, e2, show 8 * k.val + 6 - 1 = 8 * k.val + 5 from rfl, e1,
    show 8 * k.val + 5 - 1 = 8 * k.val + 4 from rfl, e0, show 8 * k.val + 4 - 1 = 8 * k.val + 3 from rfl, eT]
  simp only [add_assoc]

theorem resid_pass (c : Dev nD) (k : Fin 2) :
    (ftAt V c (8 * k.val + 7) : EReal) = (ftAt V c (8 * k.val + 3) : EReal) + residOf V c k := by
  have e0 := resid_at V c k 0 (8 * k.val + 4) rfl
  have e1 := resid_at V c k 1 (8 * k.val + 5) rfl
  have e2 := resid_at V c k 2 (8 * k.val + 6) rfl
  have e3 := resid_at V c k 3 (8 * k.val + 7) rfl
  have eT : residOf V c k = residPart V c k 0 + residPart V c k 1 + residPart V c k 2 + residPart V c k 3 := by
    unfold residOf; rw [netResidual_blocks, Fin.sum_univ_four]; rfl
  refine e3.trans ?_
  rw [show 8 * k.val + 7 - 1 = 8 * k.val + 6 from rfl, e2, show 8 * k.val + 6 - 1 = 8 * k.val + 5 from rfl, e1,
    show 8 * k.val + 5 - 1 = 8 * k.val + 4 from rfl, e0, show 8 * k.val + 4 - 1 = 8 * k.val + 3 from rfl, eT]
  simp only [add_assoc]

/-- The first sum after the last point. -/
theorem loss_end (c : Dev nD) : (slAt V c 15 : EReal) = lossOf V c 0 + lossOf V c 1 := by
  have e1 : (slAt V c 15 : EReal) = (slAt V c 11 : EReal) + lossOf V c 1 := loss_pass V c 1
  have e0 : (slAt V c 7 : EReal) = (slAt V c 3 : EReal) + lossOf V c 0 := loss_pass V c 0
  rw [e1, slAt_enc V c 11 rfl (by decide), slAt_enc V c 10 rfl (by decide), slAt_enc V c 9 rfl (by decide), slAt_enc V c 8 rfl (by decide),
    show 11 - 1 - 1 - 1 - 1 = 7 from rfl, e0, slAt_start]
  show Ideal.ofBits .f32 0x00000000#32 + _ + _ = _
  rw [Ideal.ofBits_zero_f32, zero_add]

/-- The second sum after the last point. -/
theorem resid_end (c : Dev nD) : (ftAt V c 15 : EReal) = residOf V c 0 + residOf V c 1 := by
  have e1 : (ftAt V c 15 : EReal) = (ftAt V c 11 : EReal) + residOf V c 1 := resid_pass V c 1
  have e0 : (ftAt V c 7 : EReal) = (ftAt V c 3 : EReal) + residOf V c 0 := resid_pass V c 0
  rw [e1, ftAt_enc V c 11 rfl (by decide), ftAt_enc V c 10 rfl (by decide), ftAt_enc V c 9 rfl (by decide), ftAt_enc V c 8 rfl (by decide),
    show 11 - 1 - 1 - 1 - 1 = 7 from rfl, e0, ftAt_start]
  show Ideal.ofBits .f32 0x00000000#32 + _ + _ = _
  rw [Ideal.ofBits_zero_f32, zero_add]

/-! ## The two arrays the sums are written to -/

theorem score_array (c : Dev nD) :
    (dat1 V c).arrAt 11 cfg1.N = ((fun _ => slAt V c 15) : Buf (Elt Ideal) ((c : Thread nD τ).loc main_v3_2)) :=
  (dat1 V c).arrAt_eq_of_cover 11 ((fun _ => slAt V c 15) : Buf (Elt Ideal) ((c : Thread nD τ).loc main_v3_2))
    (fun t hf => by
      have ht : t.val = 15 := by have := (flush1_11 t).mp hf; have := lt16 t; omega
      show (cfg1.win 11).cut (grid1.coords t) ((dat1 V c).after 11 t) = _
      rw [after1_11, ht]
      rfl)
    fun i => by
      have h0 : (i 0 : Nat) < 1 := (i 0).isLt
      have h1 : (i 1 : Nat) < 1 := (i 1).isLt
      have hN : cfg1.N = 16 := N_1
      refine ⟨⟨15, by omega⟩, (flush1_11 _).mpr rfl, ?_⟩
      set t : Fin cfg1.N := ⟨15, by omega⟩ with ht
      show i ∈ ((View.whole main_v3_2).slice (win1_11.rect t)).set
      rw [View.set_slice_whole, Rect.mem_set_unit]
      intro a
      match a with
      | ⟨0, _⟩ => show win1_11.index t 0 * 1 ≤ (i 0 : Nat) ∧ (i 0 : Nat) < win1_11.index t 0 * 1 + 1
                  rw [(at_score t).1]; omega
      | ⟨1, _⟩ => show win1_11.index t 1 * 1 ≤ (i 1 : Nat) ∧ (i 1 : Nat) < win1_11.index t 1 * 1 + 1
                  rw [(at_score t).2]; omega

theorem resid_array (c : Dev nD) :
    (dat1 V c).arrAt 12 cfg1.N = ((fun _ => ftAt V c 15) : Buf (Elt Ideal) ((c : Thread nD τ).loc main_v3_3)) :=
  (dat1 V c).arrAt_eq_of_cover 12 ((fun _ => ftAt V c 15) : Buf (Elt Ideal) ((c : Thread nD τ).loc main_v3_3))
    (fun t hf => by
      have ht : t.val = 15 := by have := (flush1_12 t).mp hf; have := lt16 t; omega
      show (cfg1.win 12).cut (grid1.coords t) ((dat1 V c).after 12 t) = _
      rw [after1_12, ht]
      rfl)
    fun i => by
      have h0 : (i 0 : Nat) < 1 := (i 0).isLt
      have h1 : (i 1 : Nat) < 1 := (i 1).isLt
      have hN : cfg1.N = 16 := N_1
      refine ⟨⟨15, by omega⟩, (flush1_12 _).mpr rfl, ?_⟩
      set t : Fin cfg1.N := ⟨15, by omega⟩ with ht
      show i ∈ ((View.whole main_v3_3).slice (win1_12.rect t)).set
      rw [View.set_slice_whole, Rect.mem_set_unit]
      intro a
      match a with
      | ⟨0, _⟩ => show win1_12.index t 0 * 1 ≤ (i 0 : Nat) ∧ (i 0 : Nat) < win1_12.index t 0 * 1 + 1
                  rw [(at_resid t).1]; omega
      | ⟨1, _⟩ => show win1_12.index t 1 * 1 ≤ (i 1 : Nat) ∧ (i 1 : Nat) < win1_12.index t 1 * 1 + 1
                  rw [(at_resid t).2]; omega

end Cert.Encode

end
-- ==== Proof.EncodeTake.lean ====
/-
  Rows picked by a list of 2048 row numbers, each at least 0 and below 2048: what the kernel picks from the encoded
  features and the reference picks from the features themselves. Row numbers in that range need no wrapping from below,
  no row is filled, and picking rows passes through a product on the left.
-/
module

public import proofs.«01_k».proof.Proof.EncodeArrays
public import proofs.«01_k».proof.Proof.Gen.Reference2Ideal
public import Idealize.ShloMosaic.Lib.ReduceAll
public import Idealize.ShloMosaic.Lib.IdealHost

@[expose] public section

noncomputable section

namespace Cert.Encode

open Idealize.ShloMosaic hiding ix0 ix1 ix2 ix3 eq_ix1 eq_ix2 eq_ix3
open Idealize.ShloMosaic.ValueIdx Cert.Align
open scoped BigOperators

/-- A list of row numbers. -/
abbrev Picks : Type := IVec ⟨1, ![2048]⟩ 32

/-- Every row number is one of a matrix of 2048 rows. -/
def InRange (p : Picks) : Prop := ∀ i, 0 ≤ (p i).toInt ∧ (p i).toInt < 2048

/-- The row taken for row `r`. -/
def pick (p : Picks) (r : Fin 2048) : Fin 2048 := ⟨min (p (ix1 r)).toInt.toNat 2047, by omega⟩

/-- The matrix with its rows picked. -/
def takeRows {b : ℕ} (p : Picks) (M : Mat 2048 b) : Mat 2048 b := fun i => M (ix2 (pick p (i 0)) (i 1))

/-- Picking rows of a product is picking rows of its left factor. -/
theorem takeRows_prod {k b : ℕ} (p : Picks) (A : Mat 2048 k) (B : Mat k b) : takeRows p (prod A B) = prod (takeRows p A) B := rfl

/-- Row numbers in range are left alone by the wrapping of negative ones. -/
theorem index_kept (p : Picks) (hp : InRange p) (h : (⟨0, ![]⟩ : Shape).BroadcastsInDim ⟨1, ![2048]⟩ ![]) :
    select (cmpi .slt p (broadcastInDim ⟨1, ![2048]⟩ ![] h (constantI ⟨0, ![]⟩ 32 0#32)))
      (addi p (broadcastInDim ⟨1, ![2048]⟩ ![] h (constantI ⟨0, ![]⟩ 32 2048#32))) p = p := by
  funext i
  show Scalar.select (IntOp.cmpi .slt (p i) 0#32) _ _ = p i
  have e : ¬IntOp.cmpi .slt (p i) 0#32 = 1#1 := by
    rw [IntOp.cmpi_slt]
    show ¬(p i).toInt < 0
    exact not_lt.mpr (hp i).1
  unfold Scalar.select
  exact if_neg e

/-- The row numbers as a column. -/
theorem column_index (p : Picks) (h : (⟨1, ![2048]⟩ : Shape).BroadcastsInDim ⟨2, ![2048, 1]⟩ ![0]) (i : (⟨2, ![2048, 1]⟩ : Shape).Idx) :
    broadcastInDim ⟨2, ![2048, 1]⟩ ![0] h p i = p (ix1 (i 0)) :=
  broadcastInDim_apply _ h p i (ix1 (i 0)) fun a => by
    match a with
    | ⟨0, _⟩ => show (i 0).val = if (2048 : ℕ) = 1 then 0 else (i 0).val; rw [if_neg (by decide)]

/-- Picking rows of one matrix. -/
theorem gather_rows (x : Mat 2048 512) (idx : IVec ⟨2, ![2048, 1]⟩ 32) (y : (⟨2, ![2048, 512]⟩ : Shape).Idx) :
    Host.gather Cert.Reference2Ideal.gather_S2048x512_S2048x1_S2048x512_1_0_n_n_0_1_1512 x idx y
      = x (ix2 ⟨min (idx (ix2 (y 0) 0)).toInt.toNat 2047, by omega⟩ (y 1)) := by
  unfold Host.gather
  congr 1
  funext a
  refine Fin.ext ?_
  match a with
  | ⟨0, _⟩ =>
    have e : GatherDims.siIdx Cert.Reference2Ideal.gather_S2048x512_S2048x1_S2048x512_1_0_n_n_0_1_1512 y ⟨0, Nat.one_pos⟩ = ix2 (y 0) 0 := by
      funext b
      match b with
      | ⟨0, _⟩ => rfl
      | ⟨1, _⟩ => rfl
    exact congrArg (fun q => min (idx q).toInt.toNat 2047) e
  | ⟨1, _⟩ => show 0 + 0 + (y 1).val = (y 1).val; omega

/-- Picking rows of both matrices of a stack. -/
theorem gather_pages (x : (⟨3, ![2, 2048, 128]⟩ : Shape).Idx → EReal) (idx : IVec ⟨2, ![2048, 1]⟩ 32) (y : (⟨3, ![2, 2048, 128]⟩ : Shape).Idx) :
    Host.gather Cert.Kernel2Ideal.gather_S2x2048x128_S2048x1_S2x2048x128_02_1_n_n_1_1_21128 x idx y
      = x (ix3 (y 0) ⟨min (idx (ix2 (y 1) 0)).toInt.toNat 2047, by omega⟩ (y 2)) := by
  unfold Host.gather
  congr 1
  funext a
  refine Fin.ext ?_
  match a with
  | ⟨0, _⟩ => show 0 + 0 + (y 0).val = (y 0).val; omega
  | ⟨1, _⟩ =>
    have e : GatherDims.siIdx Cert.Kernel2Ideal.gather_S2x2048x128_S2048x1_S2x2048x128_02_1_n_n_1_1_21128 y ⟨0, Nat.one_pos⟩ = ix2 (y 1) 0 := by
      funext b
      match b with
      | ⟨0, _⟩ => rfl
      | ⟨1, _⟩ => rfl
    exact congrArg (fun q => min (idx q).toInt.toNat 2047) e
  | ⟨2, _⟩ => show 0 + 0 + (y 2).val = (y 2).val; omega

end Cert.Encode

end
-- ==== Proof.EncodeRef.lean ====
/-
  The reference, stage by stage: each stretch of its host code as a function of matrices.
-/
module

public import proofs.«01_k».proof.Proof.EncodeTake
public import proofs.«01_k».proof.Proof.Gen.Reference2Ideal.Run

@[expose] public section

set_option maxRecDepth 16384

noncomputable section

namespace Cert.Encode

open Idealize.ShloMosaic hiding ix0 ix1 ix2 ix3 eq_ix1 eq_ix2 eq_ix3
open Idealize.ShloMosaic.TcCoe Idealize.ShloMosaic.ValueIdx Cert.Align Cert.Reference2Ideal Cert.Reference2Ideal.Gen
open scoped BigOperators

/-! ## Shapes -/

/-- One matrix of a stack, as the reference cuts it out. -/
theorem cut_page {a b : ℕ} (X : (⟨3, ![2, a, b]⟩ : Shape).Idx → EReal) (k : Fin 2)
    (h : (⟨3, ![2, a, b]⟩ : Shape).Slices ![k.val, 0, 0] ⟨3, ![1, a, b]⟩)
    (h' : (⟨3, ![1, a, b]⟩ : Shape).ShapeCasts ⟨2, ![a, b]⟩) :
    shapeCast ⟨2, ![a, b]⟩ (extractStridedSlice ⟨3, ![1, a, b]⟩ ![k.val, 0, 0] X h) h' = page X k := by
  rw [squeeze_slab]
  funext i
  refine extractStridedSlice_apply _ X h _ (ix3 k (i 0) (i 1)) fun e => ?_
  match e with
  | ⟨0, _⟩ => rfl
  | ⟨1, _⟩ => exact (Nat.zero_add _).symm
  | ⟨2, _⟩ => exact (Nat.zero_add _).symm

/-- The host's sums of the rows of a matrix, from a zero initial value. -/
theorem hostRowSums {a b : ℕ} (x : FVec Ideal ⟨2, ![a, b]⟩ .f32) (h : (⟨2, ![a, b]⟩ : Shape).ReducesTo [1] ⟨1, ![a]⟩) :
    (Host.reduceAdd x (constant S_ .f32 0x00000000#32) h h_S_ : FVec Ideal ⟨1, ![a]⟩ .f32)
      = fun j => ∑ k : Fin b, x (ix2 (j 0) k) := by
  funext j
  rw [hostReduceAdd_apply]
  refine (Ideal.hostReduceAdd_r2_a1 h x _ j).trans ?_
  show Ideal.ofBits .f32 0x00000000#32 + _ = _
  rw [Ideal.ofBits_zero_f32, zero_add]
  rfl

/-- A vector as a column. -/
theorem hostColumnOf (v : (⟨1, ![2048]⟩ : Shape).Idx → EReal) (h : (⟨1, ![2048]⟩ : Shape).BroadcastsInDim ⟨2, ![2048, 1]⟩ ![0]) :
    broadcastInDim ⟨2, ![2048, 1]⟩ ![0] h v = fun i : (⟨2, ![2048, 1]⟩ : Shape).Idx => v (ix1 (i 0)) :=
  funext fun i => broadcastInDim_apply _ h v i (ix1 (i 0)) fun a => by
    match a with
    | ⟨0, _⟩ => show (i 0).val = if (2048 : ℕ) = 1 then 0 else (i 0).val; rw [if_neg (by decide)]

/-- A column repeated along the rows. -/
theorem hostRepeated (M : Mat 2048 1) (h : (⟨2, ![2048, 1]⟩ : Shape).BroadcastsInDim ⟨2, ![2048, 128]⟩ ![0, 1]) :
    broadcastInDim ⟨2, ![2048, 128]⟩ ![0, 1] h M = fun i : (⟨2, ![2048, 128]⟩ : Shape).Idx => M (ix2 (i 0) 0) :=
  funext fun i => broadcastInDim_apply _ h M i (ix2 (i 0) 0) fun a => by
    match a with
    | ⟨0, _⟩ => show (i 0).val = if (2048 : ℕ) = 1 then 0 else (i 0).val; rw [if_neg (by decide)]
    | ⟨1, _⟩ => rfl

/-- The bias as a column. -/
theorem hostBias (b : FVec Ideal S1 .f32) :
    broadcastInDim S2048x1 ![0, 1] bcast_S1x1_S2048x1_0_1 (broadcastInDim S1x1 ![1] bcast_S1_S1x1_1 b)
      = fun _ : S2048x1.Idx => b (ix1 0) := by
  funext i
  refine (broadcastInDim_apply _ bcast_S1x1_S2048x1_0_1 _ i (ix2 0 0) fun a => ?_).trans
    (broadcastInDim_apply _ bcast_S1_S1x1_1 b (ix2 0 0) (ix1 0) fun a => ?_)
  · match a with
    | ⟨0, _⟩ => rfl
    | ⟨1, _⟩ => rfl
  · match a with
    | ⟨0, _⟩ => rfl

/-! ## Embeddings and summaries -/

theorem ref_embedding (A : FVec Ideal S2048x2048 .f32) (X : FVec Ideal S2048x512 .f32) (E : FVec Ideal S512x128 .f32) :
    (Host.dotGeneral dot_S2048x2048_S2048x128_S2048x128_1_0_0_1_n_n none A
      (Host.dotGeneral dot_S2048x512_S512x128_S2048x128_1_0_0_1_n_n none X E) : FVec Ideal S2048x128 .f32)
      = prod (A : Mat 2048 2048) (prod (X : Mat 2048 512) (E : Mat 512 128)) := by
  rw [dot_plain (a := 2048) (k := 512) (b := 128) dot_S2048x512_S512x128_S2048x128_1_0_0_1_n_n rfl none X E]
  exact dot_plain (a := 2048) (k := 2048) (b := 128) dot_S2048x2048_S2048x128_S2048x128_1_0_0_1_n_n rfl none A _

theorem ref_positive (H : FVec Ideal S2048x128 .f32) :
    (maximumf H (broadcastInDim S2048x128 ![] bcast_S_S2048x128 (constant S_ .f32 0x00000000#32)) : FVec Ideal S2048x128 .f32)
      = relu (H : Mat 2048 128) := by
  funext i
  show max (H i) (Ideal.ofBits .f32 0x00000000#32) = max (H i) 0
  rw [Ideal.ofBits_zero_f32]

theorem ref_average (G : FVec Ideal S2048x2048 .f32) (V : FVec Ideal S2048x128 .f32) :
    (Host.divf (Host.dotGeneral dot_S2048x2048_S2048x128_S2048x128_1_0_0_1_n_n none G V)
      (broadcastInDim S2048x128 ![0, 1] bcast_S2048x1_S2048x128_0_1 (broadcastInDim S2048x1 ![0] bcast_S2048_S2048x1_0
        (Host.reduceAdd G (constant S_ .f32 0x00000000#32) reducesTo_S2048x2048_S2048_d1 h_S_))) : FVec Ideal S2048x128 .f32)
      = average (G : Mat 2048 2048) (V : Mat 2048 128) := by
  have e1 := dot_plain (a := 2048) (k := 2048) (b := 128) dot_S2048x2048_S2048x128_S2048x128_1_0_0_1_n_n rfl none G V
  have e2 := hostRowSums (a := 2048) (b := 2048) G reducesTo_S2048x2048_S2048_d1
  rw [e1, e2, hostColumnOf, hostRepeated]
  rfl

theorem one_bits : Ideal.ofBits .f32 0x3F800000#32 = 1 := by
  simp [Ideal.ofBits, Ideal.ieee, -EReal.coe_mul]; norm_num

theorem ref_squash (Q : FVec Ideal S2048x128 .f32) :
    (Host.divf (broadcastInDim S2048x128 ![] bcast_S_S2048x128 (constant S_ .f32 0x3F800000#32))
      (addf (broadcastInDim S2048x128 ![] bcast_S_S2048x128 (constant S_ .f32 0x3F800000#32))
        (Host.exp (Host.negf (Host.divf Q (broadcastInDim S2048x128 ![0, 1] bcast_S2048x1_S2048x128_0_1
          (maximumf (Host.sqrt (broadcastInDim S2048x1 ![0] bcast_S2048_S2048x1_0
            (Host.reduceAdd (mulf Q Q) (constant S_ .f32 0x00000000#32) reducesTo_S2048x128_S2048_d1 h_S_)))
            (broadcastInDim S2048x1 ![] bcast_S_S2048x1 (constant S_ .f32 0x2B8CBCCC#32)))))))) : FVec Ideal S2048x128 .f32)
      = squash (Q : Mat 2048 128) := by
  have e2 := hostRowSums (a := 2048) (b := 128) (mulf Q Q) reducesTo_S2048x128_S2048_d1
  rw [e2, hostColumnOf, hostRepeated]
  funext i
  show Ideal.div (Ideal.ofBits .f32 0x3F800000#32) (Ideal.ofBits .f32 0x3F800000#32 + Ideal.exp (-(Ideal.div (Q i) (rowLength (Q : Mat 2048 128) (i 0)))))
    = Ideal.div 1 (1 + Ideal.exp (-(Ideal.div (Q i) (rowLength (Q : Mat 2048 128) (i 0)))))
  rw [one_bits]

/-! ## Scores -/

theorem ref_score (V g : FVec Ideal S2048x128 .f32) (W : FVec Ideal S128x128 .f32) (b : FVec Ideal S1 .f32) :
    (addf (broadcastInDim S2048x1 ![0] bcast_S2048_S2048x1_0
        (Host.reduceAdd (mulf (Host.dotGeneral dot_S2048x128_S128x128_S2048x128_1_0_0_1_n_n none V W) g)
          (constant S_ .f32 0x00000000#32) reducesTo_S2048x128_S2048_d1 h_S_))
      (broadcastInDim S2048x1 ![0, 1] bcast_S1x1_S2048x1_0_1 (broadcastInDim S1x1 ![1] bcast_S1_S1x1_1 b)) : FVec Ideal S2048x1 .f32)
      = fun i : S2048x1.Idx => score (V : Mat 2048 128) (W : Mat 128 128) (g : Mat 2048 128) (b (ix1 0)) (i 0) := by
  have e1 := dot_plain (a := 2048) (k := 128) (b := 128) dot_S2048x128_S128x128_S2048x128_1_0_0_1_n_n rfl none V W
  have e2 := hostRowSums (a := 2048) (b := 128)
    (mulf (Host.dotGeneral dot_S2048x128_S128x128_S2048x128_1_0_0_1_n_n none V W) g) reducesTo_S2048x128_S2048_d1
  rw [e2, hostColumnOf, hostBias, e1]
  rfl

/-- Two columns side by side. -/
def columns (x y : Fin 2048 → EReal) : FVec Ideal S2048x2 .f32 :=
  concatenate S2048x2 1 [⟨S2048x1, fun i : S2048x1.Idx => x (i 0)⟩, ⟨S2048x1, fun i : S2048x1.Idx => y (i 0)⟩]
    concatenates_S2048x1_S2048x1_S2048x2_d1

theorem columns_left (x y : Fin 2048 → EReal) (r : Fin 2048) : columns x y (ix2 (n0 := 2048) (n1 := 2) r 0) = x r :=
  concatenate_pair_apply_left (t := S2048x2) (s₁ := S2048x1) (s₂ := S2048x1) 1 _ _ concatenates_S2048x1_S2048x1_S2048x2_d1
    (ix2 (n0 := 2048) (n1 := 2) r 0) rfl (ix2 (n0 := 2048) (n1 := 1) r 0) fun b => by
    match b with
    | ⟨0, _⟩ => rfl
    | ⟨1, _⟩ => rfl

theorem columns_right (x y : Fin 2048 → EReal) (r : Fin 2048) : columns x y (ix2 (n0 := 2048) (n1 := 2) r 1) = y r :=
  concatenate_pair_apply_right (t := S2048x2) (s₁ := S2048x1) (s₂ := S2048x1) 1 _ _ concatenates_S2048x1_S2048x1_S2048x2_d1
    (ix2 (n0 := 2048) (n1 := 2) r 1) rfl rfl (ix2 (n0 := 2048) (n1 := 1) r 0) (fun b hb => by
    match b with
    | ⟨0, _⟩ => rfl
    | ⟨1, _⟩ => exact absurd rfl hb) rfl

/-- The number of scores of one summary: two for each node. -/
def scores : EReal := Ideal.ofBits .f32 0x45800000#32

/-- The mean loss of two columns of scores. -/
theorem ref_mean (S : FVec Ideal S2048x2 .f32) (x y : Fin 2048 → EReal) (hS : S = columns x y) (T : FVec Ideal S2048x2 .f32) :
    (Host.divf (Host.reduceAdd (addf (subf (maximumf S (broadcastInDim S2048x2 ![] bcast_S_S2048x2 (constant S_ .f32 0x00000000#32)))
        (mulf S T)) (Host.log1p (Host.exp (Host.negf (Host.absf S)))))
        (constant S_ .f32 0x00000000#32) reducesTo_S2048x2_S_d0_1 h_S_) (constant S_ .f32 0x45800000#32) : FVec Ideal S_ .f32)
      = fun _ => Ideal.div ((∑ r : Fin 2048, term (x r) (T (ix2 (n0 := 2048) (n1 := 2) r 0)))
          + ∑ r : Fin 2048, term (y r) (T (ix2 (n0 := 2048) (n1 := 2) r 1))) scores := by
  subst hS
  funext j
  refine congrArg (Ideal.div · scores) ?_
  rw [hostTotal (a := 2048) (b := 2) _ _ reducesTo_S2048x2_S_d0_1 h_S_ Ideal.ofBits_zero_f32 j]
  have e : ∀ i : S2048x2.Idx, (addf (subf (maximumf (columns x y) (broadcastInDim S2048x2 ![] bcast_S_S2048x2 (constant S_ .f32 0x00000000#32)))
        (mulf (columns x y) T)) (Host.log1p (Host.exp (Host.negf (Host.absf (columns x y))))) : FVec Ideal S2048x2 .f32) i
      = term (columns x y i) (T i) := fun i => by
    show max (columns x y i) (Ideal.ofBits .f32 0x00000000#32) - columns x y i * T i
      + Ideal.log1p (Ideal.exp (-(max (columns x y i) (-(columns x y i))))) = _
    rw [Ideal.ofBits_zero_f32]; rfl
  rw [Finset.sum_congr rfl fun i _ => e i, ValueIdx.sum_idx2, ← Finset.sum_add_distrib]
  refine Finset.sum_congr rfl fun r _ => ?_
  rw [Fin.sum_univ_two, columns_left, columns_right]

/-- The mean squared residual. -/
theorem ref_residual (A : FVec Ideal S2048x2048 .f32) (X : FVec Ideal S2048x512 .f32) (H : FVec Ideal S2048x128 .f32) (D : FVec Ideal S128x512 .f32)
    (R : FVec Ideal S2048x512 .f32)
    (hR : R = subf X (Host.dotGeneral dot_S2048x2048_S2048x512_S2048x512_1_0_0_1_n_n none A
      (Host.dotGeneral dot_S2048x128_S128x512_S2048x512_1_0_0_1_n_n none H D))) :
    (Host.divf (Host.reduceAdd (mulf R R) (constant S_ .f32 0x00000000#32) reducesTo_S2048x512_S_d0_1 h_S_) (constant S_ .f32 0x49800000#32)
      : FVec Ideal S_ .f32)
      = fun _ => Ideal.div (sumSq (diff (X : Mat 2048 512) (prod (A : Mat 2048 2048) (prod (H : Mat 2048 128) (D : Mat 128 512)))))
          (Ideal.ofBits .f32 0x49800000#32) := by
  have e1 := dot_plain (a := 2048) (k := 128) (b := 512) dot_S2048x128_S128x512_S2048x512_1_0_0_1_n_n rfl none H D
  rw [e1] at hR
  have e2 := dot_plain (a := 2048) (k := 2048) (b := 512) (φ₂ := .f32) dot_S2048x2048_S2048x512_S2048x512_1_0_0_1_n_n rfl none A
    (prod (H : Mat 2048 128) (D : Mat 128 512))
  rw [e2] at hR
  subst hR
  funext j
  exact congrArg (Ideal.div · _) (hostTotal (a := 2048) (b := 512) _ _ reducesTo_S2048x512_S_d0_1 h_S_ Ideal.ofBits_zero_f32 j)

end Cert.Encode

end
-- ==== Proof.Kernel2Ideal.Points.lean ====
/-
  Every grid point of the encoder call is as its data say, and the data's first and last conditions are those the call is
  entered and left with.
-/
module

public import proofs.«01_k».proof.Proof.Kernel2Ideal.Data

@[expose] public section

set_option maxRecDepth 16384

noncomputable section

namespace Cert.Kernel2Ideal.Enc

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window the point stores to is left at its `after`. -/
theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

/-- A window the point does not store to, found at its `after`, is left as the data ask, written back there or not. -/
theorem leaves_kept (c : Dev nD) (w : Fin cfg1.W) (t : Fin cfg1.N) (h : cfg1.idle w (cfg1.grid.coords t) = true)
    (hk : ∀ d, (dat1 V c).before w t d = (dat1 V c).after w t) :
    owns (c : Thread nD τ) ((cfg1.win w).stage (cfg1.slots t w)) fullShare ((dat1 V c).after w t) ⊢ (dat1 V c).leavesExact w t := by
  cases hf : (cfg1.win w).flush t
  · rw [Dat.leavesExact_idle _ w t h hf]
    simp only [hk]
    iintro H
    iexists (dat1 V c).after w t
    iexact H
  · unfold Dat.leavesExact; rw [h, hf]

/-- What the body is called with at point `t`. -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What it leaves. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ (dat1 V c).leavesExact 9 t
    ∗ (dat1 V c).leavesExact 10 t
    ∗ (dat1 V c).leavesExact 11 t
    ∗ (dat1 V c).leavesExact 12 t)

set_option maxHeartbeats 4000000 in
/-- A point of the encoding pass. -/
theorem sound_enc (c : Dev nD) (t : Fin cfg1.N) (h : t.val / 4 % 2 = 0) :
    bodyPre V c t ⊢ wp frame (wpE (defs₀ (F := F)) Variants.none c none) Set.univ (bodyAt1 t) (fun _ => bodyPost V c t) := by
  unfold bodyPre bodyPost
  unfold bodyAt1
  simp only [before1_0, before1_1, before1_2, before1_3, before1_4, before1_5, before1_6, before1_7, before1_8]
  rw [show (dat1 V c).Φ t.castSucc = between V c t.val from rfl, show (dat1 V c).Φ t.succ = between V c (t.val + 1) from rfl,
    show (dat1 V c).owesAt () t.succ = (dat1 V c).owesAt () t.castSucc from rfl,
    after1_0, after1_1, after1_2, after1_3, after1_4, after1_5, after1_6, after1_7, after1_8]
  have hN := lt16 t
  have i9 : cfg1.idle 9 (cfg1.grid.coords t) = false := (idle9 t).trans (by rw [h]; rfl)
  have i10 : cfg1.idle 10 (cfg1.grid.coords t) = false := (idle10 t).trans (by rw [h]; rfl)
  have i11 : cfg1.idle 11 (cfg1.grid.coords t) = true := (idle11 t).trans (by rw [h]; rfl)
  have i12 : cfg1.idle 12 (cfg1.grid.coords t) = true := (idle12 t).trans (by rw [h]; rfl)
  rw [leaves_live V c 9 t i9, leaves_live V c 10 t i10, Dat.leavesExact_idle _ 11 t i11 (flush11 t (by omega)),
    Dat.leavesExact_idle _ 12 t i12 (flush12 t (by omega)), after1_9, after1_10, lastEnc_enc t h]
  unfold between scratch
  iintro ⟨⟨⟨⟨%sa, %ha, HA⟩, ⟨%sh, %hh, HH⟩, ⟨%sr, %hr, HR⟩, ⟨%sn, %hn, HN⟩⟩, Hot, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (point_encode c Set.univ (grid1.coords t) _ _ _ _ _ _ _ _ _ _ _ _ _ _ _ _ _ _ _ _ _ _ _ _ _ _ _ _ _ _ _ _ _ _ ((isEnc t).mpr h) (fun e => by have := (isLoss t).mp e; omega)
    (iblk1 V c 0 t) (iblk1 V c 1 t) (iblk1 V c 2 t) (iblk1 V c 3 t) (iblk1 V c 4 t) (iblk1 V c 5 t) (iblk1 V c 6 t) (iblk1 V c 7 t) (iblk1 V c 8 t) sa sh sr sn ((dat1 V c).before 11 t d11) ((dat1 V c).before 12 t d12) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HA]; · iexact HA
  isplitl [HH]; · iexact HH
  isplitl [HR]; · iexact HR
  isplitl [HN]; · iexact HN
  iintro ⟨H0, H1, H2, H3, H4, H5, H6, H7, H8, H9, H10, H11, H12, ⟨%sa', %pa, HA⟩, ⟨%sh', %ph, HH⟩, ⟨%sr', %pr, HR⟩, ⟨%sn', %pn, HN⟩⟩
  isplitl [HA HH HR HN Hot Hp]
  · isplitl [HA HH HR HN]
    · isplitl [HA]
      · iexists sa'; isplitr; swap; · iexact HA
        ipureintro
        refine ha.step h _ (offA t).1 (offA t).2 _ (fun y hy => ?_) pa
        unfold fullA; rw [hy, show t.val % 4 = t.val % 8 by omega, pt_self]
      isplitl [HH]
      · iexists sh'; isplitr; swap; · iexact HH
        ipureintro
        refine hh.step h _ (offH t).1 (offH t).2 _ (fun y hy => ?_) ph
        unfold fullH; rw [hy, show t.val % 4 = t.val % 8 by omega, pt_self]
      isplitl [HR]
      · iexists sr'; isplitr; swap; · iexact HR
        ipureintro
        refine hr.step h _ (offH t).1 (offH t).2 _ (fun y hy => ?_) pr
        unfold fullR; rw [hy, show t.val % 4 = t.val % 8 by omega, pt_self]
      iexists sn'; isplitr; swap; · iexact HN
      ipureintro
      refine hn.step h _ (offH t).1 (offH t).2 _ (fun y hy => ?_) pn
      unfold fullN; rw [hy, show t.val % 4 = t.val % 8 by omega, pt_self]
    isplitl [Hot]; · iexact Hot
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists d11; iexact H11
  iexists d12; iexact H12

set_option maxHeartbeats 4000000 in
/-- The first point of the loss pass, which starts the two sums. -/
theorem sound_first (c : Dev nD) (t : Fin cfg1.N) (h : t.val / 4 % 2 = 1) (h' : t.val = 4) :
    bodyPre V c t ⊢ wp frame (wpE (defs₀ (F := F)) Variants.none c none) Set.univ (bodyAt1 t) (fun _ => bodyPost V c t) := by
  unfold bodyPre bodyPost
  unfold bodyAt1
  simp only [before1_0, before1_1, before1_2, before1_3, before1_4, before1_5, before1_6, before1_7, before1_8]
  rw [show (dat1 V c).Φ t.castSucc = between V c t.val from rfl, show (dat1 V c).Φ t.succ = between V c (t.val + 1) from rfl,
    show (dat1 V c).owesAt () t.succ = (dat1 V c).owesAt () t.castSucc from rfl,
    after1_0, after1_1, after1_2, after1_3, after1_4, after1_5, after1_6, after1_7, after1_8]
  have hN := lt16 t
  have i9 : cfg1.idle 9 (cfg1.grid.coords t) = true := (idle9 t).trans (by rw [h]; rfl)
  have i10 : cfg1.idle 10 (cfg1.grid.coords t) = true := (idle10 t).trans (by rw [h]; rfl)
  have i11 : cfg1.idle 11 (cfg1.grid.coords t) = false := (idle11 t).trans (by rw [h]; rfl)
  have i12 : cfg1.idle 12 (cfg1.grid.coords t) = false := (idle12 t).trans (by rw [h]; rfl)
  have k9 : ∀ d, (dat1 V c).before 9 t d = (dat1 V c).after 9 t := kept9 V c (t.val % 8 - 4) t (by omega)
  have k10 : ∀ d, (dat1 V c).before 10 t d = (dat1 V c).after 10 t := kept10 V c (t.val % 8 - 4) t (by omega)
  have e11 : slAt V c (t.val - 1) = FloatOps.ofBits .f32 0x00000000#32 := by rw [h']; exact slAt_start V c
  have e12 : ftAt V c (t.val - 1) = FloatOps.ofBits .f32 0x00000000#32 := by rw [h']; exact ftAt_start V c
  simp only [k9, k10]
  rw [leaves_live V c 11 t i11, leaves_live V c 12 t i12, after1_11, after1_12, slAt_loss V c t h, ftAt_loss V c t h, e11, e12]
  unfold between scratch
  iintro ⟨⟨⟨⟨%sa, %ha, HA⟩, ⟨%sh, %hh, HH⟩, ⟨%sr, %hr, HR⟩, ⟨%sn, %hn, HN⟩⟩, Hot, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := ha.all h
  obtain rfl := hh.all h
  obtain rfl := hr.all h
  obtain rfl := hn.all h
  iapply (point_first c Set.univ (grid1.coords t) _ _ _ _ _ _ _ _ _ _ _ _ _ _ _ _ _ _ _ _ _ _ _ _ _ _ _ _ _ _ _ _ _ _ (fun e => by have := (isEnc t).mp e; omega) ((isLoss t).mpr h) ((isFirst t).mpr (by omega))
    (iblk1 V c 0 t) (iblk1 V c 1 t) (iblk1 V c 2 t) (iblk1 V c 3 t) (iblk1 V c 4 t) (iblk1 V c 5 t) (iblk1 V c 6 t) (iblk1 V c 7 t) (iblk1 V c 8 t) (fullA V c (t.val / 8)) (fullH V c (t.val / 8)) (fullR V c (t.val / 8)) (fullN V c (t.val / 8)) ((dat1 V c).after 9 t) ((dat1 V c).after 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HA]; · iexact HA
  isplitl [HH]; · iexact HH
  isplitl [HR]; · iexact HR
  isplitl [HN]; · iexact HN
  iintro ⟨H0, H1, H2, H3, H4, H5, H6, H7, H8, H9, H10, H11, H12, HA, HH, HR, HN⟩
  isplitl [HA HH HR HN Hot Hp]
  · isplitl [HA HH HR HN]
    · isplitl [HA]
      · iexists _; isplitr; swap; · iexact HA
        ipureintro; exact Fits2048.of_all _ _
      isplitl [HH]
      · iexists _; isplitr; swap; · iexact HH
        ipureintro; exact Fits128.of_all _ _
      isplitl [HR]
      · iexists _; isplitr; swap; · iexact HR
        ipureintro; exact Fits128.of_all _ _
      iexists _; isplitr; swap; · iexact HN
      ipureintro; exact Fits128.of_all _ _
    isplitl [Hot]; · iexact Hot
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_kept V c 9 t i9 k9); iexact H9
  isplitl [H10]; · iapply (leaves_kept V c 10 t i10 k10); iexact H10
  isplitl [H11]; · iexact H11
  iexact H12

set_option maxHeartbeats 4000000 in
/-- A later point of the loss pass, which adds to the two sums. -/
theorem sound_later (c : Dev nD) (t : Fin cfg1.N) (h : t.val / 4 % 2 = 1) (h' : t.val ≠ 4) :
    bodyPre V c t ⊢ wp frame (wpE (defs₀ (F := F)) Variants.none c none) Set.univ (bodyAt1 t) (fun _ => bodyPost V c t) := by
  unfold bodyPre bodyPost
  unfold bodyAt1
  simp only [before1_0, before1_1, before1_2, before1_3, before1_4, before1_5, before1_6, before1_7, before1_8]
  rw [show (dat1 V c).Φ t.castSucc = between V c t.val from rfl, show (dat1 V c).Φ t.succ = between V c (t.val + 1) from rfl,
    show (dat1 V c).owesAt () t.succ = (dat1 V c).owesAt () t.castSucc from rfl,
    after1_0, after1_1, after1_2, after1_3, after1_4, after1_5, after1_6, after1_7, after1_8]
  have hN := lt16 t
  have i9 : cfg1.idle 9 (cfg1.grid.coords t) = true := (idle9 t).trans (by rw [h]; rfl)
  have i10 : cfg1.idle 10 (cfg1.grid.coords t) = true := (idle10 t).trans (by rw [h]; rfl)
  have i11 : cfg1.idle 11 (cfg1.grid.coords t) = false := (idle11 t).trans (by rw [h]; rfl)
  have i12 : cfg1.idle 12 (cfg1.grid.coords t) = false := (idle12 t).trans (by rw [h]; rfl)
  have k9 : ∀ d, (dat1 V c).before 9 t d = (dat1 V c).after 9 t := kept9 V c (t.val % 8 - 4) t (by omega)
  have k10 : ∀ d, (dat1 V c).before 10 t d = (dat1 V c).after 10 t := kept10 V c (t.val % 8 - 4) t (by omega)
  have k11 : ∀ d, (dat1 V c).before 11 t d = fun _ => slAt V c (t.val - 1) := kept11 V c (t.val - 5) t (by omega)
  have k12 : ∀ d, (dat1 V c).before 12 t d = fun _ => ftAt V c (t.val - 1) := kept12 V c (t.val - 5) t (by omega)
  simp only [k9, k10, k11, k12]
  rw [leaves_live V c 11 t i11, leaves_live V c 12 t i12, after1_11, after1_12, slAt_loss V c t h, ftAt_loss V c t h]
  unfold between scratch
  iintro ⟨⟨⟨⟨%sa, %ha, HA⟩, ⟨%sh, %hh, HH⟩, ⟨%sr, %hr, HR⟩, ⟨%sn, %hn, HN⟩⟩, Hot, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := ha.all h
  obtain rfl := hh.all h
  obtain rfl := hr.all h
  obtain rfl := hn.all h
  iapply (point_later c Set.univ (grid1.coords t) _ _ _ _ _ _ _ _ _ _ _ _ _ _ _ _ _ _ _ _ _ _ _ _ _ _ _ _ _ _ _ _ _ _ (fun e => by have := (isEnc t).mp e; omega) ((isLoss t).mpr h) (fun e => by have := (isFirst t).mp e; omega)
    (iblk1 V c 0 t) (iblk1 V c 1 t) (iblk1 V c 2 t) (iblk1 V c 3 t) (iblk1 V c 4 t) (iblk1 V c 5 t) (iblk1 V c 6 t) (iblk1 V c 7 t) (iblk1 V c 8 t) (fullA V c (t.val / 8)) (fullH V c (t.val / 8)) (fullR V c (t.val / 8)) (fullN V c (t.val / 8)) ((dat1 V c).after 9 t) ((dat1 V c).after 10 t) (slAt V c (t.val - 1)) (ftAt V c (t.val - 1)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  isplitl [HH]; · iexact HH
  isplitl [HR]; · iexact HR
  isplitl [HN]; · iexact HN
  iintro ⟨H0, H1, H2, H3, H4, H5, H6, H7, H8, H9, H10, H11, H12, HA, HH, HR, HN⟩
  isplitl [HA HH HR HN Hot Hp]
  · isplitl [HA HH HR HN]
    · isplitl [HA]
      · iexists _; isplitr; swap; · iexact HA
        ipureintro; exact Fits2048.of_all _ _
      isplitl [HH]
      · iexists _; isplitr; swap; · iexact HH
        ipureintro; exact Fits128.of_all _ _
      isplitl [HR]
      · iexists _; isplitr; swap; · iexact HR
        ipureintro; exact Fits128.of_all _ _
      iexists _; isplitr; swap; · iexact HN
      ipureintro; exact Fits128.of_all _ _
    isplitl [Hot]; · iexact Hot
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_kept V c 9 t i9 k9); iexact H9
  isplitl [H10]; · iapply (leaves_kept V c 10 t i10 k10); iexact H10
  isplitl [H11]; · iexact H11
  iexact H12

theorem sound1 (c : Dev nD) (t : Fin cfg1.N) :
    bodyPre V c t ⊢ wp frame (wpE (defs₀ (F := F)) Variants.none c none) Set.univ (bodyAt1 t) (fun _ => bodyPost V c t) := by
  by_cases h : t.val / 4 % 2 = 0
  · exact sound_enc V c t h
  by_cases h' : t.val = 4
  · exact sound_first V c t (by omega) h'
  · exact sound_later V c t (by omega) h'

theorem row1 (t : Fin cfg1.N) : defs₀ (F := F) .tc cfg1.body (cfg1.bodyArgs t (cfg1.slots t)) = bodyAt1 t := by
  unfold defs₀; rw [Defs.onTc_tc]

/-- Every point of the encoder call is as its data say. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- The call is entered with the scratch matrices holding anything. -/
theorem enter1 (c : Dev nD) : Pipeline.ΦA spec1 c ⊢ (dat1 (F := F) V c).Φ 0 := by
  rw [show (dat1 (F := F) V c).Φ 0 = between V c 0 from rfl]
  unfold Pipeline.ΦA between scratch others
  rw [scopedRest1_eq]
  simp only [scA, scH, scR, scN, owns_whole]
  iintro ⟨⟨O0, O1, O2, O3, O4, O5, ⟨%a, HA⟩, ⟨%b, HB⟩, ⟨%d, HD⟩, ⟨%e, HE⟩⟩, Hp⟩
  isplitl [HA HB HD HE]
  · isplitl [HA]
    · iexists a; isplitr; · ipureintro; exact Fits2048.zero _ _
      iexact HA
    isplitl [HB]
    · iexists b; isplitr; · ipureintro; exact Fits128.zero _ _
      iexact HB
    isplitl [HD]
    · iexists d; isplitr; · ipureintro; exact Fits128.zero _ _
      iexact HD
    iexists e; isplitr; · ipureintro; exact Fits128.zero _ _
    iexact HE
  isplitr [Hp]
  · isplitl [O0]; · iexact O0
    isplitl [O1]; · iexact O1
    isplitl [O2]; · iexact O2
    isplitl [O3]; · iexact O3
    isplitl [O4]; · iexact O4
    iexact O5
  iexact Hp

/-- and left so. -/
theorem leave1 (c : Dev nD) : (dat1 (F := F) V c).Φ (Fin.last _) ⊢ Pipeline.ΦA spec1 c := by
  rw [show (dat1 (F := F) V c).Φ (Fin.last _) = between V c cfg1.N from rfl]
  unfold Pipeline.ΦA between scratch others
  rw [scopedRest1_eq]
  simp only [scA, scH, scR, scN, owns_whole]
  iintro ⟨⟨⟨%a, -, HA⟩, ⟨%b, -, HB⟩, ⟨%d, -, HD⟩, ⟨%e, -, HE⟩⟩, ⟨O0, O1, O2, O3, O4, O5⟩, Hp⟩
  isplitr [Hp]
  · isplitl [O0]; · iexact O0
    isplitl [O1]; · iexact O1
    isplitl [O2]; · iexact O2
    isplitl [O3]; · iexact O3
    isplitl [O4]; · iexact O4
    isplitl [O5]; · iexact O5
    isplitl [HA]; · iexists a; iexact HA
    isplitl [HB]; · iexists b; iexact HB
    isplitl [HD]; · iexists d; iexact HD
    iexists e; iexact HE
  iexact Hp

end Cert.Kernel2Ideal.Enc

end
-- ==== Proof.Kernel2Ideal.Run.lean ====
/-
  The run of the second program: what the buffers hold at each boundary between its host operations and its two calls, and
  that every execution ends with the last of these.
-/
module

public import proofs.«01_k».proof.Proof.Kernel2Ideal.Points
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel2Ideal.Enc

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write: never an argument -/

abbrev args : List (Ref sig .tc) := [main_arg0, main_arg1, main_arg2, main_arg3, main_arg4, main_arg5, main_arg6, main_arg7, main_arg8]
abbrev wr0 : List (Ref sig .tc) := [main_v0]
abbrev wr1 : List (Ref sig .tc) := [main_call0_c, main_call0_v0, main_call0_v1, main_call0_c_0, main_call0_v2, main_call0_v3, main_call0_v4,
  main_call0_v5, main_call0_c_1, main_call0_c_2, main_call0_v6, main_call0_v7, main_call0_v8, main_call0_v9, main_call0_v10, main_call0_v11,
  main_call0_c_3, main_call0_v12, main_call0_v13, main_call0_v14, main_call0_cst, main_call0_v15, main_v2]
abbrev wr2 : List (Ref sig .tc) := [main_v4, main_cst, main_cst_0, main_v5, main_v6, main_v7, main_cst_1, main_cst_2, main_v8, main_v9, main_v10, main_v11, main_v12]

theorem fresh0 : (hostOps0 : List (HloOp τ sig (Elt F))).Forall fun op => op.fresh = ∅ := by
  simp only [List.Forall]; repeat' constructor
theorem writes0 : (hostOps0 : List (HloOp τ sig (Elt F))).Forall fun op => op.writes ⊆ (wr0.map (Proc.devRef (τ := τ) .tc)).toFinset :=
  StableHlo.forall_writes_sub_of_map rfl
theorem apart0 : ∀ a ∈ args, a ∉ wr0 := ListAll.forall_mem_of_all_decide (by decide +kernel)
theorem fresh1 : (hostOps1 : List (HloOp τ sig (Elt F))).Forall fun op => op.fresh = ∅ := by
  simp only [List.Forall]; repeat' constructor
theorem writes1 : (hostOps1 : List (HloOp τ sig (Elt F))).Forall fun op => op.writes ⊆ (wr1.map (Proc.devRef (τ := τ) .tc)).toFinset :=
  StableHlo.forall_writes_sub_of_map rfl
theorem apart1 : ∀ a ∈ args, a ∉ wr1 := ListAll.forall_mem_of_all_decide (by decide +kernel)
theorem fresh2 : (hostOps2 : List (HloOp τ sig (Elt F))).Forall fun op => op.fresh = ∅ := by
  simp only [List.Forall]; repeat' constructor
theorem writes2 : (hostOps2 : List (HloOp τ sig (Elt F))).Forall fun op => op.writes ⊆ (wr2.map (Proc.devRef (τ := τ) .tc)).toFinset :=
  StableHlo.forall_writes_sub_of_map rfl
theorem apart2 : ∀ a ∈ args, a ∉ wr2 := ListAll.forall_mem_of_all_decide (by decide +kernel)

/-! ## The buffers at each boundary -/

/-- At launch, -/
abbrev B0 : Dev nD → Valuation τ sig (Elt F) := fun c b => (s₀ m ρ).mem ((c : Dev nD), b)
theorem B0_args (c : Dev nD) : ∀ a ∈ args, B0 m ρ c (Proc.devRef .tc a) = m ((c : Thread nD τ).loc a) := fun _ _ => rfl
/-- when the first call is entered, -/
abbrev B1 : Dev nD → Valuation τ sig (Elt F) := fun c => StableHlo.after hostOps0 (B0 m ρ c)
theorem B1_of (c : Dev nD) (r : Ref sig .tc) (h : r ∉ wr0) : B1 m ρ c (Proc.devRef .tc r) = B0 m ρ c (Proc.devRef .tc r) :=
  StableHlo.after_of_writes_sub hostOps0 _ writes0 h
theorem B1_args (c : Dev nD) : ∀ a ∈ args, B1 m ρ c (Proc.devRef .tc a) = m ((c : Thread nD τ).loc a) :=
  fun a ha => (B1_of m ρ c a (apart0 a ha)).trans (B0_args m ρ c a ha)
abbrev At1 : (c : Dev nD) → (b : Ref sig .tc) → Buf (Elt F) ((c : Thread nD τ).loc b) := fun c b => B1 m ρ c b
/-- when it is left, -/
def B2 (c : Dev nD) : Valuation τ sig (Elt F) :=
  Pipeline.withArrays spec0 c (B1 m ρ c) fun w => (dat0 (At1 m ρ) c).arrAt w cfg0.N
theorem B2_arr (c : Dev nD) (w : Fin cfg0.W) :
    B2 m ρ c (Proc.devRef .tc (Pipeline.arrRef spec0 w)) = (dat0 (At1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (At1 m ρ) c).arrAt_in w (h w rfl) _).trans (A_eq0 (At1 m ρ) c w))
  · exact B2_of_ne m ρ c r fun w e => hw ⟨w, e⟩
theorem only_read0 : ∀ a ∈ args, ∀ w : Fin cfg0.W, Pipeline.arrRef spec0 w = a → (cfg0.win w).isOut = false :=
  ListAll.forall_mem_of_all_decide (by decide +kernel)
theorem B2_args (c : Dev nD) : ∀ a ∈ args, B2 m ρ c (Proc.devRef .tc a) = m ((c : Thread nD τ).loc a) :=
  fun a ha => (B2_of m ρ c a (only_read0 a ha)).trans (B1_args m ρ c a ha)
abbrev At2 : (c : Dev nD) → (b : Ref sig .tc) → Buf (Elt F) ((c : Thread nD τ).loc b) := fun c b => B2 m ρ c b
theorem ends0 (c : Dev nD) (w : Fin cfg0.W) : (dat0 (At1 m ρ) c).arrAt w cfg0.N = At2 m ρ c (Pipeline.arrRef spec0 w) :=
  (B2_arr m ρ c w).symm
theorem stays0 (c : Dev nD) : ∀ b, b ∉ Finset.univ.image (Pipeline.arrRef spec0) → At2 m ρ c b = At1 m ρ c b :=
  fun b hb => B2_of_ne m ρ c b fun w e => hb (Finset.mem_image.mpr ⟨w, Finset.mem_univ _, e⟩)
/-- when the encoder call is entered, -/
abbrev B3 : Dev nD → Valuation τ sig (Elt F) := fun c => StableHlo.after hostOps1 (B2 m ρ c)
theorem B3_of (c : Dev nD) (r : Ref sig .tc) (h : r ∉ wr1) : B3 m ρ c (Proc.devRef .tc r) = B2 m ρ c (Proc.devRef .tc r) :=
  StableHlo.after_of_writes_sub hostOps1 _ writes1 h
theorem B3_args (c : Dev nD) : ∀ a ∈ args, B3 m ρ c (Proc.devRef .tc a) = m ((c : Thread nD τ).loc a) :=
  fun a ha => (B3_of m ρ c a (apart1 a ha)).trans (B2_args m ρ c a ha)
abbrev At3 : (c : Dev nD) → (b : Ref sig .tc) → Buf (Elt F) ((c : Thread nD τ).loc b) := fun c b => B3 m ρ c b
/-- when it is left, -/
def B4 (c : Dev nD) : Valuation τ sig (Elt F) :=
  Pipeline.withArrays spec1 c (B3 m ρ c) fun w => (dat1 (At3 m ρ) c).arrAt w cfg1.N
theorem B4_arr (c : Dev nD) (w : Fin cfg1.W) :
    B4 m ρ c (Proc.devRef .tc (Pipeline.arrRef spec1 w)) = (dat1 (At3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
theorem B4_of (c : Dev nD) (r : Ref sig .tc) (h : ∀ w : Fin cfg1.W, Pipeline.arrRef spec1 w = r → (cfg1.win w).isOut = false) :
    B4 m ρ c (Proc.devRef .tc r) = B3 m ρ c (Proc.devRef .tc r) := by
  by_cases hw : ∃ w : Fin cfg1.W, Pipeline.arrRef spec1 w = r
  · obtain ⟨w, rfl⟩ := hw
    exact (B4_arr m ρ c w).trans (((dat1 (At3 m ρ) c).arrAt_in w (h w rfl) _).trans (A_eq1 (At3 m ρ) c w))
  · exact B4_of_ne m ρ c r fun w e => hw ⟨w, e⟩
theorem only_read1 : ∀ a ∈ args, ∀ w : Fin cfg1.W, Pipeline.arrRef spec1 w = a → (cfg1.win w).isOut = false :=
  ListAll.forall_mem_of_all_decide (by decide +kernel)
theorem B4_args (c : Dev nD) : ∀ a ∈ args, B4 m ρ c (Proc.devRef .tc a) = m ((c : Thread nD τ).loc a) :=
  fun a ha => (B4_of m ρ c a (only_read1 a ha)).trans (B3_args m ρ c a ha)
abbrev At4 : (c : Dev nD) → (b : Ref sig .tc) → Buf (Elt F) ((c : Thread nD τ).loc b) := fun c b => B4 m ρ c b
theorem ends1 (c : Dev nD) (w : Fin cfg1.W) : (dat1 (At3 m ρ) c).arrAt w cfg1.N = At4 m ρ c (Pipeline.arrRef spec1 w) :=
  (B4_arr m ρ c w).symm
theorem stays1 (c : Dev nD) : ∀ b, b ∉ Finset.univ.image (Pipeline.arrRef spec1) → At4 m ρ c b = At3 m ρ c b :=
  fun b hb => B4_of_ne m ρ c b fun w e => hb (Finset.mem_image.mpr ⟨w, Finset.mem_univ _, e⟩)
/-- and at the end. -/
abbrev B5 : Dev nD → Valuation τ sig (Elt F) := fun c => StableHlo.after hostOps2 (B4 m ρ c)
theorem B5_of (c : Dev nD) (r : Ref sig .tc) (h : r ∉ wr2) : B5 m ρ c (Proc.devRef .tc r) = B4 m ρ c (Proc.devRef .tc r) :=
  StableHlo.after_of_writes_sub hostOps2 _ writes2 h
theorem B5_args (c : Dev nD) : ∀ a ∈ args, B5 m ρ c (Proc.devRef .tc a) = m ((c : Thread nD τ).loc a) :=
  fun a ha => (B5_of m ρ c a (apart2 a ha)).trans (B4_args m ρ c a ha)

/-! ## The program as segments -/

abbrev adm : (p : Fin 2) → (pcfgs (F := F) p).Adm := fun p => (cfgs p).toPCfg_adm
/-- Each call's data, from the buffers it is entered with. -/
def pdats : (p : Fin 2) → (c : Dev nD) → Dat τ (Elt F) Unit ℕ (UR sig nD τ) ℕ (Pipeline.pin (pcfgs (F := F)) adm p) c
  | ⟨0, _⟩ => fun c => dat0 (At1 m ρ) c
  | ⟨1, _⟩ => fun c => dat1 (At3 m ρ) c
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state. -/
abbrev Tₙ (c : Dev nD) : sProp 𝕄 := iprop(StableHlo.held (c : Thread nD τ) (Pipeline.ucRefs τ sig) (B5 m ρ c) ∗ ∃ r, prngReg c r)

set_option backward.isDefEq.respectTransparency.types false in
/-- The first call, from the buffers at its entry to those at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (At1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) (A_eq0 (At1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (At1 m ρ c) (At2 m ρ c) ((pdats m ρ 0 c).arrAt · cfg0.N) (ends0 m ρ c) (stays0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The encoder call, from the buffers at its entry to those at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (At3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) (A_eq1 (At3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (At3 m ρ) c).Φ 0 from rfl]
    iintro ⟨Hp, -, Hr⟩
    iapply (enter1 (At3 m ρ) c)
    unfold Pipeline.ΦA
    isplitl [Hr]; · iexact Hr
    iexact Hp
  hout c := by
    rw [Pipeline.ownSems0_none, show (pdats m ρ 1 c).Φ (Fin.last _) = (dat1 (At3 m ρ) c).Φ (Fin.last _) from rfl]
    have hl := leave1 (F := F) (At3 m ρ) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (At3 m ρ c) (At4 m ρ c) ((pdats m ρ 1 c).arrAt · cfg1.N) (ends1 m ρ c) (stays1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub fresh0 (B0 m ρ)),
    .region (reg0 m ρ),
    .host (hseg hostOps1 hostOps1_sub fresh1 (B2 m ρ)),
    .region (reg1 m ρ),
    .host (hseg hostOps2 hostOps2_sub fresh2 (B4 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution ends, without a fault, with the buffers at the last boundary's contents and every counter at zero. -/
theorem ends_at : θ_run defs (onTc (τ := τ) (main (F := F))) ⟨m, fun _ => 0, ρ⟩ (fun r =>
      (∀ c : Dev nD, ∀ b ∈ Pipeline.ucRefs τ sig, r.2.mem (((c : Thread nD τ)).1, b) = B5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c _ (mem_uc main_arg0 (by decide))).trans (B5_args m ρ c main_arg0 (by decide)),
      (h.1 c _ (mem_uc main_arg1 (by decide))).trans (B5_args m ρ c main_arg1 (by decide)),
      (h.1 c _ (mem_uc main_arg2 (by decide))).trans (B5_args m ρ c main_arg2 (by decide)),
      (h.1 c _ (mem_uc main_arg3 (by decide))).trans (B5_args m ρ c main_arg3 (by decide)),
      (h.1 c _ (mem_uc main_arg4 (by decide))).trans (B5_args m ρ c main_arg4 (by decide)),
      (h.1 c _ (mem_uc main_arg5 (by decide))).trans (B5_args m ρ c main_arg5 (by decide)),
      (h.1 c _ (mem_uc main_arg6 (by decide))).trans (B5_args m ρ c main_arg6 (by decide)),
      (h.1 c _ (mem_uc main_arg7 (by decide))).trans (B5_args m ρ c main_arg7 (by decide)),
      (h.1 c _ (mem_uc main_arg8 (by decide))).trans (B5_args m ρ c main_arg8 (by decide))⟩, h.2⟩) (ends_at m ρ)

/-- The result ends at the last boundary's contents, the arguments as launched. -/
theorem result : θ_run defs (onTc (τ := τ) (main (F := F))) ⟨m, fun _ => 0, ρ⟩ (fun r => ∀ c : Dev nD,
      r.2.mem ((c.tc : Thread nD τ).loc main_v12) = B5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1 c _ (mem_uc main_v12 (by decide)),
      (h.1 c _ (mem_uc main_arg0 (by decide))).trans (B5_args m ρ c main_arg0 (by decide)),
      (h.1 c _ (mem_uc main_arg1 (by decide))).trans (B5_args m ρ c main_arg1 (by decide)),
      (h.1 c _ (mem_uc main_arg2 (by decide))).trans (B5_args m ρ c main_arg2 (by decide)),
      (h.1 c _ (mem_uc main_arg3 (by decide))).trans (B5_args m ρ c main_arg3 (by decide)),
      (h.1 c _ (mem_uc main_arg4 (by decide))).trans (B5_args m ρ c main_arg4 (by decide)),
      (h.1 c _ (mem_uc main_arg5 (by decide))).trans (B5_args m ρ c main_arg5 (by decide)),
      (h.1 c _ (mem_uc main_arg6 (by decide))).trans (B5_args m ρ c main_arg6 (by decide)),
      (h.1 c _ (mem_uc main_arg7 (by decide))).trans (B5_args m ρ c main_arg7 (by decide)),
      (h.1 c _ (mem_uc main_arg8 (by decide))).trans (B5_args m ρ c main_arg8 (by decide))⟩) (ends_at m ρ)

end Cert.Kernel2Ideal.Enc

end
-- ==== Proof.EncodeHost.lean ====
/-
  The kernel's result. The first call leaves each network's encoded features `X E`; the host picks their rows; the second
  call leaves the two sums, and the host divides each by its count of terms.
-/
module

public import proofs.«01_k».proof.Proof.EncodeTake
public import proofs.«01_k».proof.Proof.Kernel2Ideal.Run

@[expose] public section

set_option maxRecDepth 16384

noncomputable section

namespace Cert.Encode

open Idealize.ShloMosaic hiding ix0 ix1 ix2 ix3 eq_ix1 eq_ix2 eq_ix3
open Idealize.ShloMosaic.TcCoe Idealize.ShloMosaic.ValueIdx Idealize.ShloMosaic.Tactic Cert.Align Cert.Kernel2Ideal Cert.Kernel2Ideal.Gen Cert.Kernel2Ideal.Enc
open Idealize.ShloMosaic.Pipeline (Dat)
open scoped BigOperators

/-! ## The answer -/

/-- A network's encoded features. -/
def encoded (X : Vec Ideal S2x2048x512 .f32) (E : Vec Ideal S2x512x128 .f32) (k : Fin 2) : Mat 2048 128 :=
  prod (page (n := 2) (a := 2048) (b := 512) X k) (page (n := 2) (a := 512) (b := 128) E k)

/-- What a network adds to the discriminator's loss. -/
def lossTotal (X : Vec Ideal S2x2048x512 .f32) (A G : Vec Ideal S2x2048x2048 .f32) (T : Vec Ideal S2x2048x2 .f32)
    (E : Vec Ideal S2x512x128 .f32) (W : Vec Ideal S128x128 .f32) (b : Vec Ideal S1 .f32) (p : Picks) (k : Fin 2) : EReal :=
  netLoss (page (n := 2) (a := 2048) (b := 2048) G k) (relu (prod (page (n := 2) (a := 2048) (b := 2048) A k) (encoded X E k)))
    (relu (prod (page (n := 2) (a := 2048) (b := 2048) A k) (takeRows p (encoded X E k)))) (W : Mat 128 128) (b (ix1 0))
    (page (n := 2) (a := 2048) (b := 2) T k)

/-- What a network adds to the reconstruction loss. -/
def residTotal (X : Vec Ideal S2x2048x512 .f32) (A : Vec Ideal S2x2048x2048 .f32)
    (E : Vec Ideal S2x512x128 .f32) (D : Vec Ideal S2x128x512 .f32) (k : Fin 2) : EReal :=
  netResidual (page (n := 2) (a := 2048) (b := 512) X k) (page (n := 2) (a := 2048) (b := 2048) A k)
    (prod (page (n := 2) (a := 2048) (b := 2048) A k) (encoded X E k)) (page (n := 2) (a := 128) (b := 512) D k)

/-- Two numbers side by side, as both programs return them. -/
def both (x y : EReal) : Vec Ideal S2 .f32 :=
  concatenate S2 0 [⟨S1, broadcastInDim S1 ![] bcast_S_S1 ((fun _ => x) : Vec Ideal S_ .f32)⟩,
    ⟨S1, broadcastInDim S1 ![] bcast_S_S1 ((fun _ => y) : Vec Ideal S_ .f32)⟩] concatenates_S1_S1_S2_d0

/-- The two results as a function of the nine arguments. -/
def encodeAnswer (X : Vec Ideal S2x2048x512 .f32) (A G : Vec Ideal S2x2048x2048 .f32) (T : Vec Ideal S2x2048x2 .f32)
    (E : Vec Ideal S2x512x128 .f32) (D : Vec Ideal S2x128x512 .f32) (W : Vec Ideal S128x128 .f32) (b : Vec Ideal S1 .f32) (p : Picks) :
    Vec Ideal S2 .f32 :=
  both (Ideal.div (lossTotal X A G T E W b p 0 + lossTotal X A G T E W b p 1)
      (Ideal.ofBits .f32 0x45000000#32 * Ideal.ofBits .f32 0x40000000#32))
    (Ideal.div (residTotal X A E D 0 + residTotal X A E D 1)
      (Ideal.ofBits .f32 0x45000000#32 * Ideal.ofBits .f32 0x44000000#32))

/-! ## The first call -/

section First

variable (V : (c : Dev nD) → (b : Ref sig .tc) → Buf (Elt Ideal) ((c : Thread nD τ).loc b))

theorem first_index : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) := by decide +kernel

theorem first_feat (c : Dev nD) (t : Fin cfg0.N) :
    slab (a := 2048) (b := 512) (iblk0 V c 0 t) = page (n := 2) (a := 2048) (b := 512) (V c main_arg0) t := by
  funext j
  unfold slab iblk0
  rw [View.read_apply]
  show V c main_arg0 _ = V c main_arg0 _
  congr 1; funext a; apply Fin.ext
  match a with
  | ⟨0, _⟩ => show win0_0.index t 0 * 1 + 1 * 0 = t.val; rw [(first_index t).1.1]; omega
  | ⟨1, _⟩ => show win0_0.index t 1 * 2048 + 1 * (j 0).val = (j 0).val; rw [(first_index t).1.2.1]; omega
  | ⟨2, _⟩ => show win0_0.index t 2 * 512 + 1 * (j 1).val = (j 1).val; rw [(first_index t).1.2.2]; omega

theorem first_weight (c : Dev nD) (t : Fin cfg0.N) :
    slab (a := 512) (b := 128) (iblk0 V c 1 t) = page (n := 2) (a := 512) (b := 128) (V c main_arg4) t := by
  funext j
  unfold slab iblk0
  rw [View.read_apply]
  show V c main_arg4 _ = V c main_arg4 _
  congr 1; funext a; apply Fin.ext
  match a with
  | ⟨0, _⟩ => show win0_1.index t 0 * 1 + 1 * 0 = t.val; rw [(first_index t).2.1.1]; omega
  | ⟨1, _⟩ => show win0_1.index t 1 * 512 + 1 * (j 0).val = (j 0).val; rw [(first_index t).2.1.2.1]; omega
  | ⟨2, _⟩ => show win0_1.index t 2 * 128 + 1 * (j 1).val = (j 1).val; rw [(first_index t).2.1.2.2]; omega

/-- Both networks' encoded features, stacked. -/
def stacked (X : Vec Ideal S2x2048x512 .f32) (E : Vec Ideal S2x512x128 .f32) : Vec Ideal S2x2048x128 .f32 :=
  fun i => encoded X E (i 0) (ix2 (i 1) (i 2))

theorem page_stacked (X : Vec Ideal S2x2048x512 .f32) (E : Vec Ideal S2x512x128 .f32) (k : Fin 2) :
    page (n := 2) (a := 2048) (b := 128) (stacked X E) k = encoded X E k :=
  funext fun i => congrArg (encoded X E k) (eq_ix2 i).symm

theorem first_point (c : Dev nD) (t : Fin cfg0.N) (j : S1x2048x128.Idx) :
    k0_pay1 (iblk0 V c 0 t) (iblk0 V c 1 t) j = encoded (V c main_arg0) (V c main_arg4) t (ix2 (j 1) (j 2)) := by
  have e := congrFun (encoded_block (iblk0 V c 0 t) (iblk0 V c 1 t)) (ix2 (n0 := 2048) (n1 := 128) (j 1) (j 2))
  rw [first_feat, first_weight] at e
  refine Eq.trans ?_ e
  unfold slab
  congr 1; funext a
  match a with
  | ⟨0, _⟩ => exact Fin.ext (by have h : (j 0).val < 1 := (j 0).isLt; show (j 0).val = 0; omega)
  | ⟨1, _⟩ => rfl
  | ⟨2, _⟩ => rfl

theorem first_array (c : Dev nD) :
    (dat0 V c).arrAt 2 cfg0.N = (stacked (V c main_arg0) (V c main_arg4) : Buf (Elt Ideal) ((c : Thread nD τ).loc main_v1)) :=
  (dat0 V c).arrAt_eq_of_cover 2 (stacked (V c main_arg0) (V c main_arg4) : Buf (Elt Ideal) ((c : Thread nD τ).loc main_v1))
    (fun t _ => by
      show (cfg0.win 2).cut (grid0.coords t) ((dat0 V c).after 2 t) = _
      rw [after0_2]
      funext j
      rw [View.read_apply]
      refine (first_point V c t _).trans ?_
      show stacked (V c main_arg0) (V c main_arg4) (ix3 t (j 1) (j 2)) = stacked (V c main_arg0) (V c main_arg4) _
      congr 1; funext a; apply Fin.ext
      match a with
      | ⟨0, _⟩ => show t.val = win0_2.index t 0 * 1 + 1 * (j 0).val
                  have h : (j 0).val < 1 := (j 0).isLt
                  rw [(first_index t).2.2.1]; omega
      | ⟨1, _⟩ => show (j 1).val = win0_2.index t 1 * 2048 + 1 * (j 1).val; rw [(first_index t).2.2.2.1]; omega
      | ⟨2, _⟩ => show (j 2).val = win0_2.index t 2 * 128 + 1 * (j 2).val; rw [(first_index t).2.2.2.2]; omega)
    fun i => by
      have h0 : (i 0 : Nat) < 2 := (i 0).isLt
      have h1 : (i 1 : Nat) < 2048 := (i 1).isLt
      have h2 : (i 2 : Nat) < 128 := (i 2).isLt
      have hN : cfg0.N = 2 := rfl
      refine ⟨⟨(i 0 : Nat), by omega⟩, flush0_2 _, ?_⟩
      set t : Fin cfg0.N := ⟨(i 0 : Nat), by omega⟩ with ht
      show i ∈ ((View.whole main_v1).slice (win0_2.rect t)).set
      rw [View.set_slice_whole, Rect.mem_set_unit]
      intro a
      match a with
      | ⟨0, _⟩ => show win0_2.index t 0 * 1 ≤ (i 0 : Nat) ∧ (i 0 : Nat) < win0_2.index t 0 * 1 + 1
                  rw [(first_index t).2.2.1]; show (i 0 : Nat) * 1 ≤ _ ∧ _ < (i 0 : Nat) * 1 + 1; omega
      | ⟨1, _⟩ => show win0_2.index t 1 * 2048 ≤ (i 1 : Nat) ∧ (i 1 : Nat) < win0_2.index t 1 * 2048 + 2048
                  rw [(first_index t).2.2.2.1]; omega
      | ⟨2, _⟩ => show win0_2.index t 2 * 128 ≤ (i 2 : Nat) ∧ (i 2 : Nat) < win0_2.index t 2 * 128 + 128
                  rw [(first_index t).2.2.2.2]; omega

end First

/-! ## The rows picked in between -/

/-- The row numbers the host picks by, negative ones wrapped, as a column. -/
def hostColumn (p : Picks) : IVec S2048x1 32 :=
  broadcastInDim S2048x1 ![0] bcast_S2048_S2048x1_0
    (select (cmpi .slt p (broadcastInDim S2048 ![] bcast_S_S2048 (constantI S_ 32 0#32)))
      (addi p (broadcastInDim S2048 ![] bcast_S_S2048 (constantI S_ 32 2048#32))) p)

/-- The rows as the host picks them, with the rows whose number is out of range filled. -/
def hostPicked (x : Vec Ideal S2x2048x128 .f32) (p : Picks) : Vec Ideal S2x2048x128 .f32 :=
  select (broadcastInDim S2x2048x128 ![1] bcast_S2048_S2x2048x128_1
      (Host.reduce IntOp.andi
        (andi (cmpi .sge (hostColumn p) (broadcastInDim S2048x1 ![] bcast_S_S2048x1 (constantI S_ 32 0#32)))
          (cmpi .sle (hostColumn p) (broadcastInDim S2048x1 ![0, 1] bcast_S1x1_S2048x1_0_1
            (broadcastInDim S1x1 ![1] bcast_S1_S1x1_1 (constantI S1 32 2047#32)))))
        (constantI S_ 1 1#1) reducesTo_S2048x1_S2048_d1 h_S_))
    (Host.gather gather_S2x2048x128_S2048x1_S2x2048x128_02_1_n_n_1_1_21128 x (hostColumn p))
    (broadcastInDim S2x2048x128 ![] bcast_S_S2x2048x128 (constant (F := Ideal) S_ .f32 0x7FC00000#32))

theorem hostColumn_apply (p : Picks) (hp : InRange p) (i : S2048x1.Idx) : hostColumn p i = p (ix1 (n := 2048) (i 0)) := by
  unfold hostColumn
  rw [index_kept p hp]
  exact column_index p bcast_S2048_S2048x1_0 i

/-- With every row number in range no row is filled. -/
theorem hostPicked_page (x : Vec Ideal S2x2048x128 .f32) (p : Picks) (hp : InRange p) (k : Fin 2) :
    page (n := 2) (a := 2048) (b := 128) (hostPicked x p) k = takeRows p (page (n := 2) (a := 2048) (b := 128) x k) := by
  funext i
  have hm : ∀ j, Host.reduce IntOp.andi
        (andi (cmpi .sge (hostColumn p) (broadcastInDim S2048x1 ![] bcast_S_S2048x1 (constantI S_ 32 0#32)))
          (cmpi .sle (hostColumn p) (broadcastInDim S2048x1 ![0, 1] bcast_S1x1_S2048x1_0_1
            (broadcastInDim S1x1 ![1] bcast_S1_S1x1_1 (constantI S1 32 2047#32)))))
        (constantI S_ 1 1#1) reducesTo_S2048x1_S2048_d1 h_S_ j = 1#1 := fun j =>
    Host.reduce_andi_one _ _ _ _ j rfl fun q => by
      show IntOp.andi (IntOp.cmpi .sge (hostColumn p q) 0#32) (IntOp.cmpi .sle (hostColumn p q) 2047#32) = 1#1
      rw [IntOp.andi_eq_one, IntOp.cmpi_sge, IntOp.cmpi_sle, hostColumn_apply p hp]
      have h := hp (ix1 (n := 2048) (q 0))
      exact ⟨h.1, by show (p _).toInt ≤ 2047; omega⟩
  show hostPicked x p (ix3 k (i 0) (i 1)) = x (ix3 k (pick p (i 0)) (i 1))
  unfold hostPicked
  rw [select_apply]
  have h1 : (broadcastInDim S2x2048x128 ![1] bcast_S2048_S2x2048x128_1
      (Host.reduce IntOp.andi
        (andi (cmpi .sge (hostColumn p) (broadcastInDim S2048x1 ![] bcast_S_S2048x1 (constantI S_ 32 0#32)))
          (cmpi .sle (hostColumn p) (broadcastInDim S2048x1 ![0, 1] bcast_S1x1_S2048x1_0_1
            (broadcastInDim S1x1 ![1] bcast_S1_S1x1_1 (constantI S1 32 2047#32)))))
        (constantI S_ 1 1#1) reducesTo_S2048x1_S2048_d1 h_S_)) (ix3 k (i 0) (i 1)) = 1#1 := hm _
  rw [h1, ValueIdx.select_one, gather_pages]
  congr 1; funext a
  match a with
  | ⟨0, _⟩ => rfl
  | ⟨1, _⟩ => exact Fin.ext (by
      show min (hostColumn p (ix2 (i 0) 0)).toInt.toNat 2047 = min (p (ix1 (i 0))).toInt.toNat 2047
      rw [hostColumn_apply p hp])
  | ⟨2, _⟩ => rfl

/-! ## The whole program -/

variable (m : (ℓ : Loc nD τ sig) → Buf (Elt Ideal) ℓ) (ρ : Dev nD → PrngReg) (c : Dev nD)

theorem B1_v0 : (At1 m ρ c main_v0 : Mat 1 1) (ix2 0 0) = (m ((c : Thread nD τ).loc main_arg7) : Vec Ideal S1 .f32) (ix1 0) := by
  have e : At1 m ρ c main_v0 = shapeCast S1x1 (m ((c : Thread nD τ).loc main_arg7) : Vec Ideal S1 .f32) shapeCasts_S1_S1x1 := by
    unfold At1 B1 hostOps0; after_results_simp; rfl
  rw [e]
  exact shapeCast_apply _ _ _ _ rfl

theorem B2_v1 : B2 m ρ c (Proc.devRef .tc main_v1) = (stacked (m ((c : Thread nD τ).loc main_arg0)) (m ((c : Thread nD τ).loc main_arg4)) :
    Buf (Elt Ideal) ((c : Thread nD τ).loc main_v1)) := by
  refine (B2_arr m ρ c 2).trans ((first_array (At1 m ρ) c).trans ?_)
  rw [show At1 m ρ c main_arg0 = m ((c : Thread nD τ).loc main_arg0) from B1_args m ρ c main_arg0 (by decide),
    show At1 m ρ c main_arg4 = m ((c : Thread nD τ).loc main_arg4) from B1_args m ρ c main_arg4 (by decide)]

theorem B3_v2 : B3 m ρ c (Proc.devRef .tc main_v2) = (hostPicked (B2 m ρ c (Proc.devRef .tc main_v1)) (B2 m ρ c (Proc.devRef .tc main_arg8)) :
    Buf (Elt Ideal) ((c : Thread nD τ).loc main_v2)) := by
  unfold B3 hostOps1; after_results_simp
  simp only [StableHlo.TRef.ofBuf_toBuf]
  unfold hostPicked hostColumn
  rfl

/-- What the second call reads: every argument as the program was given it, -/
theorem B3_arg (a : Ref sig .tc) (ha : a ∈ args) : At3 m ρ c a = m ((c : Thread nD τ).loc a) := B3_args m ρ c a ha

/-- the bias as a one by one matrix, -/
theorem B3_v0 : (At3 m ρ c main_v0 : Mat 1 1) (ix2 0 0) = (m ((c : Thread nD τ).loc main_arg7) : Vec Ideal S1 .f32) (ix1 0) := by
  have e : At3 m ρ c main_v0 = At1 m ρ c main_v0 :=
    (B3_of m ρ c main_v0 (by decide)).trans (B2_of_ne m ρ c main_v0 (by decide))
  rw [e]; exact B1_v0 m ρ c

/-- the encoded features, -/
theorem B3_v1 (k : Fin 2) : page (n := 2) (a := 2048) (b := 128) (At3 m ρ c main_v1) k
    = encoded (m ((c : Thread nD τ).loc main_arg0)) (m ((c : Thread nD τ).loc main_arg4)) k := by
  have e : At3 m ρ c main_v1 = _ := (B3_of m ρ c main_v1 (by decide)).trans (B2_v1 m ρ c)
  rw [e]
  exact page_stacked _ _ k

/-- and their rows as picked. -/
theorem B3_v2_page (hp : InRange (m ((c : Thread nD τ).loc main_arg8))) (k : Fin 2) :
    page (n := 2) (a := 2048) (b := 128) (At3 m ρ c main_v2) k
      = takeRows (m ((c : Thread nD τ).loc main_arg8)) (encoded (m ((c : Thread nD τ).loc main_arg0)) (m ((c : Thread nD τ).loc main_arg4)) k) := by
  have e : At3 m ρ c main_v2 = _ := B3_v2 m ρ c
  have e8 : B2 m ρ c (Proc.devRef .tc main_arg8) = m ((c : Thread nD τ).loc main_arg8) := B2_args m ρ c main_arg8 (by decide)
  rw [e8, B2_v1 m ρ c] at e
  rw [e, hostPicked_page _ _ hp, page_stacked]

theorem loss_value (hp : InRange (m ((c : Thread nD τ).loc main_arg8))) (k : Fin 2) :
    lossOf (At3 m ρ) c k = lossTotal (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6))
      (m ((c : Thread nD τ).loc main_arg7)) (m ((c : Thread nD τ).loc main_arg8)) k := by
  unfold lossOf lossTotal emb embPerm
  rw [B3_v1 m ρ c k, B3_v2_page m ρ c hp k, B3_v0 m ρ c, B3_arg m ρ c main_arg1 (by decide), B3_arg m ρ c main_arg2 (by decide),
    B3_arg m ρ c main_arg3 (by decide), B3_arg m ρ c main_arg6 (by decide)]

theorem resid_value (k : Fin 2) :
    residOf (At3 m ρ) c k = residTotal (m ((c : Thread nD τ).loc main_arg0)) (m ((c : Thread nD τ).loc main_arg1))
      (m ((c : Thread nD τ).loc main_arg4)) (m ((c : Thread nD τ).loc main_arg5)) k := by
  unfold residOf residTotal emb
  rw [B3_v1 m ρ c k, B3_arg m ρ c main_arg0 (by decide), B3_arg m ρ c main_arg1 (by decide), B3_arg m ρ c main_arg5 (by decide)]

/-- The last stretch of host code divides the two sums and puts them side by side. -/
theorem B5_v12 : B5 m ρ c (Proc.devRef .tc main_v12)
    = (both (Ideal.div ((B4 m ρ c (Proc.devRef .tc main_v3_2) : Mat 1 1) (ix2 0 0))
          (Ideal.ofBits .f32 0x45000000#32 * Ideal.ofBits .f32 0x40000000#32))
        (Ideal.div ((B4 m ρ c (Proc.devRef .tc main_v3_3) : Mat 1 1) (ix2 0 0))
          (Ideal.ofBits .f32 0x45000000#32 * Ideal.ofBits .f32 0x44000000#32)) :
      Buf (Elt Ideal) ((c : Thread nD τ).loc main_v12)) := by
  unfold B5 hostOps2; after_results_simp
  unfold both
  have hs : ∀ (x : Mat 1 1) (d : EReal), (fun i => Ideal.div ((shapeCast S_ x shapeCasts_S1x1_S_ : Vec Ideal S_ .f32) i) d) = fun _ => Ideal.div (x (ix2 0 0)) d :=
    fun x d => funext fun i => congrArg (fun q => Ideal.div q d) (shapeCast_apply x _ i (ix2 0 0) rfl)
  have e1 := hs (B4 m ρ c (Proc.devRef .tc main_v3_2)) (Ideal.ofBits .f32 0x45000000#32 * Ideal.ofBits .f32 0x40000000#32)
  have e2 := hs (B4 m ρ c (Proc.devRef .tc main_v3_3)) (Ideal.ofBits .f32 0x45000000#32 * Ideal.ofBits .f32 0x44000000#32)
  rw [← e1, ← e2]
  rfl

/-- The two results as a function of what the program was launched with. -/
def kernelAnswer : Vec Ideal S2 .f32 :=
  encodeAnswer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem kernel_value (hp : InRange (m ((c : Thread nD τ).loc main_arg8))) : B5 m ρ c (Proc.devRef .tc main_v12)
    = (kernelAnswer m c : Buf (Elt Ideal) ((c : Thread nD τ).loc main_v12)) := by
  have es : B4 m ρ c (Proc.devRef .tc main_v3_2) = _ := (B4_arr m ρ c 11).trans (score_array (At3 m ρ) c)
  have er : B4 m ρ c (Proc.devRef .tc main_v3_3) = _ := (B4_arr m ρ c 12).trans (resid_array (At3 m ρ) c)
  rw [B5_v12, es, er]
  unfold kernelAnswer encodeAnswer
  rw [← loss_value m ρ c hp 0, ← loss_value m ρ c hp 1, ← resid_value m ρ c 0, ← resid_value m ρ c 1, ← loss_end, ← resid_end]

end Cert.Encode

end
-- ==== Proof.EncodeRefValue.lean ====
/-
  The reference's result. Each network's embeddings, summaries and scores are those of the kernel's; the four mean losses
  have one denominator and add up to the mean of the sums; the decoded features are the same with the adjacency matrix
  applied before or after the weights, all the matrices being real.
-/
module

public import proofs.«01_k».proof.Proof.EncodeRef
public import proofs.«01_k».proof.Proof.EncodeHost

@[expose] public section

set_option maxRecDepth 16384

noncomputable section

namespace Cert.Encode

open Idealize.ShloMosaic hiding ix0 ix1 ix2 ix3 eq_ix1 eq_ix2 eq_ix3
open Idealize.ShloMosaic.TcCoe Idealize.ShloMosaic.ValueIdx Cert.Align Cert.Reference2Ideal Cert.Reference2Ideal.Gen
open Cert.Reference2Ideal.Value
open scoped BigOperators

/-- The features with their rows picked, as the reference picks them. -/
theorem ref_picked (p : Picks) (hp : InRange p) (X : Mat 2048 512) :
    Host.gather gather_S2048x512_S2048x1_S2048x512_1_0_n_n_0_1_1512 X (broadcastInDim S2048x1 ![0] bcast_S2048_S2048x1_0
      (select (cmpi .slt p (broadcastInDim S2048 ![] bcast_S_S2048 (constantI S_ 32 0#32)))
        (addi p (broadcastInDim S2048 ![] bcast_S_S2048 (constantI S_ 32 2048#32))) p)) = takeRows p X := by
  rw [index_kept p hp]
  funext i
  rw [gather_rows]
  show X _ = X _
  congr 1; funext a
  match a with
  | ⟨0, _⟩ => exact Fin.ext (by
      show min (broadcastInDim S2048x1 ![0] bcast_S2048_S2048x1_0 p (ix2 (i 0) 0)).toInt.toNat 2047 = min (p (ix1 (i 0))).toInt.toNat 2047
      rw [column_index])
  | ⟨1, _⟩ => rfl

/-- The two columns of scores against one summary. -/
theorem ref_columns (V V' g : FVec Ideal S2048x128 .f32) (W : FVec Ideal S128x128 .f32) (b : FVec Ideal S1 .f32) :
    (concatenate S2048x2 1 [⟨S2048x1, (addf (broadcastInDim S2048x1 ![0] bcast_S2048_S2048x1_0
        (Host.reduceAdd (mulf (Host.dotGeneral dot_S2048x128_S128x128_S2048x128_1_0_0_1_n_n none V W) g)
          (constant S_ .f32 0x00000000#32) reducesTo_S2048x128_S2048_d1 h_S_))
      (broadcastInDim S2048x1 ![0, 1] bcast_S1x1_S2048x1_0_1 (broadcastInDim S1x1 ![1] bcast_S1_S1x1_1 b)) : FVec Ideal S2048x1 .f32)⟩,
      ⟨S2048x1, (addf (broadcastInDim S2048x1 ![0] bcast_S2048_S2048x1_0
        (Host.reduceAdd (mulf (Host.dotGeneral dot_S2048x128_S128x128_S2048x128_1_0_0_1_n_n none V' W) g)
          (constant S_ .f32 0x00000000#32) reducesTo_S2048x128_S2048_d1 h_S_))
      (broadcastInDim S2048x1 ![0, 1] bcast_S1x1_S2048x1_0_1 (broadcastInDim S1x1 ![1] bcast_S1_S1x1_1 b)) : FVec Ideal S2048x1 .f32)⟩]
      concatenates_S2048x1_S2048x1_S2048x2_d1 : FVec Ideal S2048x2 .f32)
      = columns (score (V : Mat 2048 128) (W : Mat 128 128) (g : Mat 2048 128) (b (ix1 0)))
          (score (V' : Mat 2048 128) (W : Mat 128 128) (g : Mat 2048 128) (b (ix1 0))) :=
  congrArg₂ (fun x y : FVec Ideal S2048x1 .f32 => (concatenate S2048x2 1 [⟨S2048x1, x⟩, ⟨S2048x1, y⟩]
    concatenates_S2048x1_S2048x1_S2048x2_d1 : FVec Ideal S2048x2 .f32)) (ref_score V g W b) (ref_score V' g W b)

variable (V0 : Valuation τ sig (Elt Ideal))

/-- The arguments as the reference holds them. -/
def argX : (⟨3, ![2, 2048, 512]⟩ : Shape).Idx → EReal := V0 (Proc.devRef .tc main_arg0)
def argA : (⟨3, ![2, 2048, 2048]⟩ : Shape).Idx → EReal := V0 (Proc.devRef .tc main_arg1)
def argG : (⟨3, ![2, 2048, 2048]⟩ : Shape).Idx → EReal := V0 (Proc.devRef .tc main_arg2)
def argT : (⟨3, ![2, 2048, 2]⟩ : Shape).Idx → EReal := V0 (Proc.devRef .tc main_arg3)
def argE : (⟨3, ![2, 512, 128]⟩ : Shape).Idx → EReal := V0 (Proc.devRef .tc main_arg4)
def argD : (⟨3, ![2, 128, 512]⟩ : Shape).Idx → EReal := V0 (Proc.devRef .tc main_arg5)
def argW : Mat 128 128 := V0 (Proc.devRef .tc main_arg6)
def argB : (⟨1, ![1]⟩ : Shape).Idx → EReal := V0 (Proc.devRef .tc main_arg7)
def argP : Picks := V0 (Proc.devRef .tc main_arg8)

/-- A network's embedding, -/
def embedding (k : Fin 2) : Mat 2048 128 := prod (page (argA V0) k) (encoded (argX V0) (argE V0) k)
/-- the embedding of its features with their rows picked, -/
def embeddingPicked (k : Fin 2) : Mat 2048 128 := prod (page (argA V0) k) (takeRows (argP V0) (encoded (argX V0) (argE V0) k))

theorem ref_v9 : res_main_v9 V0 = embedding V0 0 :=
  (ref_embedding _ _ _).trans (congrArg₂ prod (cut_page (argA V0) 0 _ _) (congrArg₂ prod (cut_page (argX V0) 0 _ _) (cut_page (argE V0) 0 _ _)))
theorem ref_v104 : res_main_v104 V0 = embedding V0 1 :=
  (ref_embedding _ _ _).trans (congrArg₂ prod (cut_page (argA V0) 1 _ _) (congrArg₂ prod (cut_page (argX V0) 1 _ _) (cut_page (argE V0) 1 _ _)))

theorem ref_v25 : res_main_v25 V0 = relu (embedding V0 0) := (ref_positive _).trans (congrArg relu (ref_v9 V0))
theorem ref_v120 : res_main_v120 V0 = relu (embedding V0 1) := (ref_positive _).trans (congrArg relu (ref_v104 V0))

theorem ref_v26 (hp : InRange (argP V0)) : res_main_v26 V0 = relu (embeddingPicked V0 0) :=
  (ref_positive _).trans (congrArg relu ((ref_embedding _ _ _).trans (congrArg₂ prod (cut_page (argA V0) 0 _ _)
    (congrArg₂ prod ((ref_picked (argP V0) hp _).trans (congrArg (takeRows (argP V0)) (cut_page (argX V0) 0 _ _))) (cut_page (argE V0) 0 _ _)))))
theorem ref_v121 (hp : InRange (argP V0)) : res_main_v121 V0 = relu (embeddingPicked V0 1) :=
  (ref_positive _).trans (congrArg relu ((ref_embedding _ _ _).trans (congrArg₂ prod (cut_page (argA V0) 1 _ _)
    (congrArg₂ prod ((ref_picked (argP V0) hp _).trans (congrArg (takeRows (argP V0)) (cut_page (argX V0) 1 _ _))) (cut_page (argE V0) 1 _ _)))))

theorem ref_v45 : res_main_v45 V0 = readout (page (argG V0) 0) (relu (embedding V0 0)) :=
  (ref_squash _).trans (congrArg squash ((ref_average _ _).trans (congrArg₂ average (cut_page (argG V0) 0 _ _) (ref_v25 V0))))
theorem ref_v140 : res_main_v140 V0 = readout (page (argG V0) 1) (relu (embedding V0 1)) :=
  (ref_squash _).trans (congrArg squash ((ref_average _ _).trans (congrArg₂ average (cut_page (argG V0) 1 _ _) (ref_v120 V0))))
theorem ref_v64 (hp : InRange (argP V0)) : res_main_v64 V0 = readout (page (argG V0) 0) (relu (embeddingPicked V0 0)) :=
  (ref_squash _).trans (congrArg squash ((ref_average _ _).trans (congrArg₂ average (cut_page (argG V0) 0 _ _) (ref_v26 V0 hp))))
theorem ref_v159 (hp : InRange (argP V0)) : res_main_v159 V0 = readout (page (argG V0) 1) (relu (embeddingPicked V0 1)) :=
  (ref_squash _).trans (congrArg squash ((ref_average _ _).trans (congrArg₂ average (cut_page (argG V0) 1 _ _) (ref_v121 V0 hp))))

/-- The scores of an embedding against a summary. -/
abbrev against (V g : Mat 2048 128) : Fin 2048 → EReal := score V (argW V0) g (argB V0 (ix1 0))

theorem ref_v79 (hp : InRange (argP V0)) : res_main_v79 V0 = columns
    (against V0 (relu (embedding V0 0)) (readout (page (argG V0) 0) (relu (embedding V0 0))))
    (against V0 (relu (embeddingPicked V0 0)) (readout (page (argG V0) 0) (relu (embedding V0 0)))) := by
  unfold res_main_v79
  rw [ref_v25 V0, ref_v26 V0 hp, ref_v45 V0]
  exact ref_columns _ _ _ (argW V0) (argB V0)
theorem ref_v94 (hp : InRange (argP V0)) : res_main_v94 V0 = columns
    (against V0 (relu (embeddingPicked V0 0)) (readout (page (argG V0) 0) (relu (embeddingPicked V0 0))))
    (against V0 (relu (embedding V0 0)) (readout (page (argG V0) 0) (relu (embeddingPicked V0 0)))) := by
  unfold res_main_v94
  rw [ref_v25 V0, ref_v26 V0 hp, ref_v64 V0 hp]
  exact ref_columns _ _ _ (argW V0) (argB V0)
theorem ref_v174 (hp : InRange (argP V0)) : res_main_v174 V0 = columns
    (against V0 (relu (embedding V0 1)) (readout (page (argG V0) 1) (relu (embedding V0 1))))
    (against V0 (relu (embeddingPicked V0 1)) (readout (page (argG V0) 1) (relu (embedding V0 1)))) := by
  unfold res_main_v174
  rw [ref_v120 V0, ref_v121 V0 hp, ref_v140 V0]
  exact ref_columns _ _ _ (argW V0) (argB V0)
theorem ref_v189 (hp : InRange (argP V0)) : res_main_v189 V0 = columns
    (against V0 (relu (embeddingPicked V0 1)) (readout (page (argG V0) 1) (relu (embeddingPicked V0 1))))
    (against V0 (relu (embedding V0 1)) (readout (page (argG V0) 1) (relu (embeddingPicked V0 1)))) := by
  unfold res_main_v189
  rw [ref_v120 V0, ref_v121 V0 hp, ref_v159 V0 hp]
  exact ref_columns _ _ _ (argW V0) (argB V0)

/-- The mean loss of two embeddings against one summary. -/
def mean (k : Fin 2) (V V' g : Mat 2048 128) : EReal :=
  Ideal.div ((∑ r : Fin 2048, term (against V0 V g r) (page (argT V0) k (ix2 r 0)))
    + ∑ r : Fin 2048, term (against V0 V' g r) (page (argT V0) k (ix2 r 1))) scores

/-- The reference's mean squared residual of a network. -/
def meanResidual (k : Fin 2) : EReal :=
  Ideal.div (sumSq (diff (page (argX V0) k) (prod (page (argA V0) k) (prod (embedding V0 k) (page (argD V0) k)))))
    (Ideal.ofBits .f32 0x49800000#32)

theorem decoded (X X' : FVec Ideal S2048x512 .f32) (H : FVec Ideal S2048x128 .f32) (A A' : FVec Ideal S2048x2048 .f32)
    (D D' : FVec Ideal S128x512 .f32) (hX : X = X') (hA : A = A') (hD : D = D') :
    (subf X (Host.dotGeneral dot_S2048x2048_S2048x512_S2048x512_1_0_0_1_n_n none A
      (Host.dotGeneral dot_S2048x128_S128x512_S2048x512_1_0_0_1_n_n none H D)) : FVec Ideal S2048x512 .f32)
      = subf X' (Host.dotGeneral dot_S2048x2048_S2048x512_S2048x512_1_0_0_1_n_n none A'
        (Host.dotGeneral dot_S2048x128_S128x512_S2048x512_1_0_0_1_n_n none H D')) := by
  rw [hX, hA, hD]

theorem ref_r220 : (Host.divf (Host.reduceAdd (mulf (res_main_v220 V0) (res_main_v220 V0)) (constant S_ .f32 0x00000000#32)
    reducesTo_S2048x512_S_d0_1 h_S_) (constant S_ .f32 0x49800000#32) : FVec Ideal S_ .f32) = fun _ => meanResidual V0 0 :=
  ref_residual (page (argA V0) 0) (page (argX V0) 0) (embedding V0 0) (page (argD V0) 0) _ (by
    unfold res_main_v220
    rw [ref_v9 V0]
    exact decoded _ _ (embedding V0 0) _ _ _ _ (cut_page (argX V0) 0 _ _) (cut_page (argA V0) 0 _ _) (cut_page (argD V0) 0 _ _))
theorem ref_r255 : (Host.divf (Host.reduceAdd (mulf (res_main_v255 V0) (res_main_v255 V0)) (constant S_ .f32 0x00000000#32)
    reducesTo_S2048x512_S_d0_1 h_S_) (constant S_ .f32 0x49800000#32) : FVec Ideal S_ .f32) = fun _ => meanResidual V0 1 :=
  ref_residual (page (argA V0) 1) (page (argX V0) 1) (embedding V0 1) (page (argD V0) 1) _ (by
    unfold res_main_v255
    rw [ref_v104 V0]
    exact decoded _ _ (embedding V0 1) _ _ _ _ (cut_page (argX V0) 1 _ _) (cut_page (argA V0) 1 _ _) (cut_page (argD V0) 1 _ _))

/-! ## The denominators -/

theorem scores_real : scores = ((4096 : ℝ) : EReal) := by
  simp [scores, Ideal.ofBits, Ideal.ieee, -EReal.coe_mul]; norm_num
theorem nodes_two : Ideal.ofBits .f32 0x45000000#32 * Ideal.ofBits .f32 0x40000000#32 = ((4096 : ℝ) : EReal) := by
  have h1 : Ideal.ofBits .f32 0x45000000#32 = ((2048 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, ← EReal.coe_mul]; norm_num
theorem residuals_real : Ideal.ofBits .f32 0x49800000#32 = ((1048576 : ℝ) : EReal) := by
  simp [Ideal.ofBits, Ideal.ieee, -EReal.coe_mul]; norm_num
theorem nodes_512 : Ideal.ofBits .f32 0x45000000#32 * Ideal.ofBits .f32 0x44000000#32 = ((1048576 : ℝ) : EReal) := by
  have h1 : Ideal.ofBits .f32 0x45000000#32 = ((2048 : ℝ) : EReal) := by
    simp [Ideal.ofBits, Ideal.ieee, -EReal.coe_mul]; norm_num
  have h2 : Ideal.ofBits .f32 0x44000000#32 = ((512 : ℝ) : EReal) := by
    simp [Ideal.ofBits, Ideal.ieee, -EReal.coe_mul]; norm_num
  rw [h1, h2, ← EReal.coe_mul]; norm_num

/-- The two mean losses of a network are the mean of its total. -/
theorem mean_total (k : Fin 2) :
    mean V0 k (relu (embedding V0 k)) (relu (embeddingPicked V0 k)) (readout (page (argG V0) k) (relu (embedding V0 k)))
      + mean V0 k (relu (embeddingPicked V0 k)) (relu (embedding V0 k)) (readout (page (argG V0) k) (relu (embeddingPicked V0 k)))
      = Ideal.div (lossTotal (argX V0) (argA V0) (argG V0) (argT V0) (argE V0) (argW V0) (argB V0) (argP V0) k) scores := by
  unfold mean
  rw [scores_real, ← div_add_real _ _ (by norm_num : (0 : ℝ) < 4096)]
  refine congrArg (Ideal.div · _) ?_
  unfold lossTotal netLoss scoreLoss
  exact (add_assoc _ _ _).symm

theorem residual_total (k : Fin 2) (hX : AllReal (page (argX V0) k)) (hA : AllReal (page (argA V0) k)) (hE : AllReal (page (argE V0) k))
    (hD : AllReal (page (argD V0) k)) :
    meanResidual V0 k = Ideal.div (residTotal (argX V0) (argA V0) (argE V0) (argD V0) k) (Ideal.ofBits .f32 0x49800000#32) := by
  unfold meanResidual residTotal netResidual
  have hH : AllReal (embedding V0 k) := hA.prod (hX.prod hE)
  rw [← prod_assoc hA hH hD]
  rfl

/-! ## The result -/

/-- Four losses added up from zero beside two, as the reference adds them. -/
theorem both_sums (a b c d r s : EReal) :
    (concatenate S2 0 [⟨S1, (broadcastInDim S1 ![] bcast_S_S1 (addf (addf (addf (addf (constant S_ .f32 0x00000000#32) fun _ => a) fun _ => b)
        fun _ => c) (fun _ => d : FVec Ideal S_ .f32)) : FVec Ideal S1 .f32)⟩,
      ⟨S1, (broadcastInDim S1 ![] bcast_S_S1 (addf (addf (constant S_ .f32 0x00000000#32) fun _ => r) (fun _ => s : FVec Ideal S_ .f32)) : FVec Ideal S1 .f32)⟩]
      concatenates_S1_S1_S2_d0 : FVec Ideal S2 .f32) = both ((a + b) + (c + d)) (r + s) := by
  have e1 : (addf (addf (addf (addf (constant S_ .f32 0x00000000#32) fun _ => a) fun _ => b) fun _ => c) (fun _ => d) : FVec Ideal S_ .f32)
      = fun _ => (a + b) + (c + d) := funext fun _ => by
    show Ideal.ofBits .f32 0x00000000#32 + a + b + c + d = _
    rw [Ideal.ofBits_zero_f32, zero_add, add_assoc (a + b) c d]
  have e2 : (addf (addf (constant S_ .f32 0x00000000#32) fun _ => r) (fun _ => s) : FVec Ideal S_ .f32) = fun _ => r + s := funext fun _ => by
    show Ideal.ofBits .f32 0x00000000#32 + r + s = _
    rw [Ideal.ofBits_zero_f32, zero_add]
  rw [e1, e2]
  rfl

/-- The two results as a function of what the reference was launched with. -/
def referenceAnswer : FVec Ideal S2 .f32 :=
  encodeAnswer (argX V0) (argA V0) (argG V0) (argT V0) (argE V0) (argD V0) (argW V0) (argB V0) (argP V0)

/-- The reference's two losses. -/
theorem reference_value (hp : InRange (argP V0)) (hX : ∀ k, AllReal (page (argX V0) k)) (hA : ∀ k, AllReal (page (argA V0) k))
    (hE : ∀ k, AllReal (page (argE V0) k)) (hD : ∀ k, AllReal (page (argD V0) k)) :
    (concatenate S2 0 [⟨S1, (broadcastInDim S1 ![] bcast_S_S1 (addf (addf (addf (addf (constant S_ .f32 0x00000000#32)
      (Host.divf (Host.reduceAdd (addf (subf (maximumf (res_main_v79 V0) (broadcastInDim S2048x2 ![] bcast_S_S2048x2 (constant S_ .f32 0x00000000#32))) (mulf (res_main_v79 V0) (shapeCast _ (extractStridedSlice S1x2048x2 ![0, 0, 0] (V0 (Proc.devRef .tc main_arg3)) slices_S2x2048x2_S1x2048x2_0_0_0) shapeCasts_S1x2048x2_S2048x2))) (Host.log1p (Host.exp (Host.negf (Host.absf (res_main_v79 V0)))))) (constant S_ .f32 0x00000000#32) reducesTo_S2048x2_S_d0_1 h_S_) (constant S_ .f32 0x45800000#32)))
      (Host.divf (Host.reduceAdd (addf (subf (maximumf (res_main_v94 V0) (broadcastInDim S2048x2 ![] bcast_S_S2048x2 (constant S_ .f32 0x00000000#32))) (mulf (res_main_v94 V0) (shapeCast _ (extractStridedSlice S1x2048x2 ![0, 0, 0] (V0 (Proc.devRef .tc main_arg3)) slices_S2x2048x2_S1x2048x2_0_0_0) shapeCasts_S1x2048x2_S2048x2))) (Host.log1p (Host.exp (Host.negf (Host.absf (res_main_v94 V0)))))) (constant S_ .f32 0x00000000#32) reducesTo_S2048x2_S_d0_1 h_S_) (constant S_ .f32 0x45800000#32)))
      (Host.divf (Host.reduceAdd (addf (subf (maximumf (res_main_v174 V0) (broadcastInDim S2048x2 ![] bcast_S_S2048x2 (constant S_ .f32 0x00000000#32))) (mulf (res_main_v174 V0) (shapeCast _ (extractStridedSlice S1x2048x2 ![1, 0, 0] (V0 (Proc.devRef .tc main_arg3)) slices_S2x2048x2_S1x2048x2_1_0_0) shapeCasts_S1x2048x2_S2048x2))) (Host.log1p (Host.exp (Host.negf (Host.absf (res_main_v174 V0)))))) (constant S_ .f32 0x00000000#32) reducesTo_S2048x2_S_d0_1 h_S_) (constant S_ .f32 0x45800000#32)))
      (Host.divf (Host.reduceAdd (addf (subf (maximumf (res_main_v189 V0) (broadcastInDim S2048x2 ![] bcast_S_S2048x2 (constant S_ .f32 0x00000000#32))) (mulf (res_main_v189 V0) (shapeCast _ (extractStridedSlice S1x2048x2 ![1, 0, 0] (V0 (Proc.devRef .tc main_arg3)) slices_S2x2048x2_S1x2048x2_1_0_0) shapeCasts_S1x2048x2_S2048x2))) (Host.log1p (Host.exp (Host.negf (Host.absf (res_main_v189 V0)))))) (constant S_ .f32 0x00000000#32) reducesTo_S2048x2_S_d0_1 h_S_) (constant S_ .f32 0x45800000#32))) : FVec Ideal S1 .f32)⟩,
      ⟨S1, (broadcastInDim S1 ![] bcast_S_S1 (addf (addf (constant S_ .f32 0x00000000#32)
        (Host.divf (Host.reduceAdd (mulf (res_main_v220 V0) (res_main_v220 V0)) (constant S_ .f32 0x00000000#32) reducesTo_S2048x512_S_d0_1 h_S_) (constant S_ .f32 0x49800000#32)))
        (Host.divf (Host.reduceAdd (mulf (res_main_v255 V0) (res_main_v255 V0)) (constant S_ .f32 0x00000000#32) reducesTo_S2048x512_S_d0_1 h_S_) (constant S_ .f32 0x49800000#32))) : FVec Ideal S1 .f32)⟩]
      concatenates_S1_S1_S2_d0 : FVec Ideal S2 .f32)
      = referenceAnswer V0 := by
  have cut0 := fun S x y h => (congrArg (fun T : FVec Ideal S2048x2 .f32 => (Host.divf (Host.reduceAdd (addf (subf (maximumf S
      (broadcastInDim S2048x2 ![] bcast_S_S2048x2 (constant S_ .f32 0x00000000#32))) (mulf S T)) (Host.log1p (Host.exp (Host.negf (Host.absf S)))))
      (constant S_ .f32 0x00000000#32) reducesTo_S2048x2_S_d0_1 h_S_) (constant S_ .f32 0x45800000#32) : FVec Ideal S_ .f32))
      (cut_page (argT V0) 0 slices_S2x2048x2_S1x2048x2_0_0_0 shapeCasts_S1x2048x2_S2048x2)).trans (ref_mean S x y h (page (argT V0) 0))
  have cut1 := fun S x y h => (congrArg (fun T : FVec Ideal S2048x2 .f32 => (Host.divf (Host.reduceAdd (addf (subf (maximumf S
      (broadcastInDim S2048x2 ![] bcast_S_S2048x2 (constant S_ .f32 0x00000000#32))) (mulf S T)) (Host.log1p (Host.exp (Host.negf (Host.absf S)))))
      (constant S_ .f32 0x00000000#32) reducesTo_S2048x2_S_d0_1 h_S_) (constant S_ .f32 0x45800000#32) : FVec Ideal S_ .f32))
      (cut_page (argT V0) 1 slices_S2x2048x2_S1x2048x2_1_0_0 shapeCasts_S1x2048x2_S2048x2)).trans (ref_mean S x y h (page (argT V0) 1))
  refine (congrArg₂ (fun a b : FVec Ideal S_ .f32 => (concatenate S2 0 [⟨S1, broadcastInDim S1 ![] bcast_S_S1 a⟩,
      ⟨S1, broadcastInDim S1 ![] bcast_S_S1 b⟩] concatenates_S1_S1_S2_d0 : FVec Ideal S2 .f32))
    (congrArg₂ addf (congrArg₂ addf (congrArg₂ addf (congrArg (addf (constant S_ .f32 0x00000000#32)) (cut0 _ _ _ (ref_v79 V0 hp)))
      (cut0 _ _ _ (ref_v94 V0 hp))) (cut1 _ _ _ (ref_v174 V0 hp))) (cut1 _ _ _ (ref_v189 V0 hp)))
    (congrArg₂ addf (congrArg (addf (constant S_ .f32 0x00000000#32)) (ref_r220 V0)) (ref_r255 V0))).trans ?_
  unfold referenceAnswer encodeAnswer
  rw [nodes_two, nodes_512, div_add_real _ _ (by norm_num : (0 : ℝ) < 4096), div_add_real _ _ (by norm_num : (0 : ℝ) < 1048576),
    ← scores_real, ← residuals_real, ← mean_total V0 0, ← mean_total V0 1, ← residual_total V0 0 (hX 0) (hA 0) (hE 0) (hD 0),
    ← residual_total V0 1 (hX 1) (hA 1) (hE 1) (hD 1)]
  exact both_sums _ _ _ _ _ _

end Cert.Encode

end
-- ==== Proof.EncodePre.lean ====
/-
  What the assumption on the second program's inputs says: the features, the adjacency matrices and both stacks of
  weights are real, and every row number is in range.
-/
module

public import proofs.«01_k».proof.Pre_encode_inputs
public import proofs.«01_k».proof.Proof.EncodeTake

@[expose] public section

set_option maxRecDepth 16384

noncomputable section

namespace Cert.Encode

open Idealize.ShloMosaic hiding ix0 ix1 ix2 ix3 eq_ix1 eq_ix2 eq_ix3
open Idealize.ShloMosaic.ValueIdx Cert.Align Cert.Pre_encode_inputs
open scoped BigOperators

/-- The side conditions of the assumption's operations. -/
theorem pre_facts : Cert.Pre_encode_inputs.Facts where
  bcast_S_S2x2048x512 := by decide
  reducesTo_S2x2048x512_S_d0_1_2 := by decide
  h_S_ := by decide
  bcast_S_S2x2048x2048 := by decide
  reducesTo_S2x2048x2048_S_d0_1_2 := by decide
  bcast_S_S2x512x128 := by decide
  reducesTo_S2x512x128_S_d0_1_2 := by decide
  bcast_S_S2x128x512 := by decide
  reducesTo_S2x128x512_S_d0_1_2 := by decide
  bcast_S_S2048 := by decide
  reducesTo_S2048_S_d0 := by decide

theorem infinity_bits : Ideal.ofBits .f32 0x7F800000#32 = ⊤ := by
  simp [Ideal.ofBits, Ideal.ieee]

/-- An extended real whose absolute value is below infinity is real. -/
theorem real_of_abs_lt (x : EReal) (h : max x (-x) < ⊤) : ∃ r : ℝ, x = (r : EReal) := by
  induction x with
  | bot => simp at h
  | top => simp at h
  | coe r => exact ⟨r, rfl⟩

/-- The same from the outcome of the test. -/
theorem real_of_bit (x : EReal) (h : BitVec.ofBool (decide (max x (-x) < Ideal.ofBits .f32 0x7F800000#32)) = 1#1) : ∃ r : ℝ, x = (r : EReal) := by
  rw [infinity_bits] at h
  refine real_of_abs_lt x ?_
  by_contra hn
  rw [decide_eq_false hn] at h
  exact absurd h (by decide)

/-- A stack of matrices every one of whose entries passes the test is real. -/
theorem real_of_test {a b : ℕ} (X : FVec Ideal ⟨3, ![2, a, b]⟩ .f32) (hb : (⟨0, ![]⟩ : Shape).BroadcastsInDim ⟨3, ![2, a, b]⟩ ![])
    (hr : (⟨3, ![2, a, b]⟩ : Shape).ReducesTo [0, 1, 2] ⟨0, ![]⟩) (hu : 0 < (⟨0, ![]⟩ : Shape).numel) (j : (⟨0, ![]⟩ : Shape).Idx)
    (h : Host.reduce IntOp.andi (cmpf .olt (Host.absf X) (broadcastInDim ⟨3, ![2, a, b]⟩ ![] hb (constant ⟨0, ![]⟩ .f32 0x7F800000#32)))
      (constantI ⟨0, ![]⟩ 1 1#1) hr hu j = 1#1) (k : Fin 2) : AllReal (page (n := 2) (a := a) (b := b) X k) := by
  intro i
  have e := Host.reduce_andi_all _ _ _ _ _ h (ix3 k (i 0) (i 1))
  exact real_of_bit _ e

theorem pre_split [hPre : Cert.Pre_encode_inputs.Facts] (X : FVec Ideal S2x2048x512 .f32) (A G : FVec Ideal S2x2048x2048 .f32)
    (T : FVec Ideal S2x2048x2 .f32) (E : FVec Ideal S2x512x128 .f32) (D : FVec Ideal S2x128x512 .f32) (W : FVec Ideal S128x128 .f32)
    (b : FVec Ideal S1 .f32) (p : IVec S2048 32) (h : fn X A G T E D W b p = fun _ => 1#1) :
    InRange p ∧ (∀ k, AllReal (page (n := 2) (a := 2048) (b := 512) X k)) ∧ (∀ k, AllReal (page (n := 2) (a := 2048) (b := 2048) A k))
      ∧ (∀ k, AllReal (page (n := 2) (a := 512) (b := 128) E k)) ∧ ∀ k, AllReal (page (n := 2) (a := 128) (b := 512) D k) := by
  have h0 := congrFun h ix0
  dsimp only [fn, fn_part1] at h0
  obtain ⟨h1, hD⟩ := (IntOp.andi_eq_one).mp h0
  obtain ⟨h2, hE⟩ := (IntOp.andi_eq_one).mp h1
  obtain ⟨h3, hA⟩ := (IntOp.andi_eq_one).mp h2
  obtain ⟨hp, hX⟩ := (IntOp.andi_eq_one).mp h3
  refine ⟨fun i => ?_, real_of_test X _ _ _ _ hX, real_of_test A _ _ _ _ hA, real_of_test E _ _ _ _ hE, real_of_test D _ _ _ _ hD⟩
  have e := Host.reduce_andi_all _ _ _ _ _ hp i
  obtain ⟨e1, e2⟩ := (IntOp.andi_eq_one).mp e
  exact ⟨IntOp.cmpi_sge.mp e1, IntOp.cmpi_slt.mp e2⟩

end Cert.Encode

end
-- ==== Proof.EncodeSame.lean ====
/-
  The encoder calls' program over the machine's bits and the one read over the extended reals are one text, so what
  the second does to its arguments, proved over any arithmetic, the first does too.
-/
module

public import proofs.«01_k».proof.Proof.Gen.Kernel2.Skeleton
public import proofs.«01_k».proof.Proof.Kernel2Ideal.Run
public import Idealize.ShloMosaic.PureOps.BitExact

@[expose] public section

set_option maxRecDepth 65536
set_option maxHeartbeats 4000000

noncomputable section

namespace Cert.Kernel2.Same

open Idealize.ShloMosaic Idealize.ShloMosaic.TcCoe Idealize.SL.Sem

variable (F : FTy → Type) [FloatOps F]

theorem product_same : Cert.Kernel2.cc0__xe_body (F := F) = Cert.Kernel2Ideal.cc0__xe_body (F := F) := rfl
theorem body_same : Cert.Kernel2.cc1__enc_body (F := F) = Cert.Kernel2Ideal.cc1__enc_body (F := F) := rfl

theorem bodies_same : Cert.Kernel2.defs₀ (F := F) = Cert.Kernel2Ideal.defs₀ (F := F) := by
  unfold Cert.Kernel2.defs₀ Cert.Kernel2Ideal.defs₀
  refine congrArg Defs.onTc (funext fun l => funext fun x => ?_)
  match l with
  | ⟨0, _⟩ => obtain ⟨t, s⟩ := x; rfl
  | ⟨1, _⟩ => obtain ⟨t, s⟩ := x; rfl
  | ⟨_ + 2, h⟩ => exact absurd h (Nat.not_lt.2 (Nat.le_add_left _ _))

theorem calls_same : Cert.Kernel2.pcfgs (F := F) = Cert.Kernel2Ideal.pcfgs (F := F) := rfl

theorem defs_same : Cert.Kernel2.defs (F := F) = Cert.Kernel2Ideal.defs (F := F) := by
  unfold Cert.Kernel2.defs Cert.Kernel2Ideal.defs
  exact congrArg (Pipeline.defs (Cert.Kernel2.pcfgs (F := F))) (bodies_same F)

theorem main_same : Cert.Kernel2.main (F := F) = Cert.Kernel2Ideal.main (F := F) := rfl

/-- The program over the machine's bits ends with its arguments as launched and every counter at zero. -/
theorem frame (m : (ℓ : Loc Cert.Kernel2.nD Cert.Kernel2.τ Cert.Kernel2.sig) → Buf (Elt Bits) ℓ) (ρ : Dev Cert.Kernel2.nD → PrngReg) :
    θ_run (Cert.Kernel2.defs (F := Bits)) (onTc (τ := Cert.Kernel2.τ) (Cert.Kernel2.main (F := Bits))) ⟨m, fun _ => 0, ρ⟩
      (fun r => (∀ c : Dev Cert.Kernel2.nD,
          r.2.mem ((c.tc : Thread Cert.Kernel2.nD Cert.Kernel2.τ).loc Cert.Kernel2.main_arg0) = m ((c.tc : Thread Cert.Kernel2.nD Cert.Kernel2.τ).loc Cert.Kernel2.main_arg0)
          ∧ r.2.mem ((c.tc : Thread Cert.Kernel2.nD Cert.Kernel2.τ).loc Cert.Kernel2.main_arg1) = m ((c.tc : Thread Cert.Kernel2.nD Cert.Kernel2.τ).loc Cert.Kernel2.main_arg1)
          ∧ r.2.mem ((c.tc : Thread Cert.Kernel2.nD Cert.Kernel2.τ).loc Cert.Kernel2.main_arg2) = m ((c.tc : Thread Cert.Kernel2.nD Cert.Kernel2.τ).loc Cert.Kernel2.main_arg2)
          ∧ r.2.mem ((c.tc : Thread Cert.Kernel2.nD Cert.Kernel2.τ).loc Cert.Kernel2.main_arg3) = m ((c.tc : Thread Cert.Kernel2.nD Cert.Kernel2.τ).loc Cert.Kernel2.main_arg3)
          ∧ r.2.mem ((c.tc : Thread Cert.Kernel2.nD Cert.Kernel2.τ).loc Cert.Kernel2.main_arg4) = m ((c.tc : Thread Cert.Kernel2.nD Cert.Kernel2.τ).loc Cert.Kernel2.main_arg4)
          ∧ r.2.mem ((c.tc : Thread Cert.Kernel2.nD Cert.Kernel2.τ).loc Cert.Kernel2.main_arg5) = m ((c.tc : Thread Cert.Kernel2.nD Cert.Kernel2.τ).loc Cert.Kernel2.main_arg5)
          ∧ r.2.mem ((c.tc : Thread Cert.Kernel2.nD Cert.Kernel2.τ).loc Cert.Kernel2.main_arg6) = m ((c.tc : Thread Cert.Kernel2.nD Cert.Kernel2.τ).loc Cert.Kernel2.main_arg6)
          ∧ r.2.mem ((c.tc : Thread Cert.Kernel2.nD Cert.Kernel2.τ).loc Cert.Kernel2.main_arg7) = m ((c.tc : Thread Cert.Kernel2.nD Cert.Kernel2.τ).loc Cert.Kernel2.main_arg7)
          ∧ r.2.mem ((c.tc : Thread Cert.Kernel2.nD Cert.Kernel2.τ).loc Cert.Kernel2.main_arg8) = m ((c.tc : Thread Cert.Kernel2.nD Cert.Kernel2.τ).loc Cert.Kernel2.main_arg8))
        ∧ r.2.sem = fun _ => 0) := by
  rw [defs_same, main_same]
  exact Cert.Kernel2Ideal.Enc.frame (F := Bits) m ρ

end Cert.Kernel2.Same

end
-- ==== Proof.SinkMath.lean ====
/-
  The transport plan and its three losses as functions of matrices of extended reals. `H`, `K` are the two networks'
  hidden matrices, `n`, `p` the sums of the squares of their rows, `M` a square matrix:

    C     = H M Mᵀ Kᵀ / √128                        the cost
    P     = e^(C − row maximum), each row divided by its sum and by 2048
    plan  = P with its rows, then its columns scaled to sums near 1, three times over
    align = Σ plan · √(max (n + p − 2 H Kᵀ) 0)

  The kernel multiplies by a reciprocal where this divides; the two agree wherever the divisor is not zero, and every
  divisor here is a sum of numbers that are not negative, plus a positive number, or the sum of a row of exponentials.
-/
module

public import proofs.«01_k».proof.Proof.EncodeMath

@[expose] public section

noncomputable section

namespace Cert.Sink

open Idealize.ShloMosaic Idealize.ShloMosaic.ValueIdx Cert.Align Cert.Encode
open scoped BigOperators

/-! ## The functions -/

/-- What is added to each sum before dividing by it, as the programs write it. -/
def eps : EReal := Ideal.ofBits .f32 0x322BCC77#32
/-- The number of nodes, the number of hidden columns, and one. -/
def nodes : EReal := Ideal.ofBits .f32 0x45000000#32
def width : EReal := Ideal.ofBits .f32 0x43000000#32
def one : EReal := Ideal.ofBits .f32 0x3F800000#32

def rowSum {a b : ℕ} (A : Mat a b) (r : Fin a) : EReal := ∑ k : Fin b, A (ix2 r k)
def colSum {a b : ℕ} (A : Mat a b) (k : Fin b) : EReal := ∑ r : Fin a, A (ix2 r k)

/-- The greatest entry of a row. -/
def rowTop {a b : ℕ} (A : Mat a b) (r : Fin a) : EReal := (Finset.univ : Finset (Fin b)).fold max ⊥ fun k => A (ix2 r k)

/-- Each row divided by its sum. -/
def rowNorm {a b : ℕ} (A : Mat a b) : Mat a b := fun i => Ideal.div (A i) (rowSum A (i 0) + eps)
/-- Each column divided by a given sum. -/
def colBy {a b : ℕ} (s : Fin b → EReal) (A : Mat a b) : Mat a b := fun i => Ideal.div (A i) (s (i 1) + eps)
/-- Each column divided by its sum. -/
def colNorm {a b : ℕ} (A : Mat a b) : Mat a b := colBy (colSum A) A

/-- The exponentials of a matrix, each row less its greatest entry. -/
def weights {a b : ℕ} (C : Mat a b) : Mat a b := fun i => Ideal.exp (C i - rowTop C (i 0))
/-- The plan before it is scaled. -/
def start {a b : ℕ} (C : Mat a b) : Mat a b := fun i => Ideal.div (Ideal.div (weights C i) (rowSum (weights C) (i 0))) nodes

/-- A product divided by the root of the number of hidden columns. -/
def scaled {a b : ℕ} (S : Mat a b) : Mat a b := fun i => Ideal.div (S i) (Ideal.sqrt width)
/-- The cost of each pair of nodes. -/
def cost {a b k : ℕ} (H : Mat a k) (K : Mat b k) (M : Mat k k) : Mat a b := scaled (prod (prod (prod H M) (flip M)) (flip K))

/-- The plan after `n` more rounds, its rows scaled last. -/
def level (C : Mat 2048 2048) : ℕ → Mat 2048 2048
  | 0 => rowNorm (start C)
  | n + 1 => rowNorm (colNorm (level C n))

/-- The transport plan. -/
def plan (C : Mat 2048 2048) : Mat 2048 2048 := colNorm (level C 2)

/-- The distance of each pair of nodes, from the sums of squares and the product. -/
def dist {a b k : ℕ} (n : Fin a → EReal) (p : Fin b → EReal) (H : Mat a k) (K : Mat b k) : Mat a b := fun i =>
  Ideal.sqrt (max (n (i 0) + p (i 1) - Ideal.ofBits .f32 0x40000000#32 * prod H (flip K) i) (Ideal.ofBits .f32 0x00000000#32))

/-- What an entry adds to the sparsity. -/
def entropy (x : EReal) : EReal := x * Ideal.log (x + Ideal.ofBits .f32 0x2EDBE6FF#32)

/-- What a marginal of mass `q` adds, against the mass `p` it should have. -/
def excess (p q : EReal) : EReal := q * (Ideal.log (q + Ideal.ofBits .f32 0x2B8CBCCC#32) - p)

/-- A column's sum after it has been divided. -/
def mass (s : EReal) : EReal := Ideal.div s (s + eps)

/-! ## The constants -/

theorem one_eq : one = 1 := by
  simp [one, Ideal.ofBits, Ideal.ieee, -EReal.coe_mul]; norm_num
theorem nodes_eq : nodes = ((2048 : ℝ) : EReal) := by
  simp [nodes, Ideal.ofBits, Ideal.ieee, -EReal.coe_mul]; norm_num
theorem width_eq : width = ((128 : ℝ) : EReal) := by
  simp [width, Ideal.ofBits, Ideal.ieee, -EReal.coe_mul]; norm_num
theorem share_eq : Ideal.ofBits .f32 0x3A000000#32 = Ideal.div one nodes := by
  have h : Ideal.ofBits .f32 0x3A000000#32 = (((2048 : ℝ)⁻¹ : ℝ) : EReal) := by
    simp [Ideal.ofBits, Ideal.ieee, -EReal.coe_mul]; norm_num
  have h0 : ((2048 : ℝ) : EReal) ≠ 0 := by exact_mod_cast (by norm_num : (2048 : ℝ) ≠ 0)
  rw [h, nodes_eq, one_eq]
  unfold Ideal.div
  rw [if_neg h0, one_mul, ← EReal.coe_inv]
theorem eps_pos : 0 < eps := by
  have h : ∃ r : ℝ, 0 < r ∧ eps = (r : EReal) := by
    refine ⟨_, ?_, by simp [eps, Ideal.ofBits, Ideal.ieee, -EReal.coe_mul]; rfl⟩
    norm_num
  obtain ⟨r, hr, e⟩ := h
  rw [e]; exact_mod_cast hr

/-! ## Reciprocals -/

/-- Multiplying by the reciprocal of a number that is not zero divides by it. -/
theorem mul_recip (x : EReal) {y : EReal} (hy : y ≠ 0) : x * Ideal.div one y = Ideal.div x y := by
  unfold Ideal.div
  rw [if_neg hy, if_neg hy, one_eq, one_mul]

theorem div_nonneg {x y : EReal} (hx : 0 ≤ x) (hy : 0 < y) : 0 ≤ Ideal.div x y := by
  unfold Ideal.div
  rw [if_neg hy.ne']
  exact EReal.mul_nonneg hx (EReal.inv_nonneg_of_nonneg hy.le)

theorem add_eps_pos {x : EReal} (hx : 0 ≤ x) : 0 < x + eps := lt_of_lt_of_le eps_pos (le_add_of_nonneg_left hx)

theorem sqrt_width_ne : Ideal.sqrt width ≠ 0 := by
  rw [width_eq]
  show (if (128 : ℝ) < 0 then (⊥ : EReal) else ((Real.sqrt 128 : ℝ) : EReal)) ≠ 0
  rw [if_neg (by norm_num)]
  exact_mod_cast (Real.sqrt_pos.mpr (by norm_num : (0 : ℝ) < 128)).ne'

/-! ## Matrices without negative entries -/

def Nonneg {a b : ℕ} (A : Mat a b) : Prop := ∀ i, 0 ≤ A i

theorem Nonneg.rowSum {a b : ℕ} {A : Mat a b} (h : Nonneg A) (r : Fin a) : 0 ≤ rowSum A r := Finset.sum_nonneg fun _ _ => h _
theorem Nonneg.colSum {a b : ℕ} {A : Mat a b} (h : Nonneg A) (k : Fin b) : 0 ≤ colSum A k := Finset.sum_nonneg fun _ _ => h _
theorem Nonneg.rowNorm {a b : ℕ} {A : Mat a b} (h : Nonneg A) : Nonneg (rowNorm A) := fun i => div_nonneg (h i) (add_eps_pos (h.rowSum _))
theorem Nonneg.colBy {a b : ℕ} {A : Mat a b} (h : Nonneg A) {s : Fin b → EReal} (hs : ∀ k, 0 ≤ s k) : Nonneg (colBy s A) :=
  fun i => div_nonneg (h i) (add_eps_pos (hs _))
theorem Nonneg.colNorm {a b : ℕ} {A : Mat a b} (h : Nonneg A) : Nonneg (colNorm A) := h.colBy h.colSum

theorem rowNorm_recip {a b : ℕ} {A : Mat a b} (h : Nonneg A) :
    (fun i => A i * Ideal.div one (rowSum A (i 0) + eps)) = rowNorm A :=
  funext fun i => mul_recip _ (add_eps_pos (h.rowSum _)).ne'

theorem colBy_recip {a b : ℕ} (A : Mat a b) {s : Fin b → EReal} (hs : ∀ k, 0 ≤ s k) :
    (fun i => A i * Ideal.div one (s (i 1) + eps)) = colBy s A :=
  funext fun i => mul_recip _ (add_eps_pos (hs _)).ne'

theorem scaled_recip {a b : ℕ} (S : Mat a b) : (fun i => S i * Ideal.div one (Ideal.sqrt width)) = scaled S :=
  funext fun i => mul_recip _ sqrt_width_ne

/-! ## The exponentials of real numbers -/

/-- The greatest of finitely many real numbers is real or, of none, infinitely small. -/
theorem fold_max_real {ι : Type} (s : Finset ι) (f : ι → ℝ) :
    s.fold max (⊥ : EReal) (fun i => (f i : EReal)) = ⊥ ∨ ∃ x : ℝ, s.fold max (⊥ : EReal) (fun i => (f i : EReal)) = (x : EReal) := by
  classical
  induction s using Finset.induction_on with
  | empty => exact .inl rfl
  | insert a s ha ih =>
    right
    rw [Finset.fold_insert ha]
    rcases ih with h | ⟨x, h⟩
    · exact ⟨f a, by rw [h]; exact max_bot_right _⟩
    · exact ⟨max (f a) x, by rw [h]; exact (EReal.coe_strictMono.monotone.map_max).symm⟩

theorem rowTop_real {a b : ℕ} {C : Mat a (b + 1)} (h : AllReal C) (r : Fin a) : ∃ x : ℝ, rowTop C r = (x : EReal) := by
  choose f hf using h
  have e : rowTop C r = (Finset.univ : Finset (Fin (b + 1))).fold max ⊥ fun k => ((f (ix2 r k) : ℝ) : EReal) := by
    unfold rowTop; congr 1; funext k; exact hf _
  rw [e]
  rcases fold_max_real Finset.univ fun k => f (ix2 r k) with h | h
  · exfalso
    have h1 : ((f (ix2 r 0) : ℝ) : EReal) ≤ (Finset.univ : Finset (Fin (b + 1))).fold max ⊥ fun k => ((f (ix2 r k) : ℝ) : EReal) :=
      Finset.le_fold_max _ |>.mpr (.inr ⟨0, Finset.mem_univ _, le_rfl⟩)
    rw [h, le_bot_iff] at h1
    exact EReal.coe_ne_bot _ h1
  · exact h

theorem weights_pos {a b : ℕ} {C : Mat a (b + 1)} (h : AllReal C) (i) : 0 < weights C i := by
  obtain ⟨x, hx⟩ := h i
  obtain ⟨y, hy⟩ := rowTop_real h (i 0)
  unfold weights
  rw [hx, hy, ← EReal.coe_sub]
  show (0 : EReal) < ((Real.exp (x - y) : ℝ) : EReal)
  exact_mod_cast Real.exp_pos _

theorem weights_sum_pos {a b : ℕ} {C : Mat a (b + 1)} (h : AllReal C) (r : Fin a) : 0 < rowSum (weights C) r :=
  lt_of_lt_of_le (weights_pos h (ix2 r 0))
    (Finset.single_le_sum (f := fun k : Fin (b + 1) => weights C (ix2 r k)) (fun k _ => (weights_pos h _).le) (Finset.mem_univ 0))

theorem nodes_pos : 0 < nodes := by rw [nodes_eq]; exact_mod_cast (by norm_num : (0 : ℝ) < 2048)

theorem start_nonneg {a b : ℕ} {C : Mat a (b + 1)} (h : AllReal C) : Nonneg (start C) := fun i =>
  div_nonneg (div_nonneg (weights_pos h i).le (weights_sum_pos h _)) nodes_pos

/-- The kernel multiplies by one reciprocal where the plan divides twice. -/
theorem start_recip {a b : ℕ} {C : Mat a (b + 1)} (h : AllReal C) :
    (fun i : (⟨2, ![a, b + 1]⟩ : Shape).Idx => weights C i * Ideal.div one (rowSum (a := a) (b := b + 1) (weights C) (i 0) * nodes)) = start C := by
  funext i
  have h1 := (weights_sum_pos h (i 0)).ne'
  have h2 := nodes_pos.ne'
  have h3 := (EReal.mul_pos (weights_sum_pos h (i 0)) nodes_pos).ne'
  rw [mul_recip _ h3]
  unfold start Ideal.div
  rw [if_neg h1, if_neg h2, if_neg h3, EReal.mul_inv, mul_assoc]

theorem level_nonneg {C : Mat 2048 2048} (h : AllReal C) : ∀ n, Nonneg (level C n)
  | 0 => (start_nonneg (b := 2047) h).rowNorm
  | n + 1 => (level_nonneg h n).colNorm.rowNorm

/-! ## The cost -/

theorem flip_prod {a k b : ℕ} (A : Mat a k) (B : Mat k b) : flip (prod A B) = prod (flip B) (flip A) :=
  funext fun i => by
    show ∑ l : Fin k, A (ix2 (i 1) l) * B (ix2 l (i 0)) = ∑ l : Fin k, B (ix2 l (i 0)) * A (ix2 (i 1) l)
    exact Finset.sum_congr rfl fun l _ => mul_comm _ _

theorem AllReal.flip {a b : ℕ} {A : Mat a b} (h : AllReal A) : AllReal (flip A) := fun i => h (ix2 (i 1) (i 0))

/-- The kernel multiplies the square matrix by its transpose first, then by the second network's rows. -/
theorem cost_regrouped {a b k : ℕ} {H : Mat a k} {K : Mat b k} {M : Mat k k} (hH : AllReal H) (hK : AllReal K) (hM : AllReal M) :
    scaled (prod H (flip (prod K (prod M (flip M))))) = cost H K M := by
  unfold cost
  rw [flip_prod, flip_prod, show flip (flip M) = M from funext fun i => congrArg M (eq_ix2 i).symm,
    prod_assoc hH hM (AllReal.flip hM), prod_assoc hH (hM.prod (AllReal.flip hM)) (AllReal.flip hK)]

theorem div_real {x : EReal} (hx : ∃ r : ℝ, x = (r : EReal)) {y : ℝ} (hy : y ≠ 0) : ∃ r : ℝ, Ideal.div x (y : EReal) = (r : EReal) := by
  obtain ⟨r, rfl⟩ := hx
  refine ⟨r * y⁻¹, ?_⟩
  unfold Ideal.div
  rw [if_neg (by exact_mod_cast hy), ← EReal.coe_inv, EReal.coe_mul]

theorem cost_real {a b k : ℕ} {H : Mat a k} {K : Mat b k} {M : Mat k k} (hH : AllReal H) (hK : AllReal K) (hM : AllReal M) :
    AllReal (cost H K M) := by
  intro i
  unfold cost scaled
  have e : Ideal.sqrt width = ((Real.sqrt 128 : ℝ) : EReal) := by
    rw [width_eq]
    show (if (128 : ℝ) < 0 then (⊥ : EReal) else ((Real.sqrt 128 : ℝ) : EReal)) = _
    rw [if_neg (by norm_num)]
  rw [e]
  exact div_real (((hH.prod hM).prod (AllReal.flip hM)).prod (AllReal.flip hK) i) (Real.sqrt_pos.mpr (by norm_num : (0 : ℝ) < 128)).ne'

/-! ## Row blocks -/

theorem rows_rowNorm (A : Mat 2048 2048) (t : Fin 4) : rows (rowNorm A) t = rowNorm (rows A t) := rfl
theorem rows_colBy (s : Fin 2048 → EReal) (A : Mat 2048 2048) (t : Fin 4) : rows (colBy s A) t = colBy s (rows A t) := rfl
theorem rows_start (C : Mat 2048 2048) (t : Fin 4) : rows (start C) t = start (rows C t) := rfl
theorem rows_cost (H K : Mat 2048 128) (M : Mat 128 128) (t : Fin 4) : rows (cost H K M) t = cost (rows H t) K M := rfl

theorem colSum_blocks (A : Mat 2048 2048) (k : Fin 2048) : colSum A k = ∑ t : Fin 4, colSum (rows A t) k := sum_rows fun r => A (ix2 r k)

/-! ## The marginals -/

theorem sum_mul_of_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

/-- A column's sum after it has been divided is the column's sum divided. -/
theorem colSum_colNorm {a b : ℕ} {A : Mat a b} (h : Nonneg A) (k : Fin b) : colSum (colNorm A) k = mass (colSum A k) := by
  have h0 := (add_eps_pos (h.colSum k)).ne'
  show ∑ r : Fin a, Ideal.div (A (ix2 r k)) (colSum A k + eps) = Ideal.div (colSum A k) (colSum A k + eps)
  unfold Ideal.div
  rw [if_neg h0]
  simp only [if_neg h0]
  exact sum_mul_of_nonneg _ _ (fun _ => h _) _

/-- What a marginal of the mass it should have adds is real. -/
theorem excess_real : ∃ x : ℝ, excess (Ideal.div one nodes) (Ideal.div one nodes) = (x : EReal) := by
  obtain ⟨t, ht, et⟩ : ∃ r : ℝ, 0 < r ∧ Ideal.ofBits .f32 0x2B8CBCCC#32 = (r : EReal) := by
    refine ⟨_, ?_, by simp [Ideal.ofBits, Ideal.ieee, -EReal.coe_mul]; rfl⟩
    norm_num
  obtain ⟨p, hp, ep⟩ : ∃ r : ℝ, 0 < r ∧ Ideal.div one nodes = (r : EReal) := by
    refine ⟨(2048 : ℝ)⁻¹, by norm_num, ?_⟩
    rw [← share_eq]; simp [Ideal.ofBits, Ideal.ieee, -EReal.coe_mul]; norm_num
  refine ⟨p * (Real.log (p + t) - p), ?_⟩
  unfold excess
  rw [ep, et, ← EReal.coe_add]
  have e : Ideal.log ((p + t : ℝ) : EReal) = ((Real.log (p + t) : ℝ) : EReal) := by
    show (if p + t ≤ 0 then (⊥ : EReal) else ((Real.log (p + t) : ℝ) : EReal)) = _
    rw [if_neg (by linarith)]
  rw [e, ← EReal.coe_sub, ← EReal.coe_mul]

/-- The mean of 2048 equal real numbers. -/
theorem mean_const {x : EReal} (hx : ∃ r : ℝ, x = (r : EReal)) : Ideal.div (∑ _k : Fin 2048, x) nodes = x := by
  obtain ⟨r, rfl⟩ := hx
  rw [← coe_sum, nodes_eq]
  have h0 : ((2048 : ℝ) : EReal) ≠ 0 := by exact_mod_cast (by norm_num : (2048 : ℝ) ≠ 0)
  unfold Ideal.div
  rw [if_neg h0, ← EReal.coe_inv, ← EReal.coe_mul]
  congr 1
  rw [Finset.sum_const, Finset.card_univ, Fintype.card_fin, nsmul_eq_mul]
  push_cast
  field_simp

/-! ## The three losses -/

/-- The alignment loss. -/
def alignTotal (n p : Fin 2048 → EReal) (H K : Mat 2048 128) (M : Mat 128 128) : EReal :=
  ∑ i, plan (cost H K M) i * dist n p H K i

/-- The marginal loss. -/
def marginTotal (H K : Mat 2048 128) (M : Mat 128 128) : EReal :=
  (Ideal.div (∑ k : Fin 2048, excess (Ideal.div one nodes) (mass (colSum (level (cost H K M) 2) k))) nodes
    - excess (Ideal.div one nodes) (Ideal.div one nodes)) * nodes

/-- The sparsity loss. -/
def sparseTotal (H K : Mat 2048 128) (M : Mat 128 128) : EReal := -(∑ i, entropy (plan (cost H K M) i))

end Cert.Sink

end
-- ==== Proof.Kernel3Ideal.Buffers.lean ====
/-
  Stores and loads on the transport call's buffers, and the rows of its scratch arrays each pass works on.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.WordCmp

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- Contents `s'` are contents `s` with the rectangle `r` overwritten by `p`. -/
def Put {S : Shape} {e : EltTy} (r : Rect S) (p : r.shape.Idx → Elt F e) (s s' : S.Idx → Elt F e) : Prop :=
  (∀ z, s' (r.emb z) = p z) ∧ ∀ y, y ∉ r.set → s' y = s y

/-- A store to a rectangle changes nothing outside it. -/
theorem put_writes {κ : Kind} {sp : Space} {S : Shape} {e : EltTy} (v : View sig κ sp S e) (f : v.ty.Contents (Elt F)) (r : Rect S)
    (p : r.shape.Idx → Elt F e) (s : S.Idx → Elt F e) (h : v.read (Elt F) f = s) :
    Put r p s (v.read (Elt F) (v.writes (Elt F) f [⟨r, p⟩])) := by
  subst h
  refine ⟨fun z => View.read_writes_cons_emb v f r p [] z, fun y hy => ?_⟩
  refine View.read_writes_apply_of_forall_not_mem v f y _ fun q hq => ?_
  obtain rfl := List.mem_singleton.mp hq
  exact hy

theorem zero2 : (![0, 0] : Fin 2 → ℕ) = fun _ => 0 := by decide
theorem zero3 : (![0, 0, 0] : Fin 3 → ℕ) = fun _ => 0 := by decide
theorem cell (i : S1x1.Idx) : i = ix2 0 0 := by
  have h0 : (i 0).val < 1 := (i 0).isLt
  have h1 : (i 1).val < 1 := (i 1).isLt
  exact (eq_ix2 i).trans (congrArg₂ ix2 (Fin.ext (by show (i 0).val = 0; omega)) (Fin.ext (by show (i 1).val = 0; omega)))

/-- A store over a whole buffer, done last, leaves its payload. -/
theorem read_whole {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hy := View.read_writes_cons_emb v f (Rect.whole S) w L y
  rw [Rect.emb_whole_apply] at hy
  exact hy

/-- A load of the rectangle the last store wrote reads what it wrote. -/
theorem covered {κ : Kind} {sp : Space} {S : Shape} {e : EltTy} (v : View sig κ sp S e) (r : Rect S) (p : r.shape.Idx → Elt F e)
    (L : List (View.Piece (Elt F) S e)) : v.readCov (⟨r, p⟩ :: L) r.toLoadRect = p := by
  unfold View.readCov
  rw [View.readAt_eq_ld]
  funext z
  exact View.read_writes_cons_emb v v.junk r p L z

/-- Two stores to one rectangle leave what the later one wrote. -/
theorem put_twice {κ : Kind} {sp : Space} {S : Shape} {e : EltTy} (v : View sig κ sp S e) (f : v.ty.Contents (Elt F)) (r : Rect S)
    (p q : r.shape.Idx → Elt F e) (s : S.Idx → Elt F e) (h : v.read (Elt F) f = s) :
    Put r p s (v.read (Elt F) (v.writes (Elt F) f [⟨r, p⟩, ⟨r, q⟩])) := by
  subst h
  refine ⟨fun z => View.read_writes_cons_emb v f r p [⟨r, q⟩] z, fun y hy => ?_⟩
  refine View.read_writes_apply_of_forall_not_mem v f y _ fun w hw => ?_
  rcases List.mem_cons.mp hw with rfl | hw
  · exact hy
  · obtain rfl := List.mem_singleton.mp hw
    exact hy

/-- The 512 rows of the transport scratch a point works on, in each pass. -/
abbrev rows1 (i : grid0.Coords) (h : k0_cond1 i = 1#1) : Rect S2048x2048 := Rect.unit (s := S2048x2048) (k0_off1 i) S512x2048.size (k0_off1_inb i h)
abbrev rows2 (i : grid0.Coords) (h : k0_cond3 i = 1#1) : Rect S2048x2048 := Rect.unit (s := S2048x2048) (k0_off2 i) S512x2048.size (k0_off2_inb i h)
abbrev rows3 (i : grid0.Coords) (h : k0_cond5 i = 1#1) : Rect S2048x2048 := Rect.unit (s := S2048x2048) (k0_off3 i) S512x2048.size (k0_off3_inb i h)
abbrev rows4 (i : grid0.Coords) (h : k0_cond7 i = 1#1) : Rect S2048x2048 := Rect.unit (s := S2048x2048) (k0_off4 i) S512x2048.size (k0_off4_inb i h)
/-- The row of column sums each of the first three passes adds up. -/
abbrev sums0 : Rect S8x2048 := Rect.unit (s := S8x2048) ![0, 0] S1x2048.size inb_S8x2048_S1x2048_0_0
abbrev sums1 : Rect S8x2048 := Rect.unit (s := S8x2048) ![1, 0] S1x2048.size inb_S8x2048_S1x2048_1_0
abbrev sums2 : Rect S8x2048 := Rect.unit (s := S8x2048) ![2, 0] S1x2048.size inb_S8x2048_S1x2048_2_0

/-- A point's part of the alignment sum, of the sparsity sum, and of the count of empty rows, added to what was there. -/
def alStep (cs : Vec F S1x2048 .f32) (a : Vec F S512x2048 .f32) (x1 : Vec F S1x512x128 .f32) (x2 : Vec F S1x2048x128 .f32) (x3 : Vec F S1x1x512 .f32)
    (x4 : Vec F S1x1x2048 .f32) (prev : Elt F .f32) : Elt F .f32 := k0_pay24 (k0_pay18 cs a) x3 x4 x1 x2 prev
def spStep (cs : Vec F S1x2048 .f32) (a : Vec F S512x2048 .f32) (prev : Elt F .f32) : Elt F .f32 := k0_pay10 (k0_pay18 cs a) prev (k0_pay25 (k0_pay18 cs a))
def badStep (cs : Vec F S1x2048 .f32) (a : Vec F S512x2048 .f32) (prev : Elt F .f32) : Elt F .f32 := k0_pay23 prev (k0_pay22 cs a)

end Cert.Kernel3Ideal.Sink

end
-- ==== Proof.SinkBlock.lean ====
/-
  What one step of the transport call computes, over the extended reals, in the terms of the plan: the first scaling of a
  row block, a further round of scaling, the sums of its columns, and the amounts it adds to the three losses.
-/
module

public import proofs.«01_k».proof.Proof.SinkMath
public import proofs.«01_k».proof.Proof.EncodeBlock
public import proofs.«01_k».proof.Proof.Kernel3Ideal.Buffers
public import Idealize.ShloMosaic.Lib.ValueLayout
public import Idealize.ShloMosaic.Lib.Pointwise.Reduce

@[expose] public section

noncomputable section

namespace Cert.Sink

open Idealize.ShloMosaic hiding ix0 ix1 ix2 ix3 eq_ix1 eq_ix2 eq_ix3
open Idealize.ShloMosaic.ValueIdx Cert.Align Cert.Encode Cert.Kernel3Ideal Cert.Kernel3Ideal.Gen
open scoped BigOperators

/-! ## Layout changes and reductions -/

/-- The sum of each column. -/
theorem colSums {a b : ℕ} (x : FVec Ideal ⟨2, ![a, b]⟩ .f32) (h : (⟨2, ![a, b]⟩ : Shape).Reduces [0] ⟨1, ![b]⟩)
    (hφ : FKind.Formats .f32) (hacc : (0x00000000#32 : BitVec FTy.f32.bits) = FKind.add.neutral .f32 hφ) :
    multiReduction .add [0] ⟨1, ![b]⟩ x 0x00000000#32 h hφ hacc = fun j => colSum x (j 0) :=
  funext fun j => Ideal.reduceAdd_r2_a0 h x j

theorem bottom_bits : Ideal.ofBits .f32 0xFF800000#32 = ⊥ := by simp [Ideal.ofBits, Ideal.ieee]

/-- The greatest entry of each row. -/
theorem rowTops {a b : ℕ} (x : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) :
    multiReduction .maximumf [1] ⟨1, ![a]⟩ x 0xFF800000#32 h hφ hacc = fun j => rowTop x (j 0) := by
  funext j
  show reduceFold h (max : EReal → EReal → EReal) (Ideal.ofBits .f32 0xFF800000#32) x j = _
  rw [reduceFold_eq_fold, Shape.Reduces.fold_fiber_r2_a1, bottom_bits]
  rfl

/-- A row repeated down the columns. -/
theorem repeatedRow {a b : ℕ} (M : Mat 1 b) (h : (⟨2, ![1, b]⟩ : Shape).Broadcasts ⟨2, ![a, b]⟩) :
    broadcastTo ⟨2, ![a, b]⟩ M h = fun i : (⟨2, ![a, b]⟩ : Shape).Idx => M (ix2 0 (i 1)) := by
  funext i
  obtain ⟨r, c, rfl⟩ : ∃ (r : Fin a) (c : Fin b), i = ix2 r c := ⟨i 0, i 1, eq_ix2 i⟩
  exact broadcastTo_1b_ab_apply M h r c

/-- A vector as a row. -/
theorem asRow {b : ℕ} (v : (⟨1, ![b]⟩ : Shape).Idx → EReal) (h : (⟨1, ![b]⟩ : Shape).ShapeCasts ⟨2, ![1, b]⟩) :
    shapeCast ⟨2, ![1, b]⟩ v h = fun i : (⟨2, ![1, b]⟩ : Shape).Idx => v (ix1 (i 1)) := by
  funext i
  obtain ⟨r, c, rfl⟩ : ∃ (r : Fin 1) (c : Fin b), i = ix2 r c := ⟨i 0, i 1, eq_ix2 i⟩
  exact shapeCast_a_1a_apply v h r c

/-- A row as a vector. -/
theorem fromRow {b : ℕ} (v : Mat 1 b) (h : (⟨2, ![1, b]⟩ : Shape).ShapeCasts ⟨1, ![b]⟩) :
    shapeCast ⟨1, ![b]⟩ v h = fun i : (⟨1, ![b]⟩ : Shape).Idx => v (ix2 0 (i 0)) := by
  funext i
  obtain ⟨c, rfl⟩ : ∃ c : Fin b, i = ix1 c := ⟨i 0, eq_ix1 i⟩
  exact shapeCast_1a_a_apply v h c

/-- The one line of an array of shape `[1, 1, b]`. -/
def line {b : ℕ} (x : (⟨3, ![1, 1, b]⟩ : Shape).Idx → EReal) (k : Fin b) : EReal := x (ix3 0 0 k)

theorem squeeze_line {b : ℕ} (x : (⟨3, ![1, 1, b]⟩ : Shape).Idx → EReal)
    (h : (⟨3, ![1, 1, b]⟩ : Shape).ShapeCasts ⟨1, ![b]⟩) :
    shapeCast ⟨1, ![b]⟩ x h = fun i : (⟨1, ![b]⟩ : Shape).Idx => line x (i 0) := by
  funext i
  refine shapeCast_apply x h i _ ?_
  rw [Shape.rowMajor_val_one, Shape.rowMajor_val_three]
  show (0 * 1 + 0) * b + (i 0 : Nat) = (i 0 : Nat)
  simp

theorem rowSums_512 (x : FVec Ideal S512x2048 .f32) :
    multiReduction .add [1] S512 x 0x00000000#32 reduces_S512x2048_S512 (.inl rfl) rfl
      = fun j : S512.Idx => rowSum (a := 512) (b := 2048) x (j 0) := rowSums (a := 512) (b := 2048) x _ _ _

theorem rowTops_512 (x : FVec Ideal S512x2048 .f32) :
    multiReduction .maximumf [1] S512 x 0xFF800000#32 reduces_S512x2048_S512 (.inl rfl) rfl
      = fun j : S512.Idx => rowTop (a := 512) (b := 2048) x (j 0) := rowTops (a := 512) (b := 2048) x _ _ _

theorem colSums_512 (x : FVec Ideal S512x2048 .f32) :
    multiReduction .add [0] S2048 x 0x00000000#32 reduces_S512x2048_S2048 (.inl rfl) rfl
      = fun j : S2048.Idx => colSum (a := 512) (b := 2048) x (j 0) := colSums (a := 512) (b := 2048) x _ _ _

/-! ## The scaling -/

theorem col_step (a : Vec Ideal S512x2048 .f32) (c : Vec Ideal S1x2048 .f32) (hc : ∀ i, 0 ≤ c i) :
    mulf a (broadcastTo S512x2048 (divf (broadcast S1x2048 (Scalar.ofBits (F := Ideal) .f32 0x3F800000#32))
      (addf c (broadcast S1x2048 (Scalar.ofBits (F := Ideal) .f32 0x322BCC77#32)))) broadcasts_S1x2048_S512x2048)
      = colBy (a := 512) (b := 2048) (fun k => c (ix2 0 k)) a := by
  rw [repeatedRow (a := 512) (b := 2048)]
  exact colBy_recip (a := 512) (b := 2048) a fun k => hc _

theorem row_step (A : Mat 512 2048) (hA : Nonneg A) :
    mulf (F := Ideal) (φ := .f32) A (broadcastTo S512x2048 (divf (broadcast S512x1 (Scalar.ofBits (F := Ideal) .f32 0x3F800000#32))
      (addf (shapeCast S512x1 (multiReduction (F := Ideal) .add [1] S512 A 0x00000000#32 reduces_S512x2048_S512 (.inl rfl) rfl) shapeCasts_S512_S512x1)
        (broadcast S512x1 (Scalar.ofBits (F := Ideal) .f32 0x322BCC77#32)))) broadcasts_S512x1_S512x2048)
      = rowNorm A := by
  rw [rowSums_512, column (a := 512), repeated (a := 512) (b := 2048) _ _ (by decide)]
  exact rowNorm_recip hA

theorem target_block (M : Vec Ideal S128x128 .f32) (K : Vec Ideal S1x2048x128 .f32) :
    k0_pay12 M M K = prod (slab (a := 2048) (b := 128) K) (prod (M : Mat 128 128) (flip (M : Mat 128 128))) := by
  unfold k0_pay12
  dsimp only
  rw [shapeCast_self, shapeCast_self, squeeze_slab (a := 2048) (b := 128)]
  refine (matmul_plain (a := 2048) (k := 128) (b := 128) _ rfl _ _ _).trans ?_
  exact congrArg _ (matmul_right (a := 128) (k := 128) (b := 128) _ rfl _ _ _)

theorem first_pass (X : Vec Ideal S1x512x128 .f32) (G : Vec Ideal S2048x128 .f32) (C : Mat 512 2048) (hC : AllReal C)
    (e : scaled (prod (slab (a := 512) (b := 128) X) (flip (G : Mat 2048 128))) = C) : k0_pay13 X G = rowNorm (start C) := by
  have e1 := matmul_right (a := 512) (k := 128) (b := 2048) (φ₁ := .f32) (φ₂ := .f32) dot_S512x128_S2048x128_S512x2048_1_1_0_0_n_n rfl (some .fp32)
    (slab (a := 512) (b := 128) X : FVec Ideal S512x128 .f32) G
  have e2 : mulf (F := Ideal) (φ := .f32) (prod (slab (a := 512) (b := 128) X) (flip (G : Mat 2048 128)))
      (broadcast S512x2048 (Scalar.divf (Scalar.ofBits (F := Ideal) .f32 0x3F800000#32) (Scalar.sqrt (Scalar.ofBits (F := Ideal) .f32 0x43000000#32)))) = C :=
    (scaled_recip _).trans e
  unfold k0_pay13
  dsimp only
  rw [squeeze_slab (a := 512) (b := 128)]
  erw [e1, e2]
  rw [rowTops_512, column (a := 512), repeated (a := 512) (b := 2048) _ _ (by decide)]
  have e3 : exp (F := Ideal) (φ := .f32) (subf (F := Ideal) (φ := .f32) C (fun i : S512x2048.Idx => rowTop C (i 0))) = weights C := rfl
  erw [e3]
  rw [rowSums_512, column (a := 512), repeated (a := 512) (b := 2048) _ _ (by decide)]
  have e4 : mulf (F := Ideal) (φ := .f32) (weights C) (fun i : S512x2048.Idx => Ideal.div one (rowSum (weights C) (i 0) * nodes)) = start C :=
    start_recip (a := 512) (b := 2047) hC
  erw [e4]
  exact row_step _ (start_nonneg (a := 512) (b := 2047) hC)

theorem first_stored (X : Vec Ideal S1x512x128 .f32) (G : Vec Ideal S2048x128 .f32) : k0_pay14 X G = k0_pay13 X G := by
  unfold k0_pay14; dsimp only; rw [shapeCast_self]

theorem next_pass (a : Vec Ideal S512x2048 .f32) (c : Vec Ideal S1x2048 .f32) (ha : Nonneg (a := 512) (b := 2048) a) (hc : ∀ i, 0 ≤ c i) :
    k0_pay3 a c = rowNorm (colBy (a := 512) (b := 2048) (fun k => c (ix2 0 k)) a) := by
  unfold k0_pay3
  dsimp only
  rw [col_step a c hc]
  exact row_step _ (ha.colBy fun k => hc _)

theorem next_stored (a : Vec Ideal S512x2048 .f32) (c : Vec Ideal S1x2048 .f32) : k0_pay4 a c = k0_pay3 a c := by
  unfold k0_pay4; dsimp only; rw [shapeCast_self]

theorem last_cols (c : Vec Ideal S1x2048 .f32) (a : Vec Ideal S512x2048 .f32) (hc : ∀ i, 0 ≤ c i) :
    k0_pay18 c a = colBy (a := 512) (b := 2048) (fun k => c (ix2 0 k)) a := by
  unfold k0_pay18
  dsimp only
  exact col_step a c hc

/-! ## The sums of the columns -/

theorem no_sums : (k0_pay11 (F := Ideal) : Vec Ideal S1x2048 .f32) = fun _ => 0 := by
  unfold k0_pay11; dsimp only; rw [shapeCast_self]; exact funext fun _ => Ideal.ofBits_zero_f32

theorem no_sums' : (k0_pay2 (F := Ideal) : Vec Ideal S1x2048 .f32) = fun _ => 0 := by
  unfold k0_pay2; dsimp only; rw [shapeCast_self]; exact funext fun _ => Ideal.ofBits_zero_f32

theorem add_sums (A : Vec Ideal S512x2048 .f32) (s : Vec Ideal S1x2048 .f32) :
    k0_pay1 A s = fun i => s i + colSum (a := 512) (b := 2048) A (i 1) := by
  unfold k0_pay1
  dsimp only
  rw [shapeCast_self, colSums_512, asRow (b := 2048)]
  rfl

theorem next_sums (a : Vec Ideal S512x2048 .f32) (c s : Vec Ideal S1x2048 .f32) :
    k0_pay5 a c s = fun i => s i + colSum (a := 512) (b := 2048) (k0_pay3 a c) (i 1) := by
  unfold k0_pay5
  dsimp only
  rw [shapeCast_self, colSums_512, asRow (b := 2048)]
  rfl

/-! ## The losses -/

theorem margin_block (c : Vec Ideal S1x2048 .f32) :
    k0_pay16 (F := Ideal) c = ∑ k : Fin 2048, excess (Ideal.div one nodes) (mass (c (ix2 0 k))) := by
  unfold k0_pay16 k0_pay15
  dsimp only
  refine (vectorTotal (a := 2048) _ _ _ _ _ _ _).trans ?_
  rw [fromRow (b := 2048), ← share_eq]
  rfl

theorem entropy_block (A : Vec Ideal S512x2048 .f32) (p : EReal) : k0_pay10 (F := Ideal) A p (k0_pay25 A) = p + ∑ i, entropy (A i) := by
  unfold k0_pay10 k0_pay25
  dsimp only
  exact congrArg (p + ·) (blockTotal (a := 512) (b := 2048) _ _ _ _ _ _ _)

theorem align_block (A : Vec Ideal S512x2048 .f32) (n : Vec Ideal S1x1x512 .f32) (q : Vec Ideal S1x1x2048 .f32)
    (X : Vec Ideal S1x512x128 .f32) (Y : Vec Ideal S1x2048x128 .f32) (p : EReal) :
    k0_pay24 (F := Ideal) A n q X Y p = p + ∑ i, A i * dist (line n) (line q) (slab (a := 512) (b := 128) X) (slab (a := 2048) (b := 128) Y) i := by
  have e1 := matmul_right (a := 512) (k := 128) (b := 2048) (φ₁ := .f32) (φ₂ := .f32) dot_S512x128_S2048x128_S512x2048_1_1_0_0_n_n rfl (some .fp32)
    (slab (a := 512) (b := 128) X : FVec Ideal S512x128 .f32) (slab (a := 2048) (b := 128) Y : FVec Ideal S2048x128 .f32)
  unfold k0_pay24
  dsimp only
  rw [squeeze_slab (a := 512) (b := 128), squeeze_slab (a := 2048) (b := 128), squeeze_line (b := 512), squeeze_line (b := 2048),
    column (a := 512), repeated (a := 512) (b := 2048) _ _ (by decide), asRow (b := 2048), repeatedRow (a := 512) (b := 2048)]
  refine (congrArg (p + ·) (blockTotal (a := 512) (b := 2048) _ _ _ _ _ _ _)).trans ?_
  erw [e1]
  rfl

end Cert.Sink

end
-- ==== Proof.Kernel3Ideal.Data.lean ====
/-
  The transport call's proof data: what its scratch arrays and result blocks hold after each of the sixteen points. The grid
  runs four passes of four points; pass `k < 3` rewrites the plan block by block and adds up the column sums of what it wrote.
-/
module

public import proofs.«01_k».proof.Proof.Kernel3Ideal.Buffers

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` reads at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ### The points -/

theorem isP0 : ∀ t : Fin cfg0.N, k0_cond1 (grid0.coords t) = 1#1 ↔ t.val / 4 = 0 := by decide +kernel
theorem isP1 : ∀ t : Fin cfg0.N, k0_cond3 (grid0.coords t) = 1#1 ↔ t.val / 4 = 1 := by decide +kernel
theorem isP2 : ∀ t : Fin cfg0.N, k0_cond5 (grid0.coords t) = 1#1 ↔ t.val / 4 = 2 := by decide +kernel
theorem isP3 : ∀ t : Fin cfg0.N, k0_cond7 (grid0.coords t) = 1#1 ↔ t.val / 4 = 3 := by decide +kernel
theorem isFirst : ∀ t : Fin cfg0.N, k0_cond8 (grid0.coords t) = 1#1 ↔ t.val % 4 = 0 := by decide +kernel
theorem off1 : ∀ t : Fin cfg0.N, k0_off1 (grid0.coords t) 0 = 512 * (t.val % 4) ∧ k0_off1 (grid0.coords t) 1 = 0 := by decide +kernel
theorem off2 : ∀ t : Fin cfg0.N, k0_off2 (grid0.coords t) 0 = 512 * (t.val % 4) ∧ k0_off2 (grid0.coords t) 1 = 0 := by decide +kernel
theorem off3 : ∀ t : Fin cfg0.N, k0_off3 (grid0.coords t) 0 = 512 * (t.val % 4) ∧ k0_off3 (grid0.coords t) 1 = 0 := by decide +kernel
theorem off4 : ∀ t : Fin cfg0.N, k0_off4 (grid0.coords t) 0 = 512 * (t.val % 4) ∧ k0_off4 (grid0.coords t) 1 = 0 := by decide +kernel

def pt (n : ℕ) : Fin cfg0.N := ⟨n % 16, lt_of_lt_of_eq (Nat.mod_lt _ (by decide)) N_0.symm⟩
theorem lt16 (t : Fin cfg0.N) : t.val < 16 := lt_of_lt_of_eq t.isLt N_0
theorem pt_of (t : Fin cfg0.N) {n : ℕ} (h : n = t.val) : pt n = t := by
  subst h; exact Fin.ext (Nat.mod_eq_of_lt (lt16 t))
def row512 (n : ℕ) : Fin 512 := ⟨n % 512, Nat.mod_lt _ (by decide)⟩

/-! ### The scratch arrays -/

/-- The target's product with the map and its transpose. -/
def target (c : Dev nD) : Vec F S2048x128 .f32 := k0_pay12 (iblk V c 0 (pt 0)) (iblk V c 0 (pt 0)) (iblk V c 2 (pt 0))

/-- After pass `k`: the four row blocks of the plan, and the sums of the columns over the first so many blocks. -/
def level (c : Dev nD) : ℕ → (ℕ → Vec F S512x2048 .f32) × (ℕ → Vec F S1x2048 .f32)
  | 0 => (fun b => k0_pay14 (iblk V c 1 (pt b)) (target V c),
      fun n => Nat.rec (motive := fun _ => Vec F S1x2048 .f32) k0_pay11 (fun b s => k0_pay1 (k0_pay13 (iblk V c 1 (pt b)) (target V c)) s) n)
  | k + 1 => (fun b => k0_pay4 ((level c k).1 b) ((level c k).2 4),
      fun n => Nat.rec (motive := fun _ => Vec F S1x2048 .f32) k0_pay2 (fun b s => k0_pay5 ((level c k).1 b) ((level c k).2 4) s) n)

/-- Before point `n` block `b` of the plan has been through `(n + 3 - b) / 4` passes, at most three. -/
def KnowA (c : Dev nD) (n : ℕ) (s : Vec F S2048x2048 .f32) : Prop :=
  ∀ y k, min 3 ((n + 3 - (y 0).val / 512) / 4) = k + 1 → s y = (level V c k).1 ((y 0).val / 512) (ix2 (row512 (y 0).val) (y 1))
/-- Row `r` of the sums covers the blocks pass `r` has been through. -/
def KnowC (c : Dev nD) (n : ℕ) (s : Vec F S8x2048 .f32) : Prop :=
  ∀ (y : S8x2048.Idx), (y 0).val < 3 → 4 * (y 0).val < n → s y = (level V c (y 0).val).2 (min 4 (n - 4 * (y 0).val)) (ix2 0 (y 1))
def KnowG (c : Dev nD) (n : ℕ) (s : Vec F S2048x128 .f32) : Prop := n ≠ 0 → s = target V c

variable {V}
theorem KnowA.step {c : Dev nD} {t : Fin cfg0.N} {s s' : Vec F S2048x2048 .f32} (h : KnowA V c t.val s) (hp : t.val / 4 < 3)
    {off : Fin 2 → ℕ} (inb : ∀ a, off a + S512x2048.size a ≤ S2048x2048.size a) (h0 : off 0 = 512 * (t.val % 4) ∧ off 1 = 0)
    (p : Vec F S512x2048 .f32) (e : p = (level V c (t.val / 4)).1 (t.val % 4))
    (hs : Put (Rect.unit (s := S2048x2048) off S512x2048.size inb) p s s') : KnowA V c (t.val + 1) s' := by
  intro y k hk
  have hy : (y 0).val < 2048 := (y 0).isLt
  by_cases hb : (y 0).val / 512 = t.val % 4
  · have ey : (Rect.unit (s := S2048x2048) off S512x2048.size inb).emb (ix2 (row512 (y 0).val) (y 1)) = y := by
      funext a; apply Fin.ext
      match a with
      | ⟨0, _⟩ => show off 0 + 1 * ((y 0).val % 512) = (y 0).val; rw [h0.1]; omega
      | ⟨1, _⟩ => show off 1 + 1 * (y 1).val = (y 1).val; rw [h0.2]; omega
    have hk' : k = t.val / 4 := by omega
    rw [← ey, hs.1, e, ey, hb, hk']
  · have hne : y ∉ (Rect.unit (s := S2048x2048) off S512x2048.size inb).set := by
      intro hm
      obtain ⟨j, hj', hj⟩ := (LoadRect.mem_set _).mp hm 0
      have hj2 : j < 512 := hj'
      have e0 : (y 0).val = off 0 + 1 * j := hj
      rw [h0.1] at e0; omega
    rw [hs.2 y hne]
    exact h y k (by omega)

/-- From the last pass on the plan's blocks stay. -/
theorem KnowA.stay {c : Dev nD} {n : ℕ} {s : Vec F S2048x2048 .f32} (h : KnowA V c n s) (hn : 12 ≤ n) : KnowA V c (n + 1) s := by
  intro y k hk
  have hy : (y 0).val < 2048 := (y 0).isLt
  exact h y k (by omega)

/-- A point finds its block as the pass before left it. -/
theorem KnowA.ld {c : Dev nD} {t : Fin cfg0.N} {s : Vec F S2048x2048 .f32} (h : KnowA V c t.val s) (k : ℕ) (hk : t.val / 4 = k + 1)
    {off : Fin 2 → ℕ} (inb : ∀ a, off a + S512x2048.size a ≤ S2048x2048.size a) (h0 : off 0 = 512 * (t.val % 4) ∧ off 1 = 0) :
    View.ld s (Rect.unit (s := S2048x2048) off S512x2048.size inb) = (level V c k).1 (t.val % 4) := by
  have ht := lt16 t
  funext z
  have hz : (z 0).val < 512 := (z 0).isLt
  have e0 : ((Rect.unit (s := S2048x2048) off S512x2048.size inb).emb z 0).val = 512 * (t.val % 4) + (z 0).val := by
    show off 0 + 1 * (z 0).val = _; rw [h0.1]; omega
  have hd : ((Rect.unit (s := S2048x2048) off S512x2048.size inb).emb z 0).val / 512 = t.val % 4 := by rw [e0]; omega
  refine (h ((Rect.unit (s := S2048x2048) off S512x2048.size inb).emb z) k (by rw [hd]; omega)).trans ?_
  rw [hd]
  refine congrArg _ ((congrArg₂ ix2 (Fin.ext ?_) (Fin.ext ?_)).trans (eq_ix2 z).symm)
  · show ((Rect.unit (s := S2048x2048) off S512x2048.size inb).emb z 0).val % 512 = (z 0).val; rw [e0]; omega
  · show off 1 + 1 * (z 1).val = (z 1).val; rw [h0.2]; omega

theorem KnowC.step {c : Dev nD} {t : Fin cfg0.N} {s s' : Vec F S8x2048 .f32} (h : KnowC V c t.val s)
    (r : ℕ) (hr : t.val / 4 = r) (inb : ∀ a, (![r, 0] : Fin 2 → ℕ) a + S1x2048.size a ≤ S8x2048.size a)
    (p : Vec F S1x2048 .f32) (e : p = (level V c r).2 (t.val % 4 + 1))
    (hs : Put (Rect.unit (s := S8x2048) ![r, 0] S1x2048.size inb) p s s') : KnowC V c (t.val + 1) s' := by
  intro y hy hn
  by_cases hb : (y 0).val = r
  · have ey : (Rect.unit (s := S8x2048) ![r, 0] S1x2048.size inb).emb (ix2 0 (y 1)) = y := by
      funext a; apply Fin.ext
      match a with
      | ⟨0, _⟩ => show r + 1 * 0 = (y 0).val; omega
      | ⟨1, _⟩ => show 0 + 1 * (y 1).val = (y 1).val; omega
    rw [show min 4 (t.val + 1 - 4 * (y 0).val) = t.val % 4 + 1 by omega, hb, ← e, ← hs.1, ey]
  · have hne : y ∉ (Rect.unit (s := S8x2048) ![r, 0] S1x2048.size inb).set := by
      intro hm
      obtain ⟨j, hj', hj⟩ := (LoadRect.mem_set _).mp hm 0
      have hj2 : j < 1 := hj'
      have e0 : (y 0).val = r + 1 * j := hj
      omega
    rw [hs.2 y hne, h y hy (by omega), show min 4 (t.val + 1 - 4 * (y 0).val) = min 4 (t.val - 4 * (y 0).val) by omega]

theorem KnowC.stay {c : Dev nD} {n : ℕ} {s : Vec F S8x2048 .f32} (h : KnowC V c n s) (hn : 12 ≤ n) : KnowC V c (n + 1) s := by
  intro y hy hn'
  rw [h y hy (by omega), show min 4 (n + 1 - 4 * (y 0).val) = min 4 (n - 4 * (y 0).val) by omega]

theorem KnowC.ld {c : Dev nD} {n : ℕ} {s : Vec F S8x2048 .f32} (h : KnowC V c n s) (r : ℕ) (hr : r < 3) (hn : 4 * r < n) (b : ℕ) (hb : min 4 (n - 4 * r) = b)
    (inb : ∀ a, (![r, 0] : Fin 2 → ℕ) a + S1x2048.size a ≤ S8x2048.size a) :
    View.ld s (Rect.unit (s := S8x2048) ![r, 0] S1x2048.size inb) = (level V c r).2 b := by
  funext z
  have hz : (z 0).val < 1 := (z 0).isLt
  have e0 : ((Rect.unit (s := S8x2048) ![r, 0] S1x2048.size inb).emb z 0).val = r := by show r + 1 * (z 0).val = r; omega
  refine (h ((Rect.unit (s := S8x2048) ![r, 0] S1x2048.size inb).emb z) (by rw [e0]; exact hr) (by rw [e0]; exact hn)).trans ?_
  rw [e0, hb]
  refine congrArg _ ((congrArg₂ ix2 (Fin.ext ?_) (Fin.ext ?_)).trans (eq_ix2 z).symm)
  · show 0 = (z 0).val; omega
  · show 0 + 1 * (z 1).val = (z 1).val; omega
variable (V)

/-! ### The results of the last pass -/

/-- The last column sums, and block `b` of the plan before its last division. -/
abbrev lastSums (c : Dev nD) : Vec F S1x2048 .f32 := (level V c 2).2 4
abbrev lastBlock (c : Dev nD) (b : ℕ) : Vec F S512x2048 .f32 := (level V c 2).1 b
/-- The running sums after block `b` of the last pass. -/
def alAt (c : Dev nD) : ℕ → Elt F .f32
  | 0 => alStep (lastSums V c) (lastBlock V c 0) (iblk V c 1 (pt 12)) (iblk V c 2 (pt 12)) (iblk V c 3 (pt 12)) (iblk V c 4 (pt 12)) (FloatOps.ofBits .f32 0x00000000#32)
  | b + 1 => alStep (lastSums V c) (lastBlock V c (b + 1)) (iblk V c 1 (pt (b + 13))) (iblk V c 2 (pt (b + 13))) (iblk V c 3 (pt (b + 13))) (iblk V c 4 (pt (b + 13))) (alAt c b)
def spAt (c : Dev nD) : ℕ → Elt F .f32
  | 0 => spStep (lastSums V c) (lastBlock V c 0) (FloatOps.ofBits .f32 0x00000000#32)
  | b + 1 => spStep (lastSums V c) (lastBlock V c (b + 1)) (spAt c b)
def badAt (c : Dev nD) : ℕ → Elt F .f32
  | 0 => badStep (lastSums V c) (lastBlock V c 0) (k0_pay17 (lastSums V c))
  | b + 1 => badStep (lastSums V c) (lastBlock V c (b + 1)) (badAt c b)

abbrev scA : Memref sig .tc .vmem S2048x2048 .f32 := Memref.whole cc0_scratch0
abbrev scC : Memref sig .tc .vmem S8x2048 .f32 := Memref.whole cc0_scratch1
abbrev scG : Memref sig .tc .vmem S2048x128 .f32 := Memref.whole cc0_scratch2

/-- What holds between two points. -/
def between (c : Dev nD) (n : ℕ) : sProp 𝕄 :=
  iprop((∃ s, ⌜KnowA V c n s⌝ ∗ owns (c : Thread nD τ) scA fullShare s) ∗ (∃ s, ⌜KnowC V c n s⌝ ∗ owns (c : Thread nD τ) scC fullShare s)
    ∗ (∃ s, ⌜KnowG V c n s⌝ ∗ owns (c : Thread nD τ) scG fullShare s) ∗ (∃ r, prngReg c r))

/-- The transport call's data. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay20 (lastSums V c) (lastBlock V c (t.val % 4))
    | ⟨6, _⟩ => k0_pay21 (lastSums V c) (lastBlock V c (t.val % 4))
    | ⟨7, _⟩ => fun _ => alAt V c (t.val - 12)
    | ⟨8, _⟩ => fun _ => spAt V c (t.val - 12)
    | ⟨9, _⟩ => fun _ => k0_pay16 (lastSums V c)
    | ⟨10, _⟩ => fun _ => badAt V c (t.val - 12)
  Φ n := between V c n.val
  q w := Pipeline.shareOf spec0 w
  owed _ := 0

theorem A_eq0 (c : Dev nD) (w : Fin cfg0.W) : (dat0 V c).A w = V c (Pipeline.arrRef spec0 w) := by dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = k0_pay20 (lastSums V c) (lastBlock V c (t.val % 4)) := by dsimp only [dat0]
theorem after_6 (c : Dev nD) (t : Fin cfg0.N) : (dat0 V c).after 6 t = k0_pay21 (lastSums V c) (lastBlock V c (t.val % 4)) := by dsimp only [dat0]
theorem after_7 (c : Dev nD) (t : Fin cfg0.N) : (dat0 V c).after 7 t = fun _ => alAt V c (t.val - 12) := by dsimp only [dat0]
theorem after_8 (c : Dev nD) (t : Fin cfg0.N) : (dat0 V c).after 8 t = fun _ => spAt V c (t.val - 12) := by dsimp only [dat0]
theorem after_9 (c : Dev nD) (t : Fin cfg0.N) : (dat0 V c).after 9 t = fun _ => k0_pay16 (lastSums V c) := by dsimp only [dat0]
theorem after_10 (c : Dev nD) (t : Fin cfg0.N) : (dat0 V c).after 10 t = fun _ => badAt V c (t.val - 12) := by dsimp only [dat0]
theorem before_0 (c : Dev nD) (t : Fin cfg0.N) (d) : (dat0 V c).before 0 t d = iblk V c 0 t :=
  found_0 V (dat0 V c) (A_eq0 V c 0) (after_0 V c) t d
theorem before_1 (c : Dev nD) (t : Fin cfg0.N) (d) : (dat0 V c).before 1 t d = iblk V c 1 t :=
  found_1 V (dat0 V c) (A_eq0 V c 1) (after_1 V c) t d
theorem before_2 (c : Dev nD) (t : Fin cfg0.N) (d) : (dat0 V c).before 2 t d = iblk V c 2 t :=
  found_2 V (dat0 V c) (A_eq0 V c 2) (after_2 V c) t d
theorem before_3 (c : Dev nD) (t : Fin cfg0.N) (d) : (dat0 V c).before 3 t d = iblk V c 3 t :=
  found_3 V (dat0 V c) (A_eq0 V c 3) (after_3 V c) t d
theorem before_4 (c : Dev nD) (t : Fin cfg0.N) (d) : (dat0 V c).before 4 t d = iblk V c 4 t :=
  found_4 V (dat0 V c) (A_eq0 V c 4) (after_4 V c) t d

/-! ### Which points leave a result window alone, and where it is written back -/

/-- After a point that stores to a window, not followed by a write-back, the next point finds what it left. -/
theorem found_after (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hlive : cfg0.idle w (cfg0.grid.coords (⟨t.val - 1, Nat.lt_of_le_of_lt (Nat.sub_le _ _) t.isLt⟩ : Fin cfg0.N)) = false)
    (hclip : ∀ (i : cfg0.grid.Coords) a, (cfg0.win w).clip i a = none) (d) :
    (dat0 V c).before w t d = (dat0 V c).after w ⟨t.val - 1, Nat.lt_of_le_of_lt (Nat.sub_le _ _) t.isLt⟩ := by
  rw [Dat.before_of_pos _ w t ht ((cfg0.win w).fetch_out hw t), hfl, if_neg Bool.false_ne_true]
  unfold Dat.left; rw [hlive]
  show (dat0 V c).kept w _ d = _
  unfold Dat.kept
  rw [Pipeline.fill_of_clip_none w _ (hclip _) d ((dat0 V c).after w _), Window.fill_cut]

/-- After a point that leaves the window alone, the next finds what that one found. -/
theorem found_before (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hidle : cfg0.idle w (cfg0.grid.coords (⟨t.val - 1, Nat.lt_of_le_of_lt (Nat.sub_le _ _) t.isLt⟩ : Fin cfg0.N)) = true) (d) :
    (dat0 V c).before w t d = (dat0 V c).before w ⟨t.val - 1, Nat.lt_of_le_of_lt (Nat.sub_le _ _) t.isLt⟩ d := by
  rw [Dat.before_of_pos _ w t ht ((cfg0.win w).fetch_out hw t), hfl, if_neg Bool.false_ne_true]
  unfold Dat.left; rw [hidle]

theorem idle5 : ∀ t : Fin cfg0.N, cfg0.idle 5 (grid0.coords t) = decide (t.val < 12) := by decide +kernel
theorem idle6 : ∀ t : Fin cfg0.N, cfg0.idle 6 (grid0.coords t) = decide (t.val < 12) := by decide +kernel
theorem idle7 : ∀ t : Fin cfg0.N, cfg0.idle 7 (grid0.coords t) = decide (t.val < 12) := by decide +kernel
theorem idle8 : ∀ t : Fin cfg0.N, cfg0.idle 8 (grid0.coords t) = decide (t.val < 12) := by decide +kernel
theorem idle10 : ∀ t : Fin cfg0.N, cfg0.idle 10 (grid0.coords t) = decide (t.val < 12) := by decide +kernel
theorem idle9 : ∀ t : Fin cfg0.N, cfg0.idle 9 (grid0.coords t) = decide (t.val ≠ 12) := by decide +kernel
theorem flush5 : ∀ t : Fin cfg0.N, t.val < 12 → (cfg0.win 5).flush t = false := by decide +kernel
theorem flush6 : ∀ t : Fin cfg0.N, t.val < 12 → (cfg0.win 6).flush t = false := by decide +kernel
theorem flush7 (t : Fin cfg0.N) (h : t.val < 15) : (cfg0.win 7).flush t = false :=
  Bool.eq_false_iff.mpr fun e => by have := (flush0_7 t).mp e; omega
theorem flush8 (t : Fin cfg0.N) (h : t.val < 15) : (cfg0.win 8).flush t = false :=
  Bool.eq_false_iff.mpr fun e => by have := (flush0_8 t).mp e; omega
theorem flush9 (t : Fin cfg0.N) (h : t.val < 15) : (cfg0.win 9).flush t = false :=
  Bool.eq_false_iff.mpr fun e => by have := (flush0_9 t).mp e; omega
theorem flush10 (t : Fin cfg0.N) (h : t.val < 15) : (cfg0.win 10).flush t = false :=
  Bool.eq_false_iff.mpr fun e => by have := (flush0_10 t).mp e; omega
theorem kept7 (c : Dev nD) (t : Fin cfg0.N) (h : 13 ≤ t.val) (d) : (dat0 V c).before 7 t d = fun _ => alAt V c (t.val - 13) := by
  have hN := lt16 t
  refine (found_after V c 7 rfl t (by omega) (flush7 _ (by show t.val - 1 < 15; omega)) ?_ (fun _ _ => rfl) d).trans ?_
  · refine (idle7 _).trans ?_
    simp only [decide_eq_false_iff_not]; show ¬ t.val - 1 < 12; omega
  · rw [after_7]; funext _
    show alAt V c (t.val - 1 - 12) = _
    rw [show t.val - 1 - 12 = t.val - 13 by omega]
theorem kept8 (c : Dev nD) (t : Fin cfg0.N) (h : 13 ≤ t.val) (d) : (dat0 V c).before 8 t d = fun _ => spAt V c (t.val - 13) := by
  have hN := lt16 t
  refine (found_after V c 8 rfl t (by omega) (flush8 _ (by show t.val - 1 < 15; omega)) ?_ (fun _ _ => rfl) d).trans ?_
  · refine (idle8 _).trans ?_
    simp only [decide_eq_false_iff_not]; show ¬ t.val - 1 < 12; omega
  · rw [after_8]; funext _
    show spAt V c (t.val - 1 - 12) = _
    rw [show t.val - 1 - 12 = t.val - 13 by omega]
theorem kept10 (c : Dev nD) (t : Fin cfg0.N) (h : 13 ≤ t.val) (d) : (dat0 V c).before 10 t d = fun _ => badAt V c (t.val - 13) := by
  have hN := lt16 t
  refine (found_after V c 10 rfl t (by omega) (flush10 _ (by show t.val - 1 < 15; omega)) ?_ (fun _ _ => rfl) d).trans ?_
  · refine (idle10 _).trans ?_
    simp only [decide_eq_false_iff_not]; show ¬ t.val - 1 < 12; omega
  · rw [after_10]; funext _
    show badAt V c (t.val - 1 - 12) = _
    rw [show t.val - 1 - 12 = t.val - 13 by omega]
/-- The marginal sum is stored once and stays in its window. -/
theorem kept9 (c : Dev nD) : ∀ (r : ℕ) (t : Fin cfg0.N), t.val = r + 13 → ∀ d, (dat0 V c).before 9 t d = (dat0 V c).after 9 t
  | 0, t, h, d => by
    refine (found_after V c 9 rfl t (by omega) (flush9 _ (by show t.val - 1 < 15; omega)) ?_ (fun _ _ => rfl) d).trans ?_
    · refine (idle9 _).trans ?_
      simp only [decide_eq_false_iff_not]; show ¬ (t.val - 1 ≠ 12); omega
    · rw [after_9, after_9]
  | r + 1, t, h, d => by
    have hN := lt16 t
    refine (found_before V c 9 rfl t (by omega) (flush9 _ (by show t.val - 1 < 15; omega)) ?_ d).trans ?_
    · refine (idle9 _).trans ?_
      simp only [decide_eq_true_eq]; show t.val - 1 ≠ 12; omega
    · rw [kept9 c r ⟨t.val - 1, _⟩ (by show t.val - 1 = r + 13; omega) d, after_9, after_9]

end Cert.Kernel3Ideal.Sink

end
-- ==== Proof.Kernel3Ideal.First.lean ====
/-
  What a grid point of the transport call's first pass does to its buffers.
-/
module

public import proofs.«01_k».proof.Proof.Kernel3Ideal.Buffers

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable {arg2 : Memref sig .tc .vmem S128x128 .f32} {harg2 : arg2.IsWhole} {arg3 : Memref sig .tc .vmem S1x512x128 .f32} {harg3 : arg3.IsWhole} {arg4 : Memref sig .tc .vmem S1x2048x128 .f32} {harg4 : arg4.IsWhole} {arg5 : Memref sig .tc .vmem S1x1x512 .f32} {harg5 : arg5.IsWhole} {arg6 : Memref sig .tc .vmem S1x1x2048 .f32} {harg6 : arg6.IsWhole} {arg7 : Memref sig .tc .vmem S512x2048 .bf16} {harg7 : arg7.IsWhole} {arg8 : Memref sig .tc .vmem S512x2048 .bf16} {harg8 : arg8.IsWhole} {arg9 : Memref sig .tc .smem S1x1 .f32} {harg9 : arg9.IsWhole} {arg10 : Memref sig .tc .smem S1x1 .f32} {harg10 : arg10.IsWhole} {arg11 : Memref sig .tc .smem S1x1 .f32} {harg11 : arg11.IsWhole} {arg12 : Memref sig .tc .smem S1x1 .f32} {harg12 : arg12.IsWhole} {arg13 : Memref sig .tc .vmem S2048x2048 .f32} {harg13 : arg13.IsWhole} {arg14 : Memref sig .tc .vmem S8x2048 .f32} {harg14 : arg14.IsWhole} {arg15 : Memref sig .tc .vmem S2048x128 .f32} {harg15 : arg15.IsWhole}
variable (x0 : Vec F S128x128 .f32) (x1 : Vec F S1x512x128 .f32) (x2 : Vec F S1x2048x128 .f32) (x3 : Vec F S1x1x512 .f32) (x4 : Vec F S1x1x2048 .f32) (y5 y6 : Vec F S512x2048 .bf16) (y7 y8 y9 y10 : Vec F S1x1 .f32) (sa : Vec F S2048x2048 .f32) (sc : Vec F S8x2048 .f32) (sg : Vec F S2048x128 .f32)

set_option maxHeartbeats 2000000 in
/-- The first point of the first pass: it forms the target's product with the map, its own rows of the plan, and starts their column sums. -/
theorem pass0_first (c : Dev nD) (E : Set ℕ) (i : grid0.Coords) (h1 : k0_cond1 i = 1#1) (h3 : ¬k0_cond3 i = 1#1) (h5 : ¬k0_cond5 i = 1#1) (h7 : ¬k0_cond7 i = 1#1) (h8 : k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows1 i h1) (k0_pay14 x1 (k0_pay12 x0 x0 x2)) sa s⌝ ∗ owns (c : Thread nD τ) arg13 fullShare s) ∗ (∃ s, ⌜Put sums0 (k0_pay1 (k0_pay13 x1 (k0_pay12 x0 x0 x2)) k0_pay11) sc s⌝ ∗ owns (c : Thread nD τ) arg14 fullShare s) ∗ owns (c : Thread nD τ) arg15 fullShare (k0_pay12 x0 x0 x2)) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_twice _ _ _ _ _ _ (by assumption)
  iexists _; isplitr; swap; · iexact H13
  ipureintro
  refine (read_whole _ _ zero2 _ _ _).trans ?_
  sl_unfold_words
  simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]

set_option maxHeartbeats 2000000 in
/-- A later point of the first pass. -/
theorem pass0_later (c : Dev nD) (E : Set ℕ) (i : grid0.Coords) (h1 : k0_cond1 i = 1#1) (h3 : ¬k0_cond3 i = 1#1) (h5 : ¬k0_cond5 i = 1#1) (h7 : ¬k0_cond7 i = 1#1) (h8 : ¬k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows1 i h1) (k0_pay14 x1 sg) sa s⌝ ∗ owns (c : Thread nD τ) arg13 fullShare s) ∗ (∃ s, ⌜Put sums0 (k0_pay1 (k0_pay13 x1 sg) (View.ld sc sums0)) sc s⌝ ∗ owns (c : Thread nD τ) arg14 fullShare s) ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  iexists _; isplitr; swap; (iexact H13); ipureintro; exact harg15.read_unread _

end Cert.Kernel3Ideal.Sink

end
-- ==== Proof.Kernel3Ideal.Middle.lean ====
/-
  What a grid point of the transport call's second pass does to its buffers.
-/
module

public import proofs.«01_k».proof.Proof.Kernel3Ideal.Buffers

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable {arg2 : Memref sig .tc .vmem S128x128 .f32} {harg2 : arg2.IsWhole} {arg3 : Memref sig .tc .vmem S1x512x128 .f32} {harg3 : arg3.IsWhole} {arg4 : Memref sig .tc .vmem S1x2048x128 .f32} {harg4 : arg4.IsWhole} {arg5 : Memref sig .tc .vmem S1x1x512 .f32} {harg5 : arg5.IsWhole} {arg6 : Memref sig .tc .vmem S1x1x2048 .f32} {harg6 : arg6.IsWhole} {arg7 : Memref sig .tc .vmem S512x2048 .bf16} {harg7 : arg7.IsWhole} {arg8 : Memref sig .tc .vmem S512x2048 .bf16} {harg8 : arg8.IsWhole} {arg9 : Memref sig .tc .smem S1x1 .f32} {harg9 : arg9.IsWhole} {arg10 : Memref sig .tc .smem S1x1 .f32} {harg10 : arg10.IsWhole} {arg11 : Memref sig .tc .smem S1x1 .f32} {harg11 : arg11.IsWhole} {arg12 : Memref sig .tc .smem S1x1 .f32} {harg12 : arg12.IsWhole} {arg13 : Memref sig .tc .vmem S2048x2048 .f32} {harg13 : arg13.IsWhole} {arg14 : Memref sig .tc .vmem S8x2048 .f32} {harg14 : arg14.IsWhole} {arg15 : Memref sig .tc .vmem S2048x128 .f32} {harg15 : arg15.IsWhole}
variable (x0 : Vec F S128x128 .f32) (x1 : Vec F S1x512x128 .f32) (x2 : Vec F S1x2048x128 .f32) (x3 : Vec F S1x1x512 .f32) (x4 : Vec F S1x1x2048 .f32) (y5 y6 : Vec F S512x2048 .bf16) (y7 y8 y9 y10 : Vec F S1x1 .f32) (sa : Vec F S2048x2048 .f32) (sc : Vec F S8x2048 .f32) (sg : Vec F S2048x128 .f32)

set_option maxHeartbeats 2000000 in
/-- The first point of the second pass. -/
theorem pass1_first (c : Dev nD) (E : Set ℕ) (i : grid0.Coords) (h1 : ¬k0_cond1 i = 1#1) (h3 : k0_cond3 i = 1#1) (h5 : ¬k0_cond5 i = 1#1) (h7 : ¬k0_cond7 i = 1#1) (h8 : k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows2 i h3) (k0_pay4 (View.ld sa (rows2 i h3)) (View.ld sc sums0)) sa s⌝ ∗ owns (c : Thread nD τ) arg13 fullShare s) ∗ (∃ s, ⌜Put sums1 (k0_pay5 (View.ld sa (rows2 i h3)) (View.ld sc sums0) k0_pay2) sc s⌝ ∗ owns (c : Thread nD τ) arg14 fullShare s) ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_twice _ _ _ _ _ _ (by assumption)
  iexists _; isplitr; swap; (iexact H13); ipureintro; exact harg15.read_unread _

set_option maxHeartbeats 2000000 in
/-- A later point of the second pass. -/
theorem pass1_later (c : Dev nD) (E : Set ℕ) (i : grid0.Coords) (h1 : ¬k0_cond1 i = 1#1) (h3 : k0_cond3 i = 1#1) (h5 : ¬k0_cond5 i = 1#1) (h7 : ¬k0_cond7 i = 1#1) (h8 : ¬k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows2 i h3) (k0_pay4 (View.ld sa (rows2 i h3)) (View.ld sc sums0)) sa s⌝ ∗ owns (c : Thread nD τ) arg13 fullShare s) ∗ (∃ s, ⌜Put sums1 (k0_pay5 (View.ld sa (rows2 i h3)) (View.ld sc sums0) (View.ld sc sums1)) sc s⌝ ∗ owns (c : Thread nD τ) arg14 fullShare s) ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  iexists _; isplitr; swap; (iexact H13); ipureintro; exact harg15.read_unread _

end Cert.Kernel3Ideal.Sink

end
-- ==== Proof.Kernel3Ideal.Third.lean ====
/-
  What a grid point of the transport call's third pass does to its buffers.
-/
module

public import proofs.«01_k».proof.Proof.Kernel3Ideal.Buffers

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable {arg2 : Memref sig .tc .vmem S128x128 .f32} {harg2 : arg2.IsWhole} {arg3 : Memref sig .tc .vmem S1x512x128 .f32} {harg3 : arg3.IsWhole} {arg4 : Memref sig .tc .vmem S1x2048x128 .f32} {harg4 : arg4.IsWhole} {arg5 : Memref sig .tc .vmem S1x1x512 .f32} {harg5 : arg5.IsWhole} {arg6 : Memref sig .tc .vmem S1x1x2048 .f32} {harg6 : arg6.IsWhole} {arg7 : Memref sig .tc .vmem S512x2048 .bf16} {harg7 : arg7.IsWhole} {arg8 : Memref sig .tc .vmem S512x2048 .bf16} {harg8 : arg8.IsWhole} {arg9 : Memref sig .tc .smem S1x1 .f32} {harg9 : arg9.IsWhole} {arg10 : Memref sig .tc .smem S1x1 .f32} {harg10 : arg10.IsWhole} {arg11 : Memref sig .tc .smem S1x1 .f32} {harg11 : arg11.IsWhole} {arg12 : Memref sig .tc .smem S1x1 .f32} {harg12 : arg12.IsWhole} {arg13 : Memref sig .tc .vmem S2048x2048 .f32} {harg13 : arg13.IsWhole} {arg14 : Memref sig .tc .vmem S8x2048 .f32} {harg14 : arg14.IsWhole} {arg15 : Memref sig .tc .vmem S2048x128 .f32} {harg15 : arg15.IsWhole}
variable (x0 : Vec F S128x128 .f32) (x1 : Vec F S1x512x128 .f32) (x2 : Vec F S1x2048x128 .f32) (x3 : Vec F S1x1x512 .f32) (x4 : Vec F S1x1x2048 .f32) (y5 y6 : Vec F S512x2048 .bf16) (y7 y8 y9 y10 : Vec F S1x1 .f32) (sa : Vec F S2048x2048 .f32) (sc : Vec F S8x2048 .f32) (sg : Vec F S2048x128 .f32)

set_option maxHeartbeats 2000000 in
/-- The first point of the third pass. -/
theorem pass2_first (c : Dev nD) (E : Set ℕ) (i : grid0.Coords) (h1 : ¬k0_cond1 i = 1#1) (h3 : ¬k0_cond3 i = 1#1) (h5 : k0_cond5 i = 1#1) (h7 : ¬k0_cond7 i = 1#1) (h8 : k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows3 i h5) (k0_pay8 (View.ld sa (rows3 i h5)) (View.ld sc sums1)) sa s⌝ ∗ owns (c : Thread nD τ) arg13 fullShare s) ∗ (∃ s, ⌜Put sums2 (k0_pay9 (View.ld sa (rows3 i h5)) (View.ld sc sums1) k0_pay6) sc s⌝ ∗ owns (c : Thread nD τ) arg14 fullShare s) ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_twice _ _ _ _ _ _ (by assumption)
  iexists _; isplitr; swap; (iexact H13); ipureintro; exact harg15.read_unread _

set_option maxHeartbeats 2000000 in
/-- A later point of the third pass. -/
theorem pass2_later (c : Dev nD) (E : Set ℕ) (i : grid0.Coords) (h1 : ¬k0_cond1 i = 1#1) (h3 : ¬k0_cond3 i = 1#1) (h5 : k0_cond5 i = 1#1) (h7 : ¬k0_cond7 i = 1#1) (h8 : ¬k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ s, ⌜Put (rows3 i h5) (k0_pay8 (View.ld sa (rows3 i h5)) (View.ld sc sums1)) sa s⌝ ∗ owns (c : Thread nD τ) arg13 fullShare s) ∗ (∃ s, ⌜Put sums2 (k0_pay9 (View.ld sa (rows3 i h5)) (View.ld sc sums1) (View.ld sc sums2)) sc s⌝ ∗ owns (c : Thread nD τ) arg14 fullShare s) ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]; · iexists _; isplitr; swap; (iexact H5); ipureintro; exact harg7.read_unread _
  isplitl [H6]; · iexists _; isplitr; swap; (iexact H6); ipureintro; exact harg8.read_unread _
  isplitl [H7]; · iexists _; isplitr; swap; (iexact H7); ipureintro; exact harg9.read_unread _
  isplitl [H8]; · iexists _; isplitr; swap; (iexact H8); ipureintro; exact harg10.read_unread _
  isplitl [H9]; · iexists _; isplitr; swap; (iexact H9); ipureintro; exact harg11.read_unread _
  isplitl [H10]; · iexists _; isplitr; swap; (iexact H10); ipureintro; exact harg12.read_unread _
  isplitl [H11]
  · iexists _; isplitr; swap; (iexists _; isplitr; swap; (iexact H11); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  isplitl [H12]
  · iexists _; isplitr; swap; (iexists _; isplitr; swap; (iexact H12); ipureintro; rfl)
    ipureintro
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    exact put_writes _ _ _ _ _ (by assumption)
  iexists _; isplitr; swap; (iexact H13); ipureintro; exact harg15.read_unread _

end Cert.Kernel3Ideal.Sink

end
-- ==== Proof.Kernel3Ideal.Last.lean ====
/-
  What a grid point of the transport call's last pass does to its buffers.
-/
module

public import proofs.«01_k».proof.Proof.Kernel3Ideal.Buffers

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable {arg2 : Memref sig .tc .vmem S128x128 .f32} {harg2 : arg2.IsWhole} {arg3 : Memref sig .tc .vmem S1x512x128 .f32} {harg3 : arg3.IsWhole} {arg4 : Memref sig .tc .vmem S1x2048x128 .f32} {harg4 : arg4.IsWhole} {arg5 : Memref sig .tc .vmem S1x1x512 .f32} {harg5 : arg5.IsWhole} {arg6 : Memref sig .tc .vmem S1x1x2048 .f32} {harg6 : arg6.IsWhole} {arg7 : Memref sig .tc .vmem S512x2048 .bf16} {harg7 : arg7.IsWhole} {arg8 : Memref sig .tc .vmem S512x2048 .bf16} {harg8 : arg8.IsWhole} {arg9 : Memref sig .tc .smem S1x1 .f32} {harg9 : arg9.IsWhole} {arg10 : Memref sig .tc .smem S1x1 .f32} {harg10 : arg10.IsWhole} {arg11 : Memref sig .tc .smem S1x1 .f32} {harg11 : arg11.IsWhole} {arg12 : Memref sig .tc .smem S1x1 .f32} {harg12 : arg12.IsWhole} {arg13 : Memref sig .tc .vmem S2048x2048 .f32} {harg13 : arg13.IsWhole} {arg14 : Memref sig .tc .vmem S8x2048 .f32} {harg14 : arg14.IsWhole} {arg15 : Memref sig .tc .vmem S2048x128 .f32} {harg15 : arg15.IsWhole}
variable (x0 : Vec F S128x128 .f32) (x1 : Vec F S1x512x128 .f32) (x2 : Vec F S1x2048x128 .f32) (x3 : Vec F S1x1x512 .f32) (x4 : Vec F S1x1x2048 .f32) (y5 y6 : Vec F S512x2048 .bf16) (y7 y8 y9 y10 : Vec F S1x1 .f32) (sa : Vec F S2048x2048 .f32) (sc : Vec F S8x2048 .f32) (sg : Vec F S2048x128 .f32)

set_option maxHeartbeats 2000000 in
/-- The first point of the last pass. -/
theorem pass3_first (c : Dev nD) (E : Set ℕ) (i : grid0.Coords) (h1 : ¬k0_cond1 i = 1#1) (h3 : ¬k0_cond3 i = 1#1) (h5 : ¬k0_cond5 i = 1#1) (h7 : k0_cond7 i = 1#1) (h8 : k0_cond8 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay20 (View.ld sc sums2) (View.ld sa (rows4 i h7))) ∗ owns (c : Thread nD τ) arg8 fullShare (k0_pay21 (View.ld sc sums2) (View.ld sa (rows4 i h7))) ∗ owns (c : Thread nD τ) arg9 fullShare (fun _ => alStep (View.ld sc sums2) (View.ld sa (rows4 i h7)) x1 x2 x3 x4 (FloatOps.ofBits .f32 0x00000000#32)) ∗ owns (c : Thread nD τ) arg10 fullShare (fun _ => spStep (View.ld sc sums2) (View.ld sa (rows4 i h7)) (FloatOps.ofBits .f32 0x00000000#32)) ∗ owns (c : Thread nD τ) arg11 fullShare (fun _ => k0_pay16 (View.ld sc sums2)) ∗ owns (c : Thread nD τ) arg12 fullShare (fun _ => badStep (View.ld sc sums2) (View.ld sa (rows4 i h7)) (k0_pay17 (View.ld sc sums2))) ∗ owns (c : Thread nD τ) arg13 fullShare sa ∗ owns (c : Thread nD τ) arg14 fullShare sc ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]
  · iexists _; isplitr; swap; · iexact H5
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H6]
  · iexists _; isplitr; swap; · iexact H6
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H7]
  · iexists _; isplitr; swap; · iexact H7
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H8]
  · iexists _; isplitr; swap; · iexact H8
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H9]
  · iexists _; isplitr; swap; · iexact H9
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H10]
  · iexists _; isplitr; swap; · iexact H10
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H11]; · iexists _; isplitr; swap; (iexact H11); ipureintro; exact harg13.read_unread _
  isplitl [H12]; · iexists _; isplitr; swap; (iexact H12); ipureintro; exact harg14.read_unread _
  iexists _; isplitr; swap; (iexact H13); ipureintro; exact harg15.read_unread _

set_option maxHeartbeats 2000000 in
/-- A later point of the last pass. -/
theorem pass3_later (c : Dev nD) (E : Set ℕ) (i : grid0.Coords) (h1 : ¬k0_cond1 i = 1#1) (h3 : ¬k0_cond3 i = 1#1) (h5 : ¬k0_cond5 i = 1#1) (h7 : k0_cond7 i = 1#1) (h8 : ¬k0_cond8 i = 1#1) (p q r : Elt F .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare (fun _ => p) ∗ owns (c : Thread nD τ) arg10 fullShare (fun _ => q) ∗ owns (c : Thread nD τ) arg11 fullShare y9 ∗ owns (c : Thread nD τ) arg12 fullShare (fun _ => r) ∗ owns (c : Thread nD τ) arg13 fullShare sa ∗ owns (c : Thread nD τ) arg14 fullShare sc ∗ owns (c : Thread nD τ) arg15 fullShare sg
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay20 (View.ld sc sums2) (View.ld sa (rows4 i h7))) ∗ owns (c : Thread nD τ) arg8 fullShare (k0_pay21 (View.ld sc sums2) (View.ld sa (rows4 i h7))) ∗ owns (c : Thread nD τ) arg9 fullShare (fun _ => alStep (View.ld sc sums2) (View.ld sa (rows4 i h7)) x1 x2 x3 x4 p) ∗ owns (c : Thread nD τ) arg10 fullShare (fun _ => spStep (View.ld sc sums2) (View.ld sa (rows4 i h7)) q) ∗ owns (c : Thread nD τ) arg11 fullShare y9 ∗ owns (c : Thread nD τ) arg12 fullShare (fun _ => badStep (View.ld sc sums2) (View.ld sa (rows4 i h7)) r) ∗ owns (c : Thread nD τ) arg13 fullShare sa ∗ owns (c : Thread nD τ) arg14 fullShare sc ∗ owns (c : Thread nD τ) arg15 fullShare sg) -∗ K ⟨⟩))
      ⊢ wp frame (wpE (defs₀ (F := F)) Variants.none c none) E (cc0__sink_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__sink_body_eq_skeleton]; unfold cc0__sink_body_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact h1 | sl_exact h3 | sl_exact h5 | sl_exact h7 | sl_exact h8)
  sl_step
  iapply Hk
  isplitl [H0]; · iexists _; isplitr; swap; (iexact H0); ipureintro; exact harg2.read_unread _
  isplitl [H1]; · iexists _; isplitr; swap; (iexact H1); ipureintro; exact harg3.read_unread _
  isplitl [H2]; · iexists _; isplitr; swap; (iexact H2); ipureintro; exact harg4.read_unread _
  isplitl [H3]; · iexists _; isplitr; swap; (iexact H3); ipureintro; exact harg5.read_unread _
  isplitl [H4]; · iexists _; isplitr; swap; (iexact H4); ipureintro; exact harg6.read_unread _
  isplitl [H5]
  · iexists _; isplitr; swap; · iexact H5
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H6]
  · iexists _; isplitr; swap; · iexact H6
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H7]
  · iexists _; isplitr; swap; · iexact H7
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H8]
  · iexists _; isplitr; swap; · iexact H8
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H9]; · iexists _; isplitr; swap; (iexact H9); ipureintro; exact harg11.read_unread _
  isplitl [H10]
  · iexists _; isplitr; swap; · iexact H10
    ipureintro
    refine (read_whole _ _ zero2 _ _ _).trans ?_
    sl_unfold_words
    simp only [View.readAt_eq_ld, covered, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x128) zero3, View.ld_unit_zero (S := S1x2048x128) zero3, View.ld_unit_zero (S := S1x1x512) zero3, View.ld_unit_zero (S := S1x1x2048) zero3, View.ld_unit_zero (S := S128x128) zero2, View.ld_unit_zero (S := S2048x128) zero2, View.ld_unit_zero (S := S512x2048) zero2]
    rfl
  isplitl [H11]; · iexists _; isplitr; swap; (iexact H11); ipureintro; exact harg13.read_unread _
  isplitl [H12]; · iexists _; isplitr; swap; (iexact H12); ipureintro; exact harg14.read_unread _
  iexists _; isplitr; swap; (iexact H13); ipureintro; exact harg15.read_unread _

end Cert.Kernel3Ideal.Sink

end
-- ==== Proof.Kernel3Ideal.Points.lean ====
/-
  Every grid point of the transport call is as its data say, and the data's first and last conditions are those the call is
  entered and left with.
-/
module

public import proofs.«01_k».proof.Proof.Kernel3Ideal.Data
public import proofs.«01_k».proof.Proof.Kernel3Ideal.First
public import proofs.«01_k».proof.Proof.Kernel3Ideal.Middle
public import proofs.«01_k».proof.Proof.Kernel3Ideal.Third
public import proofs.«01_k».proof.Proof.Kernel3Ideal.Last

@[expose] public section

set_option maxRecDepth 16384

noncomputable section

namespace Cert.Kernel3Ideal.Sink

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window the point stores to is left at its `after`. -/
theorem leaves_live (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

/-- A window the point does not store to, found at its `after`, is left as the data ask, written back there or not. -/
theorem leaves_kept (c : Dev nD) (w : Fin cfg0.W) (t : Fin cfg0.N) (h : cfg0.idle w (cfg0.grid.coords t) = true)
    (hk : ∀ d, (dat0 V c).before w t d = (dat0 V c).after w t) :
    owns (c : Thread nD τ) ((cfg0.win w).stage (cfg0.slots t w)) fullShare ((dat0 V c).after w t) ⊢ (dat0 V c).leavesExact w t := by
  cases hf : (cfg0.win w).flush t
  · rw [Dat.leavesExact_idle _ w t h hf]
    simp only [hk]
    iintro H
    iexists (dat0 V c).after w t
    iexact H
  · unfold Dat.leavesExact; rw [h, hf]

/-- What the body is called with at point `t`. -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it leaves. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The first point of pass 0. -/
theorem sound_0first (c : Dev nD) (t : Fin cfg0.N) (h : t.val / 4 = 0) (h' : t.val % 4 = 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond1 (grid0.coords t) = 1#1 := (isP0 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (pass0_first (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc sg c Set.univ (grid0.coords t) ((isP0 t).mpr (by omega)) (fun e => by have := (isP1 t).mp e; omega) (fun e => by have := (isP2 t).mp e; omega) (fun e => by have := (isP3 t).mp e; omega) ((isFirst t).mpr (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off1 t) _ ?_ pa
      rw [h, h']; show _ = k0_pay14 (iblk V c 1 (pt 0)) (target V c); unfold target; rw [pt_of t (show 0 = t.val by omega)]
    isplitl [HC]
    · iexists sc'; isplitr; swap; · iexact HC
      ipureintro
      refine hc.step 0 h _ _ ?_ pc
      rw [h']; show _ = k0_pay1 (k0_pay13 (iblk V c 1 (pt 0)) (target V c)) k0_pay11; unfold target; rw [pt_of t (show 0 = t.val by omega)]
    isplitl [HG]
    · iexists _; isplitr; swap; · iexact HG
      ipureintro
      intro _; unfold target; rw [pt_of t (show 0 = t.val by omega)]
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- A later point of pass 0. -/
theorem sound_0later (c : Dev nD) (t : Fin cfg0.N) (h : t.val / 4 = 0) (h' : t.val % 4 ≠ 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond1 (grid0.coords t) = 1#1 := (isP0 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hg (by omega)
  have ld : View.ld sc sums0 = (level V c 0).2 (t.val % 4) := hc.ld 0 (by omega) (by omega) _ (by omega) _
  iapply (pass0_later (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc (target V c) c Set.univ (grid0.coords t) ((isP0 t).mpr (by omega)) (fun e => by have := (isP1 t).mp e; omega) (fun e => by have := (isP2 t).mp e; omega) (fun e => by have := (isP3 t).mp e; omega) (fun e => by have := (isFirst t).mp e; omega) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off1 t) _ ?_ pa
      rw [h]; show _ = k0_pay14 (iblk V c 1 (pt (t.val % 4))) (target V c); rw [pt_of t (show t.val % 4 = t.val by omega)]
    isplitl [HC]
    · iexists sc'; isplitr; swap; · iexact HC
      ipureintro
      refine hc.step 0 h _ _ ?_ pc
      rw [ld]; show _ = k0_pay1 (k0_pay13 (iblk V c 1 (pt (t.val % 4))) (target V c)) ((level V c 0).2 (t.val % 4)); rw [pt_of t (show t.val % 4 = t.val by omega)]
    isplitl [HG]
    · iexists _; isplitr; swap; · iexact HG
      ipureintro
      exact fun _ => rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- The first point of pass 1. -/
theorem sound_1first (c : Dev nD) (t : Fin cfg0.N) (h : t.val / 4 = 1) (h' : t.val % 4 = 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond3 (grid0.coords t) = 1#1 := (isP1 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows2 (grid0.coords t) hp) = (level V c 0).1 (t.val % 4) := ha.ld 0 (by omega) _ (off2 t)
  have lc : View.ld sc sums0 = (level V c 0).2 4 := hc.ld 0 (by omega) (by omega) 4 (by omega) _
  iapply (pass1_first (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc sg c Set.univ (grid0.coords t) (fun e => by have := (isP0 t).mp e; omega) ((isP1 t).mpr (by omega)) (fun e => by have := (isP2 t).mp e; omega) (fun e => by have := (isP3 t).mp e; omega) ((isFirst t).mpr (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off2 t) _ ?_ pa
      rw [la, lc, h]; rfl
    isplitl [HC]
    · iexists sc'; isplitr; swap; · iexact HC
      ipureintro
      refine hc.step 1 h _ _ ?_ pc
      rw [la, lc, h']; rfl
    isplitl [HG]
    · iexists _; isplitr; swap; · iexact HG
      ipureintro
      exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- A later point of pass 1. -/
theorem sound_1later (c : Dev nD) (t : Fin cfg0.N) (h : t.val / 4 = 1) (h' : t.val % 4 ≠ 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond3 (grid0.coords t) = 1#1 := (isP1 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows2 (grid0.coords t) hp) = (level V c 0).1 (t.val % 4) := ha.ld 0 (by omega) _ (off2 t)
  have lc : View.ld sc sums0 = (level V c 0).2 4 := hc.ld 0 (by omega) (by omega) 4 (by omega) _
  have ld : View.ld sc sums1 = (level V c 1).2 (t.val % 4) := hc.ld 1 (by omega) (by omega) _ (by omega) _
  iapply (pass1_later (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc sg c Set.univ (grid0.coords t) (fun e => by have := (isP0 t).mp e; omega) ((isP1 t).mpr (by omega)) (fun e => by have := (isP2 t).mp e; omega) (fun e => by have := (isP3 t).mp e; omega) (fun e => by have := (isFirst t).mp e; omega) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off2 t) _ ?_ pa
      rw [la, lc, h]; rfl
    isplitl [HC]
    · iexists sc'; isplitr; swap; · iexact HC
      ipureintro
      refine hc.step 1 h _ _ ?_ pc
      rw [la, lc, ld]; rfl
    isplitl [HG]
    · iexists _; isplitr; swap; · iexact HG
      ipureintro
      exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- The first point of pass 2. -/
theorem sound_2first (c : Dev nD) (t : Fin cfg0.N) (h : t.val / 4 = 2) (h' : t.val % 4 = 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond5 (grid0.coords t) = 1#1 := (isP2 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows3 (grid0.coords t) hp) = (level V c 1).1 (t.val % 4) := ha.ld 1 (by omega) _ (off3 t)
  have lc : View.ld sc sums1 = (level V c 1).2 4 := hc.ld 1 (by omega) (by omega) 4 (by omega) _
  iapply (pass2_first (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc sg c Set.univ (grid0.coords t) (fun e => by have := (isP0 t).mp e; omega) (fun e => by have := (isP1 t).mp e; omega) ((isP2 t).mpr (by omega)) (fun e => by have := (isP3 t).mp e; omega) ((isFirst t).mpr (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off3 t) _ ?_ pa
      rw [la, lc, h]; rfl
    isplitl [HC]
    · iexists sc'; isplitr; swap; · iexact HC
      ipureintro
      refine hc.step 2 h _ _ ?_ pc
      rw [la, lc, h']; rfl
    isplitl [HG]
    · iexists _; isplitr; swap; · iexact HG
      ipureintro
      exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- A later point of pass 2. -/
theorem sound_2later (c : Dev nD) (t : Fin cfg0.N) (h : t.val / 4 = 2) (h' : t.val % 4 ≠ 0) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = true := (idle5 t).trans (by simp only [decide_eq_true_eq]; omega)
  have i6 : cfg0.idle 6 (cfg0.grid.coords t) = true := (idle6 t).trans (by simp only [decide_eq_true_eq]; omega)
  have i7 : cfg0.idle 7 (cfg0.grid.coords t) = true := (idle7 t).trans (by simp only [decide_eq_true_eq]; omega)
  have i8 : cfg0.idle 8 (cfg0.grid.coords t) = true := (idle8 t).trans (by simp only [decide_eq_true_eq]; omega)
  have i9 : cfg0.idle 9 (cfg0.grid.coords t) = true := (idle9 t).trans (by simp only [decide_eq_true_eq]; omega)
  have i10 : cfg0.idle 10 (cfg0.grid.coords t) = true := (idle10 t).trans (by simp only [decide_eq_true_eq]; omega)
  rw [Dat.leavesExact_idle _ 5 t i5 (flush5 t (by omega)), Dat.leavesExact_idle _ 6 t i6 (flush6 t (by omega)), Dat.leavesExact_idle _ 7 t i7 (flush7 t (by omega)), Dat.leavesExact_idle _ 8 t i8 (flush8 t (by omega)), Dat.leavesExact_idle _ 9 t i9 (flush9 t (by omega)), Dat.leavesExact_idle _ 10 t i10 (flush10 t (by omega))]
  have hp : k0_cond5 (grid0.coords t) = 1#1 := (isP2 t).mpr h
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows3 (grid0.coords t) hp) = (level V c 1).1 (t.val % 4) := ha.ld 1 (by omega) _ (off3 t)
  have lc : View.ld sc sums1 = (level V c 1).2 4 := hc.ld 1 (by omega) (by omega) 4 (by omega) _
  have ld : View.ld sc sums2 = (level V c 2).2 (t.val % 4) := hc.ld 2 (by omega) (by omega) _ (by omega) _
  iapply (pass2_later (iblk V c 0 t) (iblk V c 1 t) (iblk V c 2 t) (iblk V c 3 t) (iblk V c 4 t) ((dat0 V c).before 5 t d5) ((dat0 V c).before 6 t d6) ((dat0 V c).before 7 t d7) ((dat0 V c).before 8 t d8) ((dat0 V c).before 9 t d9) ((dat0 V c).before 10 t d10) sa sc sg c Set.univ (grid0.coords t) (fun e => by have := (isP0 t).mp e; omega) (fun e => by have := (isP1 t).mp e; omega) ((isP2 t).mpr (by omega)) (fun e => by have := (isP3 t).mp e; omega) (fun e => by have := (isFirst t).mp e; omega) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, ⟨%sa', %pa, HA⟩, ⟨%sc', %pc, HC⟩, HG⟩
  isplitl [HA HC HG Hp]
  · isplitl [HA]
    · iexists sa'; isplitr; swap; · iexact HA
      ipureintro
      refine ha.step (by omega) _ (off3 t) _ ?_ pa
      rw [la, lc, h]; rfl
    isplitl [HC]
    · iexists sc'; isplitr; swap; · iexact HC
      ipureintro
      refine hc.step 2 h _ _ ?_ pc
      rw [la, lc, ld]; rfl
    isplitl [HG]
    · iexists _; isplitr; swap; · iexact HG
      ipureintro
      exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [H8]; · iexists d8; iexact H8
  isplitl [H9]; · iexists d9; iexact H9
  iexists d10; iexact H10

set_option maxHeartbeats 4000000 in
/-- The first point of the last pass. -/
theorem sound_3first (c : Dev nD) (t : Fin cfg0.N) (h : t.val = 12) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = false := (idle5 t).trans (by simp only [decide_eq_false_iff_not]; omega)
  have i6 : cfg0.idle 6 (cfg0.grid.coords t) = false := (idle6 t).trans (by simp only [decide_eq_false_iff_not]; omega)
  have i7 : cfg0.idle 7 (cfg0.grid.coords t) = false := (idle7 t).trans (by simp only [decide_eq_false_iff_not]; omega)
  have i8 : cfg0.idle 8 (cfg0.grid.coords t) = false := (idle8 t).trans (by simp only [decide_eq_false_iff_not]; omega)
  have i9 : cfg0.idle 9 (cfg0.grid.coords t) = false := (idle9 t).trans (by simp only [decide_eq_false_iff_not]; omega)
  have i10 : cfg0.idle 10 (cfg0.grid.coords t) = false := (idle10 t).trans (by simp only [decide_eq_false_iff_not]; omega)
  have hp : k0_cond7 (grid0.coords t) = 1#1 := (isP3 t).mpr (by omega)
  have e := pt_of t (show 12 = t.val by omega)
  have eal : alAt V c (t.val - 12) = alStep (lastSums V c) (lastBlock V c (t.val % 4)) (iblk V c 1 t) (iblk V c 2 t) (iblk V c 3 t) (iblk V c 4 t) (FloatOps.ofBits .f32 0x00000000#32) := by rw [show t.val - 12 = 0 by omega, show t.val % 4 = 0 by omega]; rw [alAt, e]
  have esp : spAt V c (t.val - 12) = spStep (lastSums V c) (lastBlock V c (t.val % 4)) (FloatOps.ofBits .f32 0x00000000#32) := by rw [show t.val - 12 = 0 by omega, show t.val % 4 = 0 by omega]; rw [spAt]
  have ebad : badAt V c (t.val - 12) = badStep (lastSums V c) (lastBlock V c (t.val % 4)) (k0_pay17 (lastSums V c)) := by rw [show t.val - 12 = 0 by omega, show t.val % 4 = 0 by omega]; rw [badAt]
  rw [leaves_live V c 5 t i5, leaves_live V c 6 t i6, leaves_live V c 7 t i7, leaves_live V c 8 t i8, leaves_live V c 9 t i9, leaves_live V c 10 t i10, after_5, after_6, after_7, after_8, after_9, after_10, eal, esp, ebad]
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows4 (grid0.coords t) hp) = lastBlock V c (t.val % 4) := ha.ld 2 (by omega) _ (off4 t)
  have lc : View.ld sc sums2 = lastSums V c := hc.ld 2 (by omega) (by omega) 4 (by omega) _
  iapply (pass3_first (iblk V c 0 t) (iblk V c 1 t) (iblk V c 2 t) (iblk V c 3 t) (iblk V c 4 t) sa sc sg c Set.univ (grid0.coords t) (fun e => by have := (isP0 t).mp e; omega) (fun e => by have := (isP1 t).mp e; omega) (fun e => by have := (isP2 t).mp e; omega) ((isP3 t).mpr (by omega)) ((isFirst t).mpr (by omega)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HA]; · iexact HA
  isplitl [HC]; · iexact HC
  isplitl [HG]; · iexact HG
  iintro ⟨H0, H1, H2, H3, H4, H5, H6, H7, H8, H9, H10, HA, HC, HG⟩
  rw [lc, la]
  isplitl [HA HC HG Hp]
  · isplitl [HA]
    · iexists sa; isplitr; swap; · iexact HA
      ipureintro; exact ha.stay (by omega)
    isplitl [HC]
    · iexists sc; isplitr; swap; · iexact HC
      ipureintro; exact hc.stay (by omega)
    isplitl [HG]
    · iexists sg; isplitr; swap; · iexact HG
      ipureintro; exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- A later point of the last pass. -/
theorem sound_3later (c : Dev nD) (t : Fin cfg0.N) (h : 13 ≤ t.val) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.castSucc = between V c t.val from rfl, show (dat0 V c).Φ t.succ = between V c (t.val + 1) from rfl,
    show (dat0 V c).owesAt () t.succ = (dat0 V c).owesAt () t.castSucc from rfl,
    after_0, after_1, after_2, after_3, after_4]
  have hN := lt16 t
  have i5 : cfg0.idle 5 (cfg0.grid.coords t) = false := (idle5 t).trans (by simp only [decide_eq_false_iff_not]; omega)
  have i6 : cfg0.idle 6 (cfg0.grid.coords t) = false := (idle6 t).trans (by simp only [decide_eq_false_iff_not]; omega)
  have i7 : cfg0.idle 7 (cfg0.grid.coords t) = false := (idle7 t).trans (by simp only [decide_eq_false_iff_not]; omega)
  have i8 : cfg0.idle 8 (cfg0.grid.coords t) = false := (idle8 t).trans (by simp only [decide_eq_false_iff_not]; omega)
  have i9 : cfg0.idle 9 (cfg0.grid.coords t) = true := (idle9 t).trans (by simp only [decide_eq_true_eq]; omega)
  have i10 : cfg0.idle 10 (cfg0.grid.coords t) = false := (idle10 t).trans (by simp only [decide_eq_false_iff_not]; omega)
  have hp : k0_cond7 (grid0.coords t) = 1#1 := (isP3 t).mpr (by omega)
  obtain ⟨b, hb⟩ : ∃ b, t.val = b + 13 := ⟨t.val - 13, by omega⟩
  have e := pt_of t hb.symm
  have eal : alAt V c (t.val - 12) = alStep (lastSums V c) (lastBlock V c (t.val % 4)) (iblk V c 1 t) (iblk V c 2 t) (iblk V c 3 t) (iblk V c 4 t) (alAt V c (t.val - 13)) := by rw [show t.val - 12 = b + 1 by omega, show t.val - 13 = b by omega, show t.val % 4 = b + 1 by omega]; rw [alAt, e]
  have esp : spAt V c (t.val - 12) = spStep (lastSums V c) (lastBlock V c (t.val % 4)) (spAt V c (t.val - 13)) := by rw [show t.val - 12 = b + 1 by omega, show t.val - 13 = b by omega, show t.val % 4 = b + 1 by omega]; rw [spAt]
  have ebad : badAt V c (t.val - 12) = badStep (lastSums V c) (lastBlock V c (t.val % 4)) (badAt V c (t.val - 13)) := by rw [show t.val - 12 = b + 1 by omega, show t.val - 13 = b by omega, show t.val % 4 = b + 1 by omega]; rw [badAt]
  have k7 : ∀ d, (dat0 V c).before 7 t d = fun _ => alAt V c (t.val - 13) := kept7 V c t h
  have k8 : ∀ d, (dat0 V c).before 8 t d = fun _ => spAt V c (t.val - 13) := kept8 V c t h
  have k10 : ∀ d, (dat0 V c).before 10 t d = fun _ => badAt V c (t.val - 13) := kept10 V c t h
  have k9 : ∀ d, (dat0 V c).before 9 t d = (dat0 V c).after 9 t := kept9 V c (t.val - 13) t (by omega)
  simp only [k7, k8, k9, k10]
  rw [leaves_live V c 5 t i5, leaves_live V c 6 t i6, leaves_live V c 7 t i7, leaves_live V c 8 t i8, leaves_live V c 10 t i10, after_5, after_6, after_7, after_8, after_10, eal, esp, ebad]
  unfold between
  iintro ⟨⟨⟨%sa, %ha, HA⟩, ⟨%sc, %hc, HC⟩, ⟨%sg, %hg, HG⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have la : View.ld sa (rows4 (grid0.coords t) hp) = lastBlock V c (t.val % 4) := ha.ld 2 (by omega) _ (off4 t)
  have lc : View.ld sc sums2 = lastSums V c := hc.ld 2 (by omega) (by omega) 4 (by omega) _
  iapply (pass3_later (iblk V c 0 t) (iblk V c 1 t) (iblk V c 2 t) (iblk V c 3 t) (iblk V c 4 t) ((dat0 V c).after 9 t) sa sc sg c Set.univ (grid0.coords t) (fun e => by have := (isP0 t).mp e; omega) (fun e => by have := (isP1 t).mp e; omega) (fun e => by have := (isP2 t).mp e; omega) ((isP3 t).mpr (by omega)) (fun e => by have := (isFirst t).mp e; omega) (alAt V c (t.val - 13)) (spAt V c (t.val - 13)) (badAt V c (t.val - 13)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [HA]; · iexact HA
  isplitl [HC]; · iexact HC
  isplitl [HG]; · iexact HG
  iintro ⟨H0, H1, H2, H3, H4, H5, H6, H7, H8, H9, H10, HA, HC, HG⟩
  rw [lc, la]
  isplitl [HA HC HG Hp]
  · isplitl [HA]
    · iexists sa; isplitr; swap; · iexact HA
      ipureintro; exact ha.stay (by omega)
    isplitl [HC]
    · iexists sc; isplitr; swap; · iexact HC
      ipureintro; exact hc.stay (by omega)
    isplitl [HG]
    · iexists sg; isplitr; swap; · iexact HG
      ipureintro; exact fun _ => hg (by omega)
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_kept V c 9 t i9 k9); iexact H9
  iexact H10

theorem sound0 (c : Dev nD) (t : Fin cfg0.N) :
    bodyPre V c t ⊢ wp frame (wpE (defs₀ (F := F)) Variants.none c none) Set.univ (bodyAt0 t) (fun _ => bodyPost V c t) := by
  have hN := lt16 t
  by_cases h0 : t.val / 4 = 0
  · by_cases h' : t.val % 4 = 0
    · exact sound_0first V c t h0 h'
    · exact sound_0later V c t h0 h'
  by_cases h1 : t.val / 4 = 1
  · by_cases h' : t.val % 4 = 0
    · exact sound_1first V c t h1 h'
    · exact sound_1later V c t h1 h'
  by_cases h2 : t.val / 4 = 2
  · by_cases h' : t.val % 4 = 0
    · exact sound_2first V c t h2 h'
    · exact sound_2later V c t h2 h'
  by_cases h3 : t.val = 12
  · exact sound_3first V c t h3
  · exact sound_3later V c t (by omega)

theorem row0 (t : Fin cfg0.N) : defs₀ (F := F) .tc cfg0.body (cfg0.bodyArgs t (cfg0.slots t)) = bodyAt0 t := by
  unfold defs₀; rw [Defs.onTc_tc]

/-- Every point of the transport call is as its data say. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- The call is entered with the scratch arrays holding anything. -/
theorem enter0 (c : Dev nD) : Pipeline.ΦA spec0 c ⊢ (dat0 (F := F) V c).Φ 0 := by
  rw [show (dat0 (F := F) V c).Φ 0 = between V c 0 from rfl]
  unfold Pipeline.ΦA between
  rw [scopedRest0_eq]
  simp only [scA, scC, scG, owns_whole]
  iintro ⟨⟨⟨%a, HA⟩, ⟨%b, HB⟩, ⟨%d, HD⟩⟩, Hp⟩
  isplitl [HA]
  · iexists a; isplitr
    · ipureintro
      intro y k hk
      omega
    iexact HA
  isplitl [HB]
  · iexists b; isplitr
    · ipureintro
      intro y _ hn
      exact absurd hn (Nat.not_lt_zero _)
    iexact HB
  isplitl [HD]
  · iexists d; isplitr
    · ipureintro
      exact fun e => absurd rfl e
    iexact HD
  iexact Hp

/-- and left so. -/
theorem leave0 (c : Dev nD) : (dat0 (F := F) V c).Φ (Fin.last _) ⊢ Pipeline.ΦA spec0 c := by
  rw [show (dat0 (F := F) V c).Φ (Fin.last _) = between V c cfg0.N from rfl]
  unfold Pipeline.ΦA between
  rw [scopedRest0_eq]
  simp only [scA, scC, scG, owns_whole]
  iintro ⟨⟨%a, -, HA⟩, ⟨%b, -, HB⟩, ⟨%d, -, HD⟩, Hp⟩
  isplitr [Hp]
  · isplitl [HA]; · iexists a; iexact HA
    isplitl [HB]; · iexists b; iexact HB
    iexists d; iexact HD
  iexact Hp

end Cert.Kernel3Ideal.Sink

end
-- ==== Proof.Kernel3Ideal.Run.lean ====
/-
  The run of the third program: what the buffers hold at each boundary between its host operations and its call, and that
  every execution ends with the last of these.
-/
module

public import proofs.«01_k».proof.Proof.Kernel3Ideal.Points
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel3Ideal.Sink

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write: never an argument -/

abbrev args : List (Ref sig .tc) := [main_arg0, main_arg1, main_arg2]
abbrev wr0 : List (Ref sig .tc) := [main_v0]
abbrev wr1 : List (Ref sig .tc) := [main_v2, main_v3, main_cst, main_v4, main_cst_0, main_cst_1, main_v5, main_cst_2, main_v6, main_v7, main_v8,
  main_v9, main_v10, main_cst_3, main_v11, main_v12, main_v13, main_v14, main_v15, main_v16, main_v17]

theorem fresh0 : (hostOps0 : List (HloOp τ sig (Elt F))).Forall fun op => op.fresh = ∅ := by
  simp only [List.Forall]; repeat' constructor
theorem writes0 : (hostOps0 : List (HloOp τ sig (Elt F))).Forall fun op => op.writes ⊆ (wr0.map (Proc.devRef (τ := τ) .tc)).toFinset :=
  StableHlo.forall_writes_sub_of_map rfl
theorem apart0 : ∀ a ∈ args, a ∉ wr0 := ListAll.forall_mem_of_all_decide (by decide +kernel)
theorem fresh1 : (hostOps1 : List (HloOp τ sig (Elt F))).Forall fun op => op.fresh = ∅ := by
  simp only [List.Forall]; repeat' constructor
theorem writes1 : (hostOps1 : List (HloOp τ sig (Elt F))).Forall fun op => op.writes ⊆ (wr1.map (Proc.devRef (τ := τ) .tc)).toFinset :=
  StableHlo.forall_writes_sub_of_map rfl
theorem apart1 : ∀ a ∈ args, a ∉ wr1 := ListAll.forall_mem_of_all_decide (by decide +kernel)

/-! ## The buffers at each boundary -/

/-- At launch, -/
abbrev B0 : Dev nD → Valuation τ sig (Elt F) := fun c b => (s₀ m ρ).mem ((c : Dev nD), b)
theorem B0_args (c : Dev nD) : ∀ a ∈ args, B0 m ρ c (Proc.devRef .tc a) = m ((c : Thread nD τ).loc a) := fun _ _ => rfl
/-- when the call is entered, -/
abbrev B1 : Dev nD → Valuation τ sig (Elt F) := fun c => StableHlo.after hostOps0 (B0 m ρ c)
theorem B1_of (c : Dev nD) (r : Ref sig .tc) (h : r ∉ wr0) : B1 m ρ c (Proc.devRef .tc r) = B0 m ρ c (Proc.devRef .tc r) :=
  StableHlo.after_of_writes_sub hostOps0 _ writes0 h
theorem B1_args (c : Dev nD) : ∀ a ∈ args, B1 m ρ c (Proc.devRef .tc a) = m ((c : Thread nD τ).loc a) :=
  fun a ha => (B1_of m ρ c a (apart0 a ha)).trans (B0_args m ρ c a ha)
abbrev At1 : (c : Dev nD) → (b : Ref sig .tc) → Buf (Elt F) ((c : Thread nD τ).loc b) := fun c b => B1 m ρ c b
/-- when it is left, -/
def B2 (c : Dev nD) : Valuation τ sig (Elt F) :=
  Pipeline.withArrays spec0 c (B1 m ρ c) fun w => (dat0 (At1 m ρ) c).arrAt w cfg0.N
theorem B2_arr (c : Dev nD) (w : Fin cfg0.W) :
    B2 m ρ c (Proc.devRef .tc (Pipeline.arrRef spec0 w)) = (dat0 (At1 m ρ) c).arrAt w cfg0.N := by
  unfold B2; exact (dat0 (At1 m ρ) c).withArrays_arrAt launch₀0.sharedIn (B1 m ρ c) (A_eq0 (At1 m ρ) c) w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (At1 m ρ) c).arrAt_in w (h w rfl) _).trans (A_eq0 (At1 m ρ) c w))
  · exact B2_of_ne m ρ c r fun w e => hw ⟨w, e⟩
theorem only_read0 : ∀ a ∈ args, ∀ w : Fin cfg0.W, Pipeline.arrRef spec0 w = a → (cfg0.win w).isOut = false :=
  ListAll.forall_mem_of_all_decide (by decide +kernel)
theorem B2_args (c : Dev nD) : ∀ a ∈ args, B2 m ρ c (Proc.devRef .tc a) = m ((c : Thread nD τ).loc a) :=
  fun a ha => (B2_of m ρ c a (only_read0 a ha)).trans (B1_args m ρ c a ha)
abbrev At2 : (c : Dev nD) → (b : Ref sig .tc) → Buf (Elt F) ((c : Thread nD τ).loc b) := fun c b => B2 m ρ c b
theorem ends0 (c : Dev nD) (w : Fin cfg0.W) : (dat0 (At1 m ρ) c).arrAt w cfg0.N = At2 m ρ c (Pipeline.arrRef spec0 w) :=
  (B2_arr m ρ c w).symm
theorem stays0 (c : Dev nD) : ∀ b, b ∉ Finset.univ.image (Pipeline.arrRef spec0) → At2 m ρ c b = At1 m ρ c b :=
  fun b hb => B2_of_ne m ρ c b fun w e => hb (Finset.mem_image.mpr ⟨w, Finset.mem_univ _, e⟩)
/-- and at the end. -/
abbrev B3 : Dev nD → Valuation τ sig (Elt F) := fun c => StableHlo.after hostOps1 (B2 m ρ c)
theorem B3_of (c : Dev nD) (r : Ref sig .tc) (h : r ∉ wr1) : B3 m ρ c (Proc.devRef .tc r) = B2 m ρ c (Proc.devRef .tc r) :=
  StableHlo.after_of_writes_sub hostOps1 _ writes1 h
theorem B3_args (c : Dev nD) : ∀ a ∈ args, B3 m ρ c (Proc.devRef .tc a) = m ((c : Thread nD τ).loc a) :=
  fun a ha => (B3_of m ρ c a (apart1 a ha)).trans (B2_args m ρ c a ha)

/-! ## The program as segments -/

abbrev adm : (p : Fin 1) → (pcfgs (F := F) p).Adm := fun p => (cfgs p).toPCfg_adm
/-- Each call's data, from the buffers it is entered with. -/
def pdats : (p : Fin 1) → (c : Dev nD) → Dat τ (Elt F) Unit ℕ (UR sig nD τ) ℕ (Pipeline.pin (pcfgs (F := F)) adm p) c
  | ⟨0, _⟩ => fun c => dat0 (At1 m ρ) c
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state. -/
abbrev Tₙ (c : Dev nD) : sProp 𝕄 := iprop(StableHlo.held (c : Thread nD τ) (Pipeline.ucRefs τ sig) (B3 m ρ c) ∗ ∃ r, prngReg c r)

set_option backward.isDefEq.respectTransparency.types false in
/-- The transport call, from the buffers at its entry to those at its exit. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (obligation0 (At1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (At1 m ρ c) (A_eq0 (At1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (At1 m ρ) c).Φ 0 from rfl]
    iintro ⟨Hp, -, Hr⟩
    iapply (enter0 (At1 m ρ) c)
    unfold Pipeline.ΦA
    isplitl [Hr]; · iexact Hr
    iexact Hp
  hout c := by
    rw [Pipeline.ownSems0_none, show (pdats m ρ 0 c).Φ (Fin.last _) = (dat0 (At1 m ρ) c).Φ (Fin.last _) from rfl]
    have hl := leave0 (F := F) (At1 m ρ) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (At1 m ρ c) (At2 m ρ c) ((pdats m ρ 0 c).arrAt · cfg0.N) (ends0 m ρ c) (stays0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub fresh0 (B0 m ρ)),
    .region (reg0 m ρ),
    .host (hseg hostOps1 hostOps1_sub fresh1 (B2 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution ends, without a fault, with the buffers at the last boundary's contents and every counter at zero. -/
theorem ends_at : θ_run defs (onTc (τ := τ) (main (F := F))) ⟨m, fun _ => 0, ρ⟩ (fun r =>
      (∀ c : Dev nD, ∀ b ∈ Pipeline.ucRefs τ sig, r.2.mem (((c : Thread nD τ)).1, b) = B3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (B3_args m ρ c main_arg0 (by decide)),
      (h.1 c _ (mem_uc main_arg1 (by decide))).trans (B3_args m ρ c main_arg1 (by decide)),
      (h.1 c _ (mem_uc main_arg2 (by decide))).trans (B3_args m ρ c main_arg2 (by decide))⟩, h.2⟩) (ends_at m ρ)

/-- The result ends at the last boundary's contents, the arguments as launched. -/
theorem result : θ_run defs (onTc (τ := τ) (main (F := F))) ⟨m, fun _ => 0, ρ⟩ (fun r => ∀ c : Dev nD,
      r.2.mem ((c.tc : Thread nD τ).loc main_v17) = B3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1 c _ (mem_uc main_v17 (by decide)),
      (h.1 c _ (mem_uc main_arg0 (by decide))).trans (B3_args m ρ c main_arg0 (by decide)),
      (h.1 c _ (mem_uc main_arg1 (by decide))).trans (B3_args m ρ c main_arg1 (by decide)),
      (h.1 c _ (mem_uc main_arg2 (by decide))).trans (B3_args m ρ c main_arg2 (by decide))⟩) (ends_at m ρ)

end Cert.Kernel3Ideal.Sink

end
-- ==== Proof.SinkHost.lean ====
/-
  The transport call's results. Pass by pass the scratch memory holds the plan, scaled once more, and the sums of its
  columns; the last pass adds the four row blocks' shares of the losses, and the host finishes two of them.
-/
module

public import proofs.«01_k».proof.Proof.SinkBlock
public import proofs.«01_k».proof.Proof.EncodeTake
public import proofs.«01_k».proof.Proof.Kernel3Ideal.Run

@[expose] public section

set_option maxRecDepth 16384

noncomputable section

namespace Cert.Sink

open Idealize.ShloMosaic hiding ix0 ix1 ix2 ix3 eq_ix1 eq_ix2 eq_ix3
open Idealize.ShloMosaic.TcCoe Idealize.ShloMosaic.ValueIdx Idealize.ShloMosaic.Tactic Cert.Align Cert.Encode Cert.Kernel3Ideal Cert.Kernel3Ideal.Gen
open Cert.Kernel3Ideal.Sink hiding level
open Idealize.ShloMosaic.Pipeline (Dat)
open scoped BigOperators

/-! ## The answer -/

/-- Three numbers side by side, as both programs return them. -/
def three (x y z : EReal) : Vec Ideal S3 .f32 :=
  concatenate S3 0 [⟨S1, broadcastInDim S1 ![] bcast_S_S1 ((fun _ => x) : Vec Ideal S_ .f32)⟩,
    ⟨S1, broadcastInDim S1 ![] bcast_S_S1 ((fun _ => y) : Vec Ideal S_ .f32)⟩,
    ⟨S1, broadcastInDim S1 ![] bcast_S_S1 ((fun _ => z) : Vec Ideal S_ .f32)⟩] concatenates_S1_S1_S1_S3_d0

/-- A network's row sums of squares. -/
def squares (n : Vec Ideal S2x1x2048 .f32) (k : Fin 2) (r : Fin 2048) : EReal := n (ix3 k 0 r)

/-- The three results as a function of the hidden matrices, their row sums of squares and the square matrix. -/
def sinkAnswer (X : Vec Ideal S2x2048x128 .f32) (n : Vec Ideal S2x1x2048 .f32) (M : Vec Ideal S1x128x128 .f32) : Vec Ideal S3 .f32 :=
  three (alignTotal (squares n 0) (squares n 1) (page (n := 2) (a := 2048) (b := 128) X 0) (page (n := 2) (a := 2048) (b := 128) X 1) (slab (a := 128) (b := 128) M))
    (marginTotal (page (n := 2) (a := 2048) (b := 128) X 0) (page (n := 2) (a := 2048) (b := 128) X 1) (slab (a := 128) (b := 128) M))
    (sparseTotal (page (n := 2) (a := 2048) (b := 128) X 0) (page (n := 2) (a := 2048) (b := 128) X 1) (slab (a := 128) (b := 128) M))

/-! ## What a point reads -/

variable (V : (c : Dev nD) → (b : Ref sig .tc) → Buf (Elt Ideal) ((c : Thread nD τ).loc b)) (c : Dev nD)

def hid (k : Fin 2) : Mat 2048 128 := page (n := 2) (a := 2048) (b := 128) (V c main_arg0) k
def sqs (k : Fin 2) : Fin 2048 → EReal := squares (V c main_arg1) k
def mat : Mat 128 128 := V c main_v0

/-- The row block a point works on. -/
def blk (t : Fin cfg0.N) : Fin 4 := ⟨t.val % 4, Nat.mod_lt _ (by decide)⟩

theorem at_map : ∀ t : Fin cfg0.N, win0_0.index t 0 = 0 ∧ win0_0.index t 1 = 0 := by decide +kernel
theorem at_rows : ∀ t : Fin cfg0.N, win0_1.index t 0 = 0 ∧ win0_1.index t 1 = t.val % 4 ∧ win0_1.index t 2 = 0 := by decide +kernel
theorem at_target : ∀ t : Fin cfg0.N, win0_2.index t 0 = 1 ∧ win0_2.index t 1 = 0 ∧ win0_2.index t 2 = 0 := by decide +kernel
theorem at_squares : ∀ t : Fin cfg0.N, win0_3.index t 0 = 0 ∧ win0_3.index t 1 = 0 ∧ win0_3.index t 2 = t.val % 4 := by decide +kernel
theorem at_squares' : ∀ t : Fin cfg0.N, win0_4.index t 0 = 1 ∧ win0_4.index t 1 = 0 ∧ win0_4.index t 2 = 0 := by decide +kernel

theorem read_map (t : Fin cfg0.N) : (iblk V c 0 t : Mat 128 128) = mat V c := by
  funext j
  unfold iblk mat
  rw [View.read_apply]
  show V c main_v0 _ = V c main_v0 _
  congr 1; funext a; apply Fin.ext
  match a with
  | ⟨0, _⟩ => show win0_0.index t 0 * 128 + 1 * (j 0).val = (j 0).val; rw [(at_map t).1]; omega
  | ⟨1, _⟩ => show win0_0.index t 1 * 128 + 1 * (j 1).val = (j 1).val; rw [(at_map t).2]; omega

theorem read_rows (t : Fin cfg0.N) : slab (a := 512) (b := 128) (iblk V c 1 t) = rows (hid V c 0) (blk t) := by
  funext j
  unfold slab iblk
  rw [View.read_apply]
  show V c main_arg0 _ = V c main_arg0 _
  congr 1; funext a; apply Fin.ext
  match a with
  | ⟨0, _⟩ => show win0_1.index t 0 * 1 + 1 * 0 = 0; rw [(at_rows t).1]
  | ⟨1, _⟩ => show win0_1.index t 1 * 512 + 1 * (j 0).val = t.val % 4 * 512 + (j 0).val; rw [(at_rows t).2.1]; omega
  | ⟨2, _⟩ => show win0_1.index t 2 * 128 + 1 * (j 1).val = (j 1).val; rw [(at_rows t).2.2]; omega

theorem read_target (t : Fin cfg0.N) : slab (a := 2048) (b := 128) (iblk V c 2 t) = hid V c 1 := by
  funext j
  unfold slab iblk
  rw [View.read_apply]
  show V c main_arg0 _ = V c main_arg0 _
  congr 1; funext a; apply Fin.ext
  match a with
  | ⟨0, _⟩ => show win0_2.index t 0 * 1 + 1 * 0 = 1; rw [(at_target t).1]
  | ⟨1, _⟩ => show win0_2.index t 1 * 2048 + 1 * (j 0).val = (j 0).val; rw [(at_target t).2.1]; omega
  | ⟨2, _⟩ => show win0_2.index t 2 * 128 + 1 * (j 1).val = (j 1).val; rw [(at_target t).2.2]; omega

theorem read_squares (t : Fin cfg0.N) :
    line (b := 512) (iblk V c 3 t) = fun k => sqs V c 0 ⟨(blk t).val * 512 + k.val, by have := (blk t).isLt; have := k.isLt; omega⟩ := by
  funext j
  unfold line iblk
  rw [View.read_apply]
  show V c main_arg1 _ = V c main_arg1 _
  congr 1; funext a; apply Fin.ext
  match a with
  | ⟨0, _⟩ => show win0_3.index t 0 * 1 + 1 * 0 = 0; rw [(at_squares t).1]
  | ⟨1, _⟩ => show win0_3.index t 1 * 1 + 1 * 0 = 0; rw [(at_squares t).2.1]
  | ⟨2, _⟩ => show win0_3.index t 2 * 512 + 1 * j.val = t.val % 4 * 512 + j.val; rw [(at_squares t).2.2]; omega

theorem read_squares' (t : Fin cfg0.N) : line (b := 2048) (iblk V c 4 t) = sqs V c 1 := by
  funext j
  unfold line iblk
  rw [View.read_apply]
  show V c main_arg1 _ = V c main_arg1 _
  congr 1; funext a; apply Fin.ext
  match a with
  | ⟨0, _⟩ => show win0_4.index t 0 * 1 + 1 * 0 = 1; rw [(at_squares' t).1]
  | ⟨1, _⟩ => show win0_4.index t 1 * 1 + 1 * 0 = 0; rw [(at_squares' t).2.1]
  | ⟨2, _⟩ => show win0_4.index t 2 * 2048 + 1 * j.val = j.val; rw [(at_squares' t).2.2]; omega

/-! ## The passes -/

/-- The cost of each pair. -/
def price : Mat 2048 2048 := cost (hid V c 0) (hid V c 1) (mat V c)

variable (hH : ∀ k, AllReal (hid V c k)) (hM : AllReal (mat V c))
include hH hM

theorem price_real : AllReal (price V c) := cost_real (hH 0) (hH 1) hM

/-- The point that first meets a block. -/
theorem blk_pt (b : Fin 4) : blk (pt b.val) = b := by
  apply Fin.ext
  show b.val % 16 % 4 = b.val
  omega

theorem first_block (b : Fin 4) : k0_pay13 (iblk V c 1 (pt b.val)) (target V c) = rowNorm (start (rows (price V c) b)) := by
  refine first_pass _ _ _ (fun i => price_real V c hH hM _) ?_
  rw [read_rows, blk_pt V c hH hM]
  have e : (target V c : Mat 2048 128) = prod (hid V c 1) (prod (mat V c) (flip (mat V c))) := by
    unfold target
    refine (target_block _ _).trans ?_
    rw [read_target, read_map]
  rw [e]
  exact (cost_regrouped (fun i => hH 0 _) (hH 1) hM).trans (rows_cost _ _ _ b).symm

omit hH hM in
/-- Four blocks' sums of a column are the column's sum. -/
theorem four_sums (P : ℕ → Mat 512 2048) (A : Mat 2048 2048) (h : ∀ b : Fin 4, P b.val = rows A b) (k : Fin 2048) :
    0 + colSum (P 0) k + colSum (P 1) k + colSum (P 2) k + colSum (P 3) k = colSum A k := by
  rw [colSum_blocks, Fin.sum_univ_four, ← h 0, ← h 1, ← h 2, ← h 3, zero_add]
  rfl

omit hH hM in
theorem rec_four {α : Type} (z : α) (f : ℕ → α → α) :
    Nat.rec (motive := fun _ => α) z f 4 = f 3 (f 2 (f 1 (f 0 z))) := rfl

/-- After each pass the scratch memory holds the plan scaled so many times, and the sums of its columns. -/
theorem level_value : ∀ k, (∀ b : Fin 4, (Cert.Kernel3Ideal.Sink.level V c k).1 b.val = rows (level (price V c) k) b)
    ∧ (Cert.Kernel3Ideal.Sink.level V c k).2 4 = fun i => colSum (level (price V c) k) (i 1)
  | 0 => by
    have hb := first_block V c hH hM
    refine ⟨fun b => (first_stored _ _).trans (hb b), ?_⟩
    have e : (Cert.Kernel3Ideal.Sink.level V c 0).2 4 = Nat.rec (motive := fun _ => Vec Ideal S1x2048 .f32) (k0_pay11 (F := Ideal))
        (fun b s => k0_pay1 (F := Ideal) (k0_pay13 (iblk V c 1 (pt b)) (target V c)) s) 4 := rfl
    rw [e, rec_four, add_sums, add_sums, add_sums, add_sums, no_sums]
    funext i
    exact four_sums (fun n => k0_pay13 (F := Ideal) (iblk V c 1 (pt n)) (target V c)) (level (price V c) 0) hb (i 1)
  | k + 1 => by
    obtain ⟨ih, ihs⟩ := level_value k
    have hn := level_nonneg (price_real V c hH hM) k
    have hb : ∀ b : Fin 4, k0_pay3 (F := Ideal) ((Cert.Kernel3Ideal.Sink.level V c k).1 b.val) ((Cert.Kernel3Ideal.Sink.level V c k).2 4)
        = rows (level (price V c) (k + 1)) b := fun b => by
      rw [ih b, ihs]
      refine (next_pass _ _ ?_ ?_).trans rfl
      · exact fun i => hn _
      · exact fun i => hn.colSum _
    refine ⟨fun b => (next_stored _ _).trans (hb b), ?_⟩
    have e : (Cert.Kernel3Ideal.Sink.level V c (k + 1)).2 4 = Nat.rec (motive := fun _ => Vec Ideal S1x2048 .f32) (k0_pay2 (F := Ideal))
        (fun b s => k0_pay5 (F := Ideal) ((Cert.Kernel3Ideal.Sink.level V c k).1 b) ((Cert.Kernel3Ideal.Sink.level V c k).2 4) s) 4 := rfl
    rw [e, rec_four, next_sums, next_sums, next_sums, next_sums, no_sums']
    funext i
    exact four_sums (fun n => k0_pay3 (F := Ideal) ((Cert.Kernel3Ideal.Sink.level V c k).1 n) ((Cert.Kernel3Ideal.Sink.level V c k).2 4))
      (level (price V c) (k + 1)) hb (i 1)

/-! ## The losses' sums -/

/-- A block of the plan with its columns scaled last. -/
theorem plan_block (b : Fin 4) : k0_pay18 (lastSums V c) (lastBlock V c b.val) = rows (plan (price V c)) b := by
  obtain ⟨ih, ihs⟩ := level_value V c hH hM 2
  unfold lastSums lastBlock
  rw [ih b, ihs]
  refine (last_cols _ _ ?_).trans rfl
  exact fun i => (level_nonneg (price_real V c hH hM) 2).colSum _

def aligned : Mat 2048 2048 := fun i => plan (price V c) i * dist (sqs V c 0) (sqs V c 1) (hid V c 0) (hid V c 1) i
def spread : Mat 2048 2048 := fun i => entropy (plan (price V c) i)

theorem align_step (b : Fin 4) (t : Fin cfg0.N) (ht : blk t = b) (p : EReal) :
    alStep (F := Ideal) (lastSums V c) (lastBlock V c b.val) (iblk V c 1 t) (iblk V c 2 t) (iblk V c 3 t) (iblk V c 4 t) p
      = p + ∑ i, rows (aligned V c) b i := by
  subst ht
  unfold alStep
  rw [plan_block V c hH hM, align_block, read_rows, read_target, read_squares, read_squares']
  rfl

theorem sparse_step (b : Fin 4) (p : EReal) :
    spStep (F := Ideal) (lastSums V c) (lastBlock V c b.val) p = p + ∑ i, rows (spread V c) b i := by
  unfold spStep
  rw [plan_block V c hH hM b, entropy_block]
  rfl

theorem align_value : alAt V c 3 = alignTotal (sqs V c 0) (sqs V c 1) (hid V c 0) (hid V c 1) (mat V c) := by
  refine (align_step V c hH hM 3 (pt 15) rfl _).trans ?_
  rw [show alAt V c 2 = _ from align_step V c hH hM 2 (pt 14) rfl _, show alAt V c 1 = _ from align_step V c hH hM 1 (pt 13) rfl _,
    show alAt V c 0 = _ from align_step V c hH hM 0 (pt 12) rfl _]
  refine Eq.trans ?_ ((sum_blocks (aligned V c)).trans (Fin.sum_univ_four _)).symm
  show Ideal.ofBits .f32 0x00000000#32 + _ + _ + _ + _ = _
  rw [Ideal.ofBits_zero_f32, zero_add]

theorem sparse_value : spAt V c 3 = ∑ i, entropy (plan (price V c) i) := by
  refine (sparse_step V c hH hM 3 _).trans ?_
  rw [show spAt V c 2 = _ from sparse_step V c hH hM 2 _, show spAt V c 1 = _ from sparse_step V c hH hM 1 _,
    show spAt V c 0 = _ from sparse_step V c hH hM 0 _]
  refine Eq.trans ?_ ((sum_blocks (spread V c)).trans (Fin.sum_univ_four _)).symm
  show Ideal.ofBits .f32 0x00000000#32 + _ + _ + _ + _ = _
  rw [Ideal.ofBits_zero_f32, zero_add]

theorem margin_value : k0_pay16 (F := Ideal) (lastSums V c)
    = ∑ k, excess (Ideal.div one nodes) (mass (colSum (level (price V c) 2) k)) := by
  unfold lastSums
  rw [(level_value V c hH hM 2).2, margin_block]

omit hH hM

/-! ## The arrays the sums are written to -/

theorem at_sum : ∀ t : Fin cfg0.N, (win0_7.index t 0 = 0 ∧ win0_7.index t 1 = 0) ∧ (win0_8.index t 0 = 0 ∧ win0_8.index t 1 = 0)
    ∧ (win0_9.index t 0 = 0 ∧ win0_9.index t 1 = 0) := by decide +kernel

/-- The last point. -/
def final : Fin cfg0.N := ⟨15, lt_of_lt_of_eq (by decide) N_0.symm⟩

theorem align_array : (dat0 V c).arrAt 7 cfg0.N = ((fun _ => alAt V c 3) : Buf (Elt Ideal) ((c : Thread nD τ).loc main_v1_2)) :=
  (dat0 V c).arrAt_eq_of_cover 7 ((fun _ => alAt V c 3) : Buf (Elt Ideal) ((c : Thread nD τ).loc main_v1_2))
    (fun t hf => by
      have ht : t.val = 15 := by have := (flush0_7 t).mp hf; have := lt16 t; omega
      show (cfg0.win 7).cut (grid0.coords t) ((dat0 V c).after 7 t) = _
      rw [after_7, ht]
      rfl)
    fun i => by
      have h0 : (i 0 : Nat) < 1 := (i 0).isLt
      have h1 : (i 1 : Nat) < 1 := (i 1).isLt
      refine ⟨final, (flush0_7 _).mpr rfl, ?_⟩
      show i ∈ ((View.whole main_v1_2).slice (win0_7.rect final)).set
      rw [View.set_slice_whole, Rect.mem_set_unit]
      intro a
      match a with
      | ⟨0, _⟩ => show win0_7.index final 0 * 1 ≤ (i 0 : Nat) ∧ (i 0 : Nat) < win0_7.index final 0 * 1 + 1
                  rw [(at_sum final).1.1]; omega
      | ⟨1, _⟩ => show win0_7.index final 1 * 1 ≤ (i 1 : Nat) ∧ (i 1 : Nat) < win0_7.index final 1 * 1 + 1
                  rw [(at_sum final).1.2]; omega

theorem sparse_array : (dat0 V c).arrAt 8 cfg0.N = ((fun _ => spAt V c 3) : Buf (Elt Ideal) ((c : Thread nD τ).loc main_v1_3)) :=
  (dat0 V c).arrAt_eq_of_cover 8 ((fun _ => spAt V c 3) : Buf (Elt Ideal) ((c : Thread nD τ).loc main_v1_3))
    (fun t hf => by
      have ht : t.val = 15 := by have := (flush0_8 t).mp hf; have := lt16 t; omega
      show (cfg0.win 8).cut (grid0.coords t) ((dat0 V c).after 8 t) = _
      rw [after_8, ht]
      rfl)
    fun i => by
      have h0 : (i 0 : Nat) < 1 := (i 0).isLt
      have h1 : (i 1 : Nat) < 1 := (i 1).isLt
      refine ⟨final, (flush0_8 _).mpr rfl, ?_⟩
      show i ∈ ((View.whole main_v1_3).slice (win0_8.rect final)).set
      rw [View.set_slice_whole, Rect.mem_set_unit]
      intro a
      match a with
      | ⟨0, _⟩ => show win0_8.index final 0 * 1 ≤ (i 0 : Nat) ∧ (i 0 : Nat) < win0_8.index final 0 * 1 + 1
                  rw [(at_sum final).2.1.1]; omega
      | ⟨1, _⟩ => show win0_8.index final 1 * 1 ≤ (i 1 : Nat) ∧ (i 1 : Nat) < win0_8.index final 1 * 1 + 1
                  rw [(at_sum final).2.1.2]; omega

theorem margin_array :
    (dat0 V c).arrAt 9 cfg0.N = ((fun _ => k0_pay16 (F := Ideal) (lastSums V c)) : Buf (Elt Ideal) ((c : Thread nD τ).loc main_v1_4)) :=
  (dat0 V c).arrAt_eq_of_cover 9 ((fun _ => k0_pay16 (F := Ideal) (lastSums V c)) : Buf (Elt Ideal) ((c : Thread nD τ).loc main_v1_4))
    (fun t hf => by
      have ht : t.val = 15 := by have := (flush0_9 t).mp hf; have := lt16 t; omega
      show (cfg0.win 9).cut (grid0.coords t) ((dat0 V c).after 9 t) = _
      rw [after_9]
      rfl)
    fun i => by
      have h0 : (i 0 : Nat) < 1 := (i 0).isLt
      have h1 : (i 1 : Nat) < 1 := (i 1).isLt
      refine ⟨final, (flush0_9 _).mpr rfl, ?_⟩
      show i ∈ ((View.whole main_v1_4).slice (win0_9.rect final)).set
      rw [View.set_slice_whole, Rect.mem_set_unit]
      intro a
      match a with
      | ⟨0, _⟩ => show win0_9.index final 0 * 1 ≤ (i 0 : Nat) ∧ (i 0 : Nat) < win0_9.index final 0 * 1 + 1
                  rw [(at_sum final).2.2.1]; omega
      | ⟨1, _⟩ => show win0_9.index final 1 * 1 ≤ (i 1 : Nat) ∧ (i 1 : Nat) < win0_9.index final 1 * 1 + 1
                  rw [(at_sum final).2.2.2]; omega

/-! ## The whole program -/

variable (m : (ℓ : Loc nD τ sig) → Buf (Elt Ideal) ℓ) (ρ : Dev nD → PrngReg)

/-- What the call reads: the square matrix without its leading axis, -/
theorem B1_mat : mat (At1 m ρ) c = slab (a := 128) (b := 128) (m ((c : Thread nD τ).loc main_arg2)) := by
  have e : At1 m ρ c main_v0 = shapeCast S128x128 (m ((c : Thread nD τ).loc main_arg2) : Vec Ideal S1x128x128 .f32) shapeCasts_S1x128x128_S128x128 := by
    unfold At1 B1 hostOps0; after_results_simp; rfl
  unfold mat
  rw [e]
  exact squeeze_slab (a := 128) (b := 128) _ _

/-- and the other two arguments. -/
theorem B1_hid (k : Fin 2) : hid (At1 m ρ) c k = page (n := 2) (a := 2048) (b := 128) (m ((c : Thread nD τ).loc main_arg0)) k := by
  unfold hid
  rw [show At1 m ρ c main_arg0 = m ((c : Thread nD τ).loc main_arg0) from B1_args m ρ c main_arg0 (by decide)]
theorem B1_sqs (k : Fin 2) : sqs (At1 m ρ) c k = squares (m ((c : Thread nD τ).loc main_arg1)) k := by
  unfold sqs
  rw [show At1 m ρ c main_arg1 = m ((c : Thread nD τ).loc main_arg1) from B1_args m ρ c main_arg1 (by decide)]

theorem three_of (x y z : EReal) (p q r : Vec Ideal S1 .f32)
    (hp : p = broadcastInDim S1 ![] bcast_S_S1 ((fun _ => x) : Vec Ideal S_ .f32))
    (hq : q = broadcastInDim S1 ![] bcast_S_S1 ((fun _ => y) : Vec Ideal S_ .f32))
    (hr : r = broadcastInDim S1 ![] bcast_S_S1 ((fun _ => z) : Vec Ideal S_ .f32)) :
    concatenate S3 0 [⟨S1, p⟩, ⟨S1, q⟩, ⟨S1, r⟩] concatenates_S1_S1_S1_S3_d0 = three x y z := by
  subst hp hq hr; rfl

/-- The last stretch of host code finishes the second loss, negates the third and puts the three side by side. -/
theorem B3_v17 (x y z : EReal) (hx : B2 m ρ c (Proc.devRef .tc main_v1_2) = ((fun _ => x) : Buf (Elt Ideal) ((c : Thread nD τ).loc main_v1_2)))
    (hz : B2 m ρ c (Proc.devRef .tc main_v1_3) = ((fun _ => z) : Buf (Elt Ideal) ((c : Thread nD τ).loc main_v1_3)))
    (hy : B2 m ρ c (Proc.devRef .tc main_v1_4) = ((fun _ => y) : Buf (Elt Ideal) ((c : Thread nD τ).loc main_v1_4))) :
    B3 m ρ c (Proc.devRef .tc main_v17)
      = (three x ((Ideal.div y nodes - excess (Ideal.div one nodes) (Ideal.div one nodes)) * nodes) (-z) :
        Buf (Elt Ideal) ((c : Thread nD τ).loc main_v17)) := by
  unfold B3 hostOps1; after_results_simp
  dsimp only [Matrix.cons_val]
  refine (three_of _ _ _ _ _ _ ?_ ?_ ?_)
  · after_results_simp
    rw [hx]; rfl
  · after_results_simp
    rw [hy]; rfl
  · after_results_simp
    rw [hz]; rfl

/-- The three results as a function of what the program was launched with. -/
def kernelAnswer : Vec Ideal S3 .f32 :=
  sinkAnswer (m ((c : Thread nD τ).loc main_arg0)) (m ((c : Thread nD τ).loc main_arg1)) (m ((c : Thread nD τ).loc main_arg2))

theorem kernel_value (hH : ∀ k, AllReal (page (n := 2) (a := 2048) (b := 128) (m ((c : Thread nD τ).loc main_arg0)) k))
    (hM : AllReal (slab (a := 128) (b := 128) (m ((c : Thread nD τ).loc main_arg2)))) :
    B3 m ρ c (Proc.devRef .tc main_v17) = (kernelAnswer c m : Buf (Elt Ideal) ((c : Thread nD τ).loc main_v17)) := by
  have h1 : ∀ k, AllReal (hid (At1 m ρ) c k) := fun k => by rw [B1_hid]; exact hH k
  have h2 : AllReal (mat (At1 m ρ) c) := by rw [B1_mat]; exact hM
  rw [B3_v17 c m ρ _ _ _ ((B2_arr m ρ c 7).trans (align_array (At1 m ρ) c)) ((B2_arr m ρ c 8).trans (sparse_array (At1 m ρ) c))
      ((B2_arr m ρ c 9).trans (margin_array (At1 m ρ) c)),
    align_value _ _ h1 h2, sparse_value _ _ h1 h2, margin_value _ _ h1 h2]
  unfold kernelAnswer sinkAnswer price
  rw [← B1_hid c m ρ 0, ← B1_hid c m ρ 1, ← B1_sqs c m ρ 0, ← B1_sqs c m ρ 1, ← B1_mat c m ρ]
  rfl

end Cert.Sink

end
-- ==== Proof.SinkRef.lean ====
/-
  The reference of the transport call, stage by stage: its host code as functions of matrices, and its three results.
-/
module

public import proofs.«01_k».proof.Proof.Gen.Reference3Ideal.Run
public import proofs.«01_k».proof.Proof.EncodeRef
public import proofs.«01_k».proof.Proof.SinkHost
public import Idealize.ShloMosaic.Lib.KernelVsHost

@[expose] public section

set_option maxRecDepth 16384

noncomputable section

namespace Cert.Sink

open Idealize.ShloMosaic hiding ix0 ix1 ix2 ix3 eq_ix1 eq_ix2 eq_ix3
open Idealize.ShloMosaic.TcCoe Idealize.ShloMosaic.ValueIdx Cert.Align Cert.Encode Cert.Reference3Ideal Cert.Reference3Ideal.Gen
open Cert.Reference3Ideal.Value
open scoped BigOperators

/-! ## Shapes and sums -/

/-- A vector as a row. -/
theorem hostRowOf (v : (⟨1, ![2048]⟩ : Shape).Idx → EReal) (h : (⟨1, ![2048]⟩ : Shape).BroadcastsInDim ⟨2, ![1, 2048]⟩ ![1]) :
    broadcastInDim ⟨2, ![1, 2048]⟩ ![1] h v = fun i : (⟨2, ![1, 2048]⟩ : Shape).Idx => v (ix1 (i 1)) :=
  funext fun i => broadcastInDim_apply _ h v i (ix1 (i 1)) fun a => by
    match a with
    | ⟨0, _⟩ => show (i 1).val = if (2048 : ℕ) = 1 then 0 else (i 1).val; rw [if_neg (by decide)]

/-- A column repeated along the rows, -/
theorem hostAcross (M : Mat 2048 1) (h : (⟨2, ![2048, 1]⟩ : Shape).BroadcastsInDim ⟨2, ![2048, 2048]⟩ ![0, 1]) :
    broadcastInDim ⟨2, ![2048, 2048]⟩ ![0, 1] h M = fun i : (⟨2, ![2048, 2048]⟩ : Shape).Idx => M (ix2 (i 0) 0) :=
  funext fun i => broadcastInDim_apply _ h M i (ix2 (i 0) 0) fun a => by
    match a with
    | ⟨0, _⟩ => show (i 0).val = if (2048 : ℕ) = 1 then 0 else (i 0).val; rw [if_neg (by decide)]
    | ⟨1, _⟩ => rfl

/-- and a row repeated down the columns. -/
theorem hostDown (M : Mat 1 2048) (h : (⟨2, ![1, 2048]⟩ : Shape).BroadcastsInDim ⟨2, ![2048, 2048]⟩ ![0, 1]) :
    broadcastInDim ⟨2, ![2048, 2048]⟩ ![0, 1] h M = fun i : (⟨2, ![2048, 2048]⟩ : Shape).Idx => M (ix2 0 (i 1)) :=
  funext fun i => broadcastInDim_apply _ h M i (ix2 0 (i 1)) fun a => by
    match a with
    | ⟨0, _⟩ => rfl
    | ⟨1, _⟩ => show (i 1).val = if (2048 : ℕ) = 1 then 0 else (i 1).val; rw [if_neg (by decide)]

theorem host_rowSum (A : FVec Ideal S2048x2048 .f32) :
    (Host.reduceAdd A (constant S_ .f32 0x00000000#32) reducesTo_S2048x2048_S2048_d1 h_S_ : FVec Ideal S2048 .f32)
      = fun j : S2048.Idx => rowSum (a := 2048) (b := 2048) A (j 0) := hostRowSums (a := 2048) (b := 2048) A _

theorem host_colSum (A : FVec Ideal S2048x2048 .f32) :
    (Host.reduceAdd A (constant S_ .f32 0x00000000#32) reducesTo_S2048x2048_S2048_d0 h_S_ : FVec Ideal S2048 .f32)
      = fun j : S2048.Idx => colSum (a := 2048) (b := 2048) A (j 0) := by
  funext j
  rw [hostReduceAdd_apply]
  refine (Ideal.hostReduceAdd_r2_a0 (n0 := 2048) (n1 := 2048) reducesTo_S2048x2048_S2048_d0 A _ j).trans ?_
  show Ideal.ofBits .f32 0x00000000#32 + _ = _
  rw [Ideal.ofBits_zero_f32, zero_add]
  rfl

theorem host_rowTop (A : FVec Ideal S2048x2048 .f32) :
    (Host.reduce FloatOps.maximumf A (constant S_ .f32 0xFF800000#32) reducesTo_S2048x2048_S2048_d1 h_S_ : FVec Ideal S2048 .f32)
      = fun j : S2048.Idx => rowTop (a := 2048) (b := 2048) A (j 0) :=
  (hostReduce_maximumf_eq_multiReduction (F := Ideal) (φ := .f32) A 0xFF800000#32 reducesTo_S2048x2048_S2048_d1 h_S_
    (by decide) (.inl rfl) rfl).trans (rowTops (a := 2048) (b := 2048) A _ _ _)

theorem host_vectorTotal (x : FVec Ideal S2048 .f32) :
    (Host.reduceAdd x (constant S_ .f32 0x00000000#32) reducesTo_S2048_S_d0 h_S_ : FVec Ideal S_ .f32)
      = fun _ => ∑ k : Fin 2048, x (ix1 k) := by
  funext j
  rw [hostReduceAdd_apply]
  refine (Ideal.hostReduceAdd_r1_a0 (n0 := 2048) reducesTo_S2048_S_d0 x _ j).trans ?_
  show Ideal.ofBits .f32 0x00000000#32 + _ = _
  rw [Ideal.ofBits_zero_f32, zero_add]
  rfl

theorem host_total (A : FVec Ideal S2048x2048 .f32) :
    (Host.reduceAdd A (constant S_ .f32 0x00000000#32) reducesTo_S2048x2048_S_d0_1 h_S_ : FVec Ideal S_ .f32) = fun _ => ∑ i, A i :=
  funext fun j => hostTotal (a := 2048) (b := 2048) A _ _ _ Ideal.ofBits_zero_f32 j

/-- A network's row sums of squares, as the reference cuts them out. -/
theorem cut_squares (n : FVec Ideal S2x1x2048 .f32) (k : Fin 2) (h : S2x1x2048.Slices ![k.val, 0, 0] S1x1x2048) :
    shapeCast S2048 (extractStridedSlice S1x1x2048 ![k.val, 0, 0] n h) shapeCasts_S1x1x2048_S2048
      = fun i : S2048.Idx => squares n k (i 0) := by
  rw [squeeze_line (b := 2048)]
  funext i
  refine extractStridedSlice_apply _ n h _ (ix3 k 0 (i 0)) fun e => ?_
  match e with
  | ⟨0, _⟩ => rfl
  | ⟨1, _⟩ => rfl
  | ⟨2, _⟩ => exact (Nat.zero_add _).symm

/-- A row of ones times a matrix is its columns' sums. -/
theorem host_ones (A : FVec Ideal S2048x2048 .f32) :
    (Host.dotGeneral dot_S2048_S2048x2048_S2048_0_0_n_1_n_n none (broadcastInDim S2048 ![] bcast_S_S2048 (constant S_ .f32 0x3F800000#32)) A :
      FVec Ideal S2048 .f32) = fun j : S2048.Idx => colSum (a := 2048) (b := 2048) A (j 0) := by
  set D := dot_S2048_S2048x2048_S2048_0_0_n_1_n_n with hD
  have hr : D.contr.rank = 1 := rfl
  have hs : D.contr.size ⟨0, by rw [hr]; exact Nat.one_pos⟩ = 2048 := rfl
  funext j
  show FloatOps.dotGeneral D _ _ _ _ j = _
  rw [Ideal.dotGeneral_apply, ← Equiv.sum_comp (contrEquiv1 D 2048 hr hs).symm]
  refine Finset.sum_congr rfl fun l _ => ?_
  have hk := contrEquiv1_symm_val D 2048 hr hs l
  have er : D.rhsIdx j ((contrEquiv1 D 2048 hr hs).symm l) = ix2 l (j 0) := by
    funext x; apply Fin.ext
    match x with
    | ⟨0, _⟩ => exact hk
    | ⟨1, _⟩ => rfl
  rw [er]
  show Ideal.ofBits .f32 0x3F800000#32 * A (ix2 l (j 0)) = A (ix2 l (j 0))
  rw [one_bits, one_mul]

/-! ## The scaling -/

theorem host_rows (A : FVec Ideal S2048x2048 .f32) :
    (Host.divf A (broadcastInDim S2048x2048 ![0, 1] bcast_S2048x1_S2048x2048_0_1 (addf (broadcastInDim S2048x1 ![0] bcast_S2048_S2048x1_0
      (Host.reduceAdd A (constant S_ .f32 0x00000000#32) reducesTo_S2048x2048_S2048_d1 h_S_))
      (broadcastInDim S2048x1 ![] bcast_S_S2048x1 (constant S_ .f32 0x322BCC77#32)))) : FVec Ideal S2048x2048 .f32)
      = rowNorm (a := 2048) (b := 2048) A := by
  rw [host_rowSum, hostColumnOf, hostAcross]; rfl

theorem host_cols (A : FVec Ideal S2048x2048 .f32) :
    (Host.divf A (broadcastInDim S2048x2048 ![0, 1] bcast_S1x2048_S2048x2048_0_1 (addf (broadcastInDim S1x2048 ![1] bcast_S2048_S1x2048_1
      (Host.reduceAdd A (constant S_ .f32 0x00000000#32) reducesTo_S2048x2048_S2048_d0 h_S_))
      (broadcastInDim S1x2048 ![] bcast_S_S1x2048 (constant S_ .f32 0x322BCC77#32)))) : FVec Ideal S2048x2048 .f32)
      = colNorm (a := 2048) (b := 2048) A := by
  rw [host_colSum, hostRowOf, hostDown]; rfl

theorem host_weights (C : FVec Ideal S2048x2048 .f32) :
    (Host.exp (subf C (broadcastInDim S2048x2048 ![0, 1] bcast_S2048x1_S2048x2048_0_1 (broadcastInDim S2048x1 ![0] bcast_S2048_S2048x1_0
      (maximumf (broadcastInDim S2048 ![] bcast_S_S2048 (constant S_ .f32 0xFF800000#32))
        (Host.reduce FloatOps.maximumf C (constant S_ .f32 0xFF800000#32) reducesTo_S2048x2048_S2048_d1 h_S_))))) : FVec Ideal S2048x2048 .f32)
      = weights (a := 2048) (b := 2048) C := by
  have e : (maximumf (broadcastInDim S2048 ![] bcast_S_S2048 (constant S_ .f32 0xFF800000#32))
      (fun j : S2048.Idx => rowTop (a := 2048) (b := 2048) C (j 0)) : FVec Ideal S2048 .f32)
      = fun j : S2048.Idx => rowTop (a := 2048) (b := 2048) C (j 0) := funext fun j => by
    show max (Ideal.ofBits .f32 0xFF800000#32) _ = _
    rw [bottom_bits]; exact max_bot_left _
  rw [host_rowTop, e, hostColumnOf, hostAcross]; rfl

theorem host_start (W : FVec Ideal S2048x2048 .f32) (C : Mat 2048 2048) (hW : W = weights C) :
    (Host.divf (Host.divf W (broadcastInDim S2048x2048 ![0, 1] bcast_S2048x1_S2048x2048_0_1 (broadcastInDim S2048x1 ![0] bcast_S2048_S2048x1_0
      (Host.reduceAdd W (constant S_ .f32 0x00000000#32) reducesTo_S2048x2048_S2048_d1 h_S_))))
      (broadcastInDim S2048x2048 ![] bcast_S_S2048x2048 (constant S_ .f32 0x45000000#32)) : FVec Ideal S2048x2048 .f32) = start C := by
  rw [host_rowSum, hostColumnOf, hostAcross, hW]; rfl

/-! ## The plan -/

variable (V0 : Valuation τ sig (Elt Ideal))

/-- The arguments as the reference holds them: the hidden matrices, their row sums of squares, the square matrix. -/
def refH : FVec Ideal S2x2048x128 .f32 := V0 (Proc.devRef .tc main_arg0)
def refN : FVec Ideal S2x1x2048 .f32 := V0 (Proc.devRef .tc main_arg1)
def refM : FVec Ideal S1x128x128 .f32 := V0 (Proc.devRef .tc main_arg2)
def refHid (k : Fin 2) : Mat 2048 128 := page (n := 2) (a := 2048) (b := 128) (refH V0) k
def refMat : Mat 128 128 := slab (a := 128) (b := 128) (refM V0)
def refCost : Mat 2048 2048 := cost (refHid V0 0) (refHid V0 1) (refMat V0)

theorem ref_v1 : res_main_v1 V0 = refHid V0 0 := cut_page (a := 2048) (b := 128) (refH V0) 0 _ _
theorem ref_v3 : res_main_v3 V0 = refHid V0 1 := cut_page (a := 2048) (b := 128) (refH V0) 1 _ _
theorem ref_v4 : res_main_v4 V0 = refMat V0 := squeeze_slab (a := 128) (b := 128) (refM V0) _

theorem ref_v12 : res_main_v12 V0 = refCost V0 := by
  have d1 := fun A B => dot_plain (a := 2048) (k := 128) (b := 128) (φ₁ := .f32) (φ₂ := .f32) dot_S2048x128_S128x128_S2048x128_1_0_0_1_n_n rfl none A B
  have d2 := fun A B => dot_plain (a := 2048) (k := 128) (b := 2048) (φ₁ := .f32) (φ₂ := .f32) dot_S2048x128_S128x2048_S2048x2048_1_0_0_1_n_n rfl none A B
  have t1 := transpose_flip (a := 128) (b := 128) (refMat V0) transposes_S128x128_S128x128_1_0
  have t2 := transpose_flip (a := 2048) (b := 128) (refHid V0 1) transposes_S2048x128_S128x2048_1_0
  unfold res_main_v12
  rw [ref_v1, ref_v3, ref_v4]
  erw [t1, t2, d1, d1, d2]
  rfl

theorem ref_v25 : res_main_v25 V0 = start (refCost V0) := by
  unfold res_main_v25
  refine host_start _ _ ?_
  unfold res_main_v19
  rw [ref_v12]
  exact host_weights _

theorem ref_v55 : res_main_v55 V0 = level (refCost V0) 2 := by
  have e0 : res_main_v31 V0 = level (refCost V0) 0 := by
    unfold res_main_v31; rw [ref_v25]; exact host_rows _
  have e1 : res_main_v37 V0 = colNorm (level (refCost V0) 0) := by
    unfold res_main_v37; rw [e0]; exact host_cols _
  have e2 : res_main_v43 V0 = level (refCost V0) 1 := by
    unfold res_main_v43; rw [e1]; exact host_rows _
  have e3 : res_main_v49 V0 = colNorm (level (refCost V0) 1) := by
    unfold res_main_v49; rw [e2]; exact host_cols _
  unfold res_main_v55; rw [e3]; exact host_rows _

theorem ref_v61 : res_main_v61 V0 = plan (refCost V0) := by
  unfold res_main_v61; rw [ref_v55]; exact host_cols _

/-! ## The three results -/

theorem ref_align : (Host.reduceAdd (mulf (res_main_v61 V0) (Host.sqrt (maximumf (subf (addf
      (broadcastInDim S2048x2048 ![0, 1] bcast_S2048x1_S2048x2048_0_1 (broadcastInDim S2048x1 ![0] bcast_S2048_S2048x1_0 (shapeCast _ (extractStridedSlice S1x1x2048 ![0, 0, 0] (refN V0) slices_S2x1x2048_S1x1x2048_0_0_0) shapeCasts_S1x1x2048_S2048)))
      (broadcastInDim S2048x2048 ![0, 1] bcast_S1x2048_S2048x2048_0_1 (broadcastInDim S1x2048 ![1] bcast_S2048_S1x2048_1 (shapeCast _ (extractStridedSlice S1x1x2048 ![1, 0, 0] (refN V0) slices_S2x1x2048_S1x1x2048_1_0_0) shapeCasts_S1x1x2048_S2048))))
      (mulf (broadcastInDim S2048x2048 ![] bcast_S_S2048x2048 (constant S_ .f32 0x40000000#32)) (Host.dotGeneral (φ₁ := .f32) (φ₂ := .f32) dot_S2048x128_S128x2048_S2048x2048_1_0_0_1_n_n none (res_main_v1 V0) (transpose S128x2048 [1, 0] (res_main_v3 V0) transposes_S2048x128_S128x2048_1_0))))
      (broadcastInDim S2048x2048 ![] bcast_S_S2048x2048 (constant S_ .f32 0x00000000#32))))) (constant S_ .f32 0x00000000#32) reducesTo_S2048x2048_S_d0_1 h_S_ : FVec Ideal S_ .f32)
      = fun _ => alignTotal (squares (refN V0) 0) (squares (refN V0) 1) (refHid V0 0) (refHid V0 1) (refMat V0) := by
  have c0 := cut_squares (refN V0) 0 slices_S2x1x2048_S1x1x2048_0_0_0
  have c1 := cut_squares (refN V0) 1 slices_S2x1x2048_S1x1x2048_1_0_0
  have d2 := dot_plain (a := 2048) (k := 128) (b := 2048) (φ₁ := .f32) (φ₂ := .f32) dot_S2048x128_S128x2048_S2048x2048_1_0_0_1_n_n rfl none
    (refHid V0 0) (flip (refHid V0 1))
  have t2 := transpose_flip (a := 2048) (b := 128) (refHid V0 1) transposes_S2048x128_S128x2048_1_0
  rw [host_total, ref_v61, ref_v1, ref_v3]
  erw [c0, c1, t2, d2]
  rw [hostColumnOf, hostAcross, hostRowOf, hostDown]
  rfl

theorem ref_sparse : (Host.negf (Host.reduceAdd (mulf (res_main_v61 V0) (Host.log (addf (res_main_v61 V0) (broadcastInDim S2048x2048 ![] bcast_S_S2048x2048 (constant S_ .f32 0x2EDBE6FF#32)))))
      (constant S_ .f32 0x00000000#32) reducesTo_S2048x2048_S_d0_1 h_S_) : FVec Ideal S_ .f32)
      = fun _ => sparseTotal (refHid V0 0) (refHid V0 1) (refMat V0) := by
  rw [host_total, ref_v61]
  rfl

theorem ref_margin (hH : ∀ k, AllReal (refHid V0 k)) (hM : AllReal (refMat V0)) :
    (mulf (subf (Host.divf (Host.reduceAdd (mulf (res_main_v85 V0) (subf (Host.log (addf (res_main_v85 V0) (broadcastInDim S2048 ![] bcast_S_S2048 (constant S_ .f32 0x2B8CBCCC#32)))) (res_main_v83 V0)))
        (constant S_ .f32 0x00000000#32) reducesTo_S2048_S_d0 h_S_) (constant S_ .f32 0x45000000#32))
      (Host.divf (Host.reduceAdd (mulf (res_main_v83 V0) (subf (Host.log (addf (res_main_v83 V0) (broadcastInDim S2048 ![] bcast_S_S2048 (constant S_ .f32 0x2B8CBCCC#32)))) (res_main_v83 V0)))
        (constant S_ .f32 0x00000000#32) reducesTo_S2048_S_d0 h_S_) (constant S_ .f32 0x45000000#32))) (constant S_ .f32 0x45000000#32) : FVec Ideal S_ .f32)
      = fun _ => marginTotal (refHid V0 0) (refHid V0 1) (refMat V0) := by
  have e83 : res_main_v83 V0 = fun _ : S2048.Idx => Ideal.div one nodes := rfl
  have e85 : res_main_v85 V0 = fun j : S2048.Idx => mass (colSum (level (refCost V0) 2) (j 0)) := by
    unfold res_main_v85
    rw [ref_v61, host_ones]
    exact funext fun j => colSum_colNorm (level_nonneg (cost_real (hH 0) (hH 1) hM) 2) _
  rw [host_vectorTotal, host_vectorTotal, e83, e85]
  funext j
  show (Ideal.div (∑ k : Fin 2048, excess (Ideal.div one nodes) (mass (colSum (level (refCost V0) 2) k))) nodes
    - Ideal.div (∑ _k : Fin 2048, excess (Ideal.div one nodes) (Ideal.div one nodes)) nodes) * nodes = _
  rw [mean_const excess_real]
  rfl

/-- What the reference returns. -/
def referenceAnswer : Vec Ideal S3 .f32 := sinkAnswer (refH V0) (refN V0) (refM V0)

theorem reference_value (hH : ∀ k, AllReal (refHid V0 k)) (hM : AllReal (refMat V0)) :
    (concatenate S3 0 [⟨S1, ((broadcastInDim S1 ![] bcast_S_S1 (Host.reduceAdd (mulf (res_main_v61 V0) (Host.sqrt (maximumf (subf (addf (broadcastInDim S2048x2048 ![0, 1] bcast_S2048x1_S2048x2048_0_1 (broadcastInDim S2048x1 ![0] bcast_S2048_S2048x1_0 (shapeCast _ (extractStridedSlice S1x1x2048 ![0, 0, 0] (V0 (Proc.devRef .tc main_arg1)) slices_S2x1x2048_S1x1x2048_0_0_0) shapeCasts_S1x1x2048_S2048))) (broadcastInDim S2048x2048 ![0, 1] bcast_S1x2048_S2048x2048_0_1 (broadcastInDim S1x2048 ![1] bcast_S2048_S1x2048_1 (shapeCast _ (extractStridedSlice S1x1x2048 ![1, 0, 0] (V0 (Proc.devRef .tc main_arg1)) slices_S2x1x2048_S1x1x2048_1_0_0) shapeCasts_S1x1x2048_S2048)))) (mulf (broadcastInDim S2048x2048 ![] bcast_S_S2048x2048 (constant S_ .f32 0x40000000#32)) (Host.dotGeneral (φ₁ := .f32) (φ₂ := .f32) dot_S2048x128_S128x2048_S2048x2048_1_0_0_1_n_n none (res_main_v1 V0) (transpose S128x2048 [1, 0] (res_main_v3 V0) transposes_S2048x128_S128x2048_1_0)))) (broadcastInDim S2048x2048 ![] bcast_S_S2048x2048 (constant S_ .f32 0x00000000#32))))) (constant S_ .f32 0x00000000#32) reducesTo_S2048x2048_S_d0_1 h_S_)) : (⟨S1, .f32⟩ : BufTy).Contents (Elt Ideal))⟩,
      ⟨S1, ((broadcastInDim S1 ![] bcast_S_S1 (mulf (subf (Host.divf (Host.reduceAdd (mulf (res_main_v85 V0) (subf (Host.log (addf (res_main_v85 V0) (broadcastInDim S2048 ![] bcast_S_S2048 (constant S_ .f32 0x2B8CBCCC#32)))) (res_main_v83 V0))) (constant S_ .f32 0x00000000#32) reducesTo_S2048_S_d0 h_S_) (constant S_ .f32 0x45000000#32)) (Host.divf (Host.reduceAdd (mulf (res_main_v83 V0) (subf (Host.log (addf (res_main_v83 V0) (broadcastInDim S2048 ![] bcast_S_S2048 (constant S_ .f32 0x2B8CBCCC#32)))) (res_main_v83 V0))) (constant S_ .f32 0x00000000#32) reducesTo_S2048_S_d0 h_S_) (constant S_ .f32 0x45000000#32))) (constant S_ .f32 0x45000000#32))) : (⟨S1, .f32⟩ : BufTy).Contents (Elt Ideal))⟩,
      ⟨S1, ((broadcastInDim S1 ![] bcast_S_S1 (Host.negf (Host.reduceAdd (mulf (res_main_v61 V0) (Host.log (addf (res_main_v61 V0) (broadcastInDim S2048x2048 ![] bcast_S_S2048x2048 (constant S_ .f32 0x2EDBE6FF#32))))) (constant S_ .f32 0x00000000#32) reducesTo_S2048x2048_S_d0_1 h_S_))) : (⟨S1, .f32⟩ : BufTy).Contents (Elt Ideal))⟩]
      concatenates_S1_S1_S1_S3_d0 : FVec Ideal S3 .f32) = referenceAnswer V0 :=
  three_of _ _ _ _ _ _ (congrArg (broadcastInDim S1 ![] bcast_S_S1) (ref_align V0))
    (congrArg (broadcastInDim S1 ![] bcast_S_S1) (ref_margin V0 hH hM)) (congrArg (broadcastInDim S1 ![] bcast_S_S1) (ref_sparse V0))

end Cert.Sink

end
-- ==== Proof.SinkPre.lean ====
/-
  What the assumption on the third program's inputs says: both hidden matrices and the square matrix are real.
-/
module

public import proofs.«01_k».proof.Pre_sink_inputs
public import proofs.«01_k».proof.Proof.EncodePre

@[expose] public section

set_option maxRecDepth 16384

noncomputable section

namespace Cert.Sink

open Idealize.ShloMosaic hiding ix0 ix1 ix2 ix3 eq_ix1 eq_ix2 eq_ix3
open Idealize.ShloMosaic.ValueIdx Cert.Align Cert.Encode Cert.Pre_sink_inputs
open scoped BigOperators

/-- The side conditions of the assumption's operations. -/
theorem pre_facts : Cert.Pre_sink_inputs.Facts where
  bcast_S_S2x2048x128 := by decide
  reducesTo_S2x2048x128_S_d0_1_2 := by decide
  h_S_ := by decide
  bcast_S_S1x128x128 := by decide
  reducesTo_S1x128x128_S_d0_1_2 := by decide

theorem pre_split [hPre : Cert.Pre_sink_inputs.Facts] (H : FVec Ideal S2x2048x128 .f32) (n : FVec Ideal S2x1x2048 .f32)
    (M : FVec Ideal S1x128x128 .f32) (h : fn H n M = fun _ => 1#1) :
    (∀ k, AllReal (page (n := 2) (a := 2048) (b := 128) H k)) ∧ AllReal (slab (a := 128) (b := 128) M) := by
  have h0 := congrFun h ix0
  dsimp only [fn] at h0
  obtain ⟨hH, hM⟩ := (IntOp.andi_eq_one).mp h0
  exact ⟨real_of_test H _ _ _ _ hH, fun i => real_of_bit _ (Host.reduce_andi_all _ _ _ _ _ hM (ix3 0 (i 0) (i 1)))⟩

end Cert.Sink

end
-- ==== Proof.SinkSame.lean ====
/-
  The transport call's program over the machine's bits and the one read over the extended reals are one text, so what
  the second does to its arguments, proved over any arithmetic, the first does too.
-/
module

public import proofs.«01_k».proof.Proof.Gen.Kernel3.Skeleton
public import proofs.«01_k».proof.Proof.Kernel3Ideal.Run
public import Idealize.ShloMosaic.PureOps.BitExact

@[expose] public section

set_option maxRecDepth 65536
set_option maxHeartbeats 4000000

noncomputable section

namespace Cert.Kernel3.Same

open Idealize.ShloMosaic Idealize.ShloMosaic.TcCoe Idealize.SL.Sem

variable (F : FTy → Type) [FloatOps F]

theorem body_same : Cert.Kernel3.cc0__sink_body (F := F) = Cert.Kernel3Ideal.cc0__sink_body (F := F) := rfl

theorem bodies_same : Cert.Kernel3.defs₀ (F := F) = Cert.Kernel3Ideal.defs₀ (F := F) := by
  unfold Cert.Kernel3.defs₀ Cert.Kernel3Ideal.defs₀
  refine congrArg Defs.onTc (funext fun l => funext fun x => ?_)
  match l with
  | ⟨0, _⟩ => obtain ⟨t, s⟩ := x; rfl
  | ⟨_ + 1, h⟩ => exact absurd h (Nat.not_lt.2 (Nat.le_add_left _ _))

theorem calls_same : Cert.Kernel3.pcfgs (F := F) = Cert.Kernel3Ideal.pcfgs (F := F) := rfl

theorem defs_same : Cert.Kernel3.defs (F := F) = Cert.Kernel3Ideal.defs (F := F) := by
  unfold Cert.Kernel3.defs Cert.Kernel3Ideal.defs
  exact congrArg (Pipeline.defs (Cert.Kernel3.pcfgs (F := F))) (bodies_same F)

theorem main_same : Cert.Kernel3.main (F := F) = Cert.Kernel3Ideal.main (F := F) := rfl

/-- The program over the machine's bits ends with its arguments as launched and every counter at zero. -/
theorem frame (m : (ℓ : Loc Cert.Kernel3.nD Cert.Kernel3.τ Cert.Kernel3.sig) → Buf (Elt Bits) ℓ) (ρ : Dev Cert.Kernel3.nD → PrngReg) :
    θ_run (Cert.Kernel3.defs (F := Bits)) (onTc (τ := Cert.Kernel3.τ) (Cert.Kernel3.main (F := Bits))) ⟨m, fun _ => 0, ρ⟩
      (fun r => (∀ c : Dev Cert.Kernel3.nD,
          r.2.mem ((c.tc : Thread Cert.Kernel3.nD Cert.Kernel3.τ).loc Cert.Kernel3.main_arg0) = m ((c.tc : Thread Cert.Kernel3.nD Cert.Kernel3.τ).loc Cert.Kernel3.main_arg0)
          ∧ r.2.mem ((c.tc : Thread Cert.Kernel3.nD Cert.Kernel3.τ).loc Cert.Kernel3.main_arg1) = m ((c.tc : Thread Cert.Kernel3.nD Cert.Kernel3.τ).loc Cert.Kernel3.main_arg1)
          ∧ r.2.mem ((c.tc : Thread Cert.Kernel3.nD Cert.Kernel3.τ).loc Cert.Kernel3.main_arg2) = m ((c.tc : Thread Cert.Kernel3.nD Cert.Kernel3.τ).loc Cert.Kernel3.main_arg2))
        ∧ r.2.sem = fun _ => 0) := by
  rw [defs_same, main_same]
  exact Cert.Kernel3Ideal.Sink.frame (F := Bits) m ρ

end Cert.Kernel3.Same

end
-- ==== Proof.lean ====
/-
  The certificate. All three kernels' and all three references' executions end with their arguments as launched and every
  counter at zero. Over the extended reals the first kernel's two losses are its reference's; the second kernel's two losses
  are its reference's wherever the second program's matrices are real and its row numbers are in range; and the third
  kernel's three losses are its reference's wherever the third program's matrices are real.
-/
module

public import proofs.«01_k».proof.Proof.RefValue
public import proofs.«01_k».proof.Proof.EncodeRefValue
public import proofs.«01_k».proof.Proof.EncodePre
public import proofs.«01_k».proof.Proof.EncodeSame
public import proofs.«01_k».proof.Proof.Kernel2Ideal.Run
public import proofs.«01_k».proof.Proof.SinkRef
public import proofs.«01_k».proof.Proof.SinkPre
public import proofs.«01_k».proof.Proof.SinkSame
public import proofs.«01_k».proof.Proof.Kernel3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- The reference's run: its result is the two losses, its arguments stay, and it declares no counter. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over the extended reals the kernel's two losses are the reference's. -/
theorem same_losses : Cert.algebraic_KernelIdeal_ReferenceIdeal := by
  intro m ρ m' ρ' _ same
  refine ⟨fun c => Cert.Align.answer _ _ _ _, (θ_run Cert.KernelIdeal.defs _ _).mono
    (fun r h c => ⟨(h c).1.trans (Cert.Align.kernel_result m ρ c), (h c).2⟩) (Cert.Align.kernel_run (F := Ideal) m ρ),
    (θ_run Cert.ReferenceIdeal.defs _ _).mono (fun r h c => ⟨((h c).1.trans (Cert.Align.reference_result m' c)).trans ?_, (h c).2⟩)
      (Cert.ReferenceIdeal.Value.run (F := Ideal) m' ρ')⟩
  obtain ⟨h0, h1, h2, h3⟩ := same c
  rw [h0, h1, h2, h3]

/-- The second reference's run. -/
theorem reference2_frame : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The same under the assumption on the inputs. -/
theorem reference2_frame_pre : Cert.quiescent_Reference2Ideal_pre_encode_inputs (hPre_encode_inputs := Cert.Encode.pre_facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- Over the extended reals the second kernel's two losses are its reference's. -/
theorem same_encoder_losses :
    Cert.algebraic_Kernel2Ideal_Reference2Ideal_pre_encode_inputs (hPre_encode_inputs := Cert.Encode.pre_facts) := by
  intro m ρ m' ρ' pre same
  have split := fun c => Cert.Encode.pre_split (hPre := Cert.Encode.pre_facts) _ _ _ _ _ _ _ _ _ (pre c)
  have run1 := Cert.Kernel2Ideal.Enc.result (F := Ideal) m ρ
  have run2 := Cert.Reference2Ideal.Value.run (F := Ideal) m' ρ'
  have value2 : ∀ c, _ := fun c => Cert.Encode.reference_value (StableHlo.launchContents m' c)
  refine ⟨fun c => Cert.Encode.kernelAnswer m c, (θ_run Cert.Kernel2Ideal.defs _ _).mono
    (fun r h c => ⟨(h c).1.trans (Cert.Encode.kernel_value m ρ c (split c).1), (h c).2⟩) run1,
    (θ_run Cert.Reference2Ideal.defs _ _).mono (fun r h c => ⟨(h c).1.trans ?_, (h c).2⟩) run2⟩
  obtain ⟨h0, h1, h2, h3, h4, h5, h6, h7, h8⟩ := same c
  obtain ⟨hp, hX, hA, hE, hD⟩ := split c
  have e0 : Cert.Encode.argX (StableHlo.launchContents m' c) = _ := h0
  have e1 : Cert.Encode.argA (StableHlo.launchContents m' c) = _ := h1
  have e2 : Cert.Encode.argG (StableHlo.launchContents m' c) = _ := h2
  have e3 : Cert.Encode.argT (StableHlo.launchContents m' c) = _ := h3
  have e4 : Cert.Encode.argE (StableHlo.launchContents m' c) = _ := h4
  have e5 : Cert.Encode.argD (StableHlo.launchContents m' c) = _ := h5
  have e6 : Cert.Encode.argW (StableHlo.launchContents m' c) = _ := h6
  have e7 : Cert.Encode.argB (StableHlo.launchContents m' c) = _ := h7
  have e8 : Cert.Encode.argP (StableHlo.launchContents m' c) = _ := h8
  refine (value2 c (e8 ▸ hp) (e0 ▸ hX) (e1 ▸ hA) (e4 ▸ hE) (e5 ▸ hD)).trans ?_
  unfold Cert.Encode.referenceAnswer
  rw [e0, e1, e2, e3, e4, e5, e6, e7, e8]
  rfl

/-- The third reference's run. -/
theorem reference3_frame : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

/-- The same under the assumption on the inputs. -/
theorem reference3_frame_pre : Cert.quiescent_Reference3Ideal_pre_sink_inputs (hPre_sink_inputs := Cert.Sink.pre_facts) := fun m ρ _ =>
  (θ_run Cert.Reference3Ideal.defs _ _).mono
    (fun r h => ⟨fun c => (h c).2, sem_eq_zero_of_no_sems (by decide) r.2⟩) (Cert.Reference3Ideal.Value.run (F := Ideal) m ρ)

/-- Over the extended reals the third kernel's three losses are its reference's. -/
theorem same_sink_losses :
    Cert.algebraic_Kernel3Ideal_Reference3Ideal_pre_sink_inputs (hPre_sink_inputs := Cert.Sink.pre_facts) := by
  intro m ρ m' ρ' pre same
  have split := fun c => Cert.Sink.pre_split (hPre := Cert.Sink.pre_facts) _ _ _ (pre c)
  have run1 := Cert.Kernel3Ideal.Sink.result (F := Ideal) m ρ
  have run2 := Cert.Reference3Ideal.Value.run (F := Ideal) m' ρ'
  have value2 : ∀ c, _ := fun c => Cert.Sink.reference_value (StableHlo.launchContents m' c)
  refine ⟨fun c => Cert.Sink.kernelAnswer c m, (θ_run Cert.Kernel3Ideal.defs _ _).mono
    (fun r h c => ⟨(h c).1.trans (Cert.Sink.kernel_value c m ρ (split c).1 (split c).2), (h c).2⟩) run1,
    (θ_run Cert.Reference3Ideal.defs _ _).mono (fun r h c => ⟨(h c).1.trans ?_, (h c).2⟩) run2⟩
  obtain ⟨h0, h1, h2⟩ := same c
  obtain ⟨hH, hM⟩ := split c
  have e0 : Cert.Sink.refH (StableHlo.launchContents m' c) = _ := h0
  have e1 : Cert.Sink.refN (StableHlo.launchContents m' c) = _ := h1
  have e2 : Cert.Sink.refM (StableHlo.launchContents m' c) = _ := h2
  refine (value2 c (by unfold Cert.Sink.refHid; rw [e0]; exact hH) (by unfold Cert.Sink.refMat; rw [e2]; exact hM)).trans ?_
  unfold Cert.Sink.referenceAnswer
  rw [e0, e1, e2]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Encode.pre_facts, Cert.Sink.pre_facts,
    fun m ρ _ => Cert.Kernel.Gen.frame m ρ, fun m ρ _ => Cert.KernelIdeal.Gen.frame m ρ, reference_frame,
    fun m ρ _ => Cert.Kernel2.Same.frame m ρ, fun m ρ _ => Cert.Kernel2Ideal.Enc.frame m ρ, fun m ρ _ => Cert.Kernel2Ideal.Enc.frame m ρ,
    reference2_frame, reference2_frame_pre,
    fun m ρ _ => Cert.Kernel3.Same.frame m ρ, fun m ρ _ => Cert.Kernel3Ideal.Sink.frame m ρ, fun m ρ _ => Cert.Kernel3Ideal.Sink.frame m ρ,
    reference3_frame, reference3_frame_pre,
    trivial, same_losses, trivial, same_encoder_losses, trivial, same_sink_losses⟩

end Cert.Proof

end
